-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_std_nonzero_mean_finite [hPre_std_nonzero_mean_finite : Cert.Pre_std_nonzero_mean_finite.Facts] (m : (ℓ : Loc Cert.KernelIdeal.nD Cert.KernelIdeal.τ Cert.KernelIdeal.sig) → Buf (Elt Ideal) ℓ) : Prop :=
  ∀ c : Dev Cert.KernelIdeal.nD,
    (Cert.Pre_std_nonzero_mean_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_std_nonzero_mean_finite [hPre_std_nonzero_mean_finite : Cert.Pre_std_nonzero_mean_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_std_nonzero_mean_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Manual (m : (ℓ : Loc Cert.Manual.nD Cert.Manual.τ Cert.Manual.sig) → Buf (Elt Bits) ℓ) : Prop :=
  True

def Pre_ManualIdeal (m : (ℓ : Loc Cert.ManualIdeal.nD Cert.ManualIdeal.τ Cert.ManualIdeal.sig) → Buf (Elt Ideal) ℓ) : Prop :=
  True

def Pre_ManualIdeal_std_nonzero_mean_finite [hPre_std_nonzero_mean_finite : Cert.Pre_std_nonzero_mean_finite.Facts] (m : (ℓ : Loc Cert.ManualIdeal.nD Cert.ManualIdeal.τ Cert.ManualIdeal.sig) → Buf (Elt Ideal) ℓ) : Prop :=
  ∀ c : Dev Cert.ManualIdeal.nD,
    (Cert.Pre_std_nonzero_mean_finite.fn (F := Ideal) (m ((c.tc : Thread Cert.ManualIdeal.nD Cert.ManualIdeal.τ).loc Cert.ManualIdeal.main_arg0)) (m ((c.tc : Thread Cert.ManualIdeal.nD Cert.ManualIdeal.τ).loc Cert.ManualIdeal.main_arg1)) (m ((c.tc : Thread Cert.ManualIdeal.nD Cert.ManualIdeal.τ).loc Cert.ManualIdeal.main_arg2))) = (fun _ => 1#1)

def Pre_Blocks (m : (ℓ : Loc Cert.Blocks.nD Cert.Blocks.τ Cert.Blocks.sig) → Buf (Elt Bits) ℓ) : Prop :=
  True

def Pre_BlocksIdeal (m : (ℓ : Loc Cert.BlocksIdeal.nD Cert.BlocksIdeal.τ Cert.BlocksIdeal.sig) → Buf (Elt Ideal) ℓ) : Prop :=
  True

def Pre_BlocksIdeal_std_nonzero_mean_finite [hPre_std_nonzero_mean_finite : Cert.Pre_std_nonzero_mean_finite.Facts] (m : (ℓ : Loc Cert.BlocksIdeal.nD Cert.BlocksIdeal.τ Cert.BlocksIdeal.sig) → Buf (Elt Ideal) ℓ) : Prop :=
  ∀ c : Dev Cert.BlocksIdeal.nD,
    (Cert.Pre_std_nonzero_mean_finite.fn (F := Ideal) (m ((c.tc : Thread Cert.BlocksIdeal.nD Cert.BlocksIdeal.τ).loc Cert.BlocksIdeal.main_arg0)) (m ((c.tc : Thread Cert.BlocksIdeal.nD Cert.BlocksIdeal.τ).loc Cert.BlocksIdeal.main_arg1)) (m ((c.tc : Thread Cert.BlocksIdeal.nD Cert.BlocksIdeal.τ).loc Cert.BlocksIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_std_nonzero_mean_finite [hKernelIdeal : Cert.KernelIdeal.Facts] [hPre_std_nonzero_mean_finite : Cert.Pre_std_nonzero_mean_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_std_nonzero_mean_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_std_nonzero_mean_finite [hReferenceIdeal : Cert.ReferenceIdeal.Facts] [hPre_std_nonzero_mean_finite : Cert.Pre_std_nonzero_mean_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_std_nonzero_mean_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Manual [hManual : Cert.Manual.Facts] : Prop :=
  ∀ (m : (ℓ : Loc Cert.Manual.nD Cert.Manual.τ Cert.Manual.sig) → Buf (Elt Bits) ℓ) (g : Dev Cert.Manual.nD → PrngReg), Pre_Manual m →
    θ_run (Cert.Manual.defs (F := Bits)) (onTc (τ := Cert.Manual.τ) (Cert.Manual.main (F := Bits))) ⟨m, fun _ => 0, g⟩ (fun r => (∀ c : Dev Cert.Manual.nD,
      r.2.mem ((c.tc : Thread Cert.Manual.nD Cert.Manual.τ).loc Cert.Manual.main_arg0) = m ((c.tc : Thread Cert.Manual.nD Cert.Manual.τ).loc Cert.Manual.main_arg0)
      ∧ r.2.mem ((c.tc : Thread Cert.Manual.nD Cert.Manual.τ).loc Cert.Manual.main_arg1) = m ((c.tc : Thread Cert.Manual.nD Cert.Manual.τ).loc Cert.Manual.main_arg1)
      ∧ r.2.mem ((c.tc : Thread Cert.Manual.nD Cert.Manual.τ).loc Cert.Manual.main_arg2) = m ((c.tc : Thread Cert.Manual.nD Cert.Manual.τ).loc Cert.Manual.main_arg2))
      ∧ r.2.sem = fun _ => 0)

def quiescent_ManualIdeal [hManualIdeal : Cert.ManualIdeal.Facts] : Prop :=
  ∀ (m : (ℓ : Loc Cert.ManualIdeal.nD Cert.ManualIdeal.τ Cert.ManualIdeal.sig) → Buf (Elt Ideal) ℓ) (g : Dev Cert.ManualIdeal.nD → PrngReg), Pre_ManualIdeal m →
    θ_run (Cert.ManualIdeal.defs (F := Ideal)) (onTc (τ := Cert.ManualIdeal.τ) (Cert.ManualIdeal.main (F := Ideal))) ⟨m, fun _ => 0, g⟩ (fun r => (∀ c : Dev Cert.ManualIdeal.nD,
      r.2.mem ((c.tc : Thread Cert.ManualIdeal.nD Cert.ManualIdeal.τ).loc Cert.ManualIdeal.main_arg0) = m ((c.tc : Thread Cert.ManualIdeal.nD Cert.ManualIdeal.τ).loc Cert.ManualIdeal.main_arg0)
      ∧ r.2.mem ((c.tc : Thread Cert.ManualIdeal.nD Cert.ManualIdeal.τ).loc Cert.ManualIdeal.main_arg1) = m ((c.tc : Thread Cert.ManualIdeal.nD Cert.ManualIdeal.τ).loc Cert.ManualIdeal.main_arg1)
      ∧ r.2.mem ((c.tc : Thread Cert.ManualIdeal.nD Cert.ManualIdeal.τ).loc Cert.ManualIdeal.main_arg2) = m ((c.tc : Thread Cert.ManualIdeal.nD Cert.ManualIdeal.τ).loc Cert.ManualIdeal.main_arg2))
      ∧ r.2.sem = fun _ => 0)

def quiescent_ManualIdeal_pre_std_nonzero_mean_finite [hManualIdeal : Cert.ManualIdeal.Facts] [hPre_std_nonzero_mean_finite : Cert.Pre_std_nonzero_mean_finite.Facts] : Prop :=
  ∀ (m : (ℓ : Loc Cert.ManualIdeal.nD Cert.ManualIdeal.τ Cert.ManualIdeal.sig) → Buf (Elt Ideal) ℓ) (g : Dev Cert.ManualIdeal.nD → PrngReg), Pre_ManualIdeal_std_nonzero_mean_finite m →
    θ_run (Cert.ManualIdeal.defs (F := Ideal)) (onTc (τ := Cert.ManualIdeal.τ) (Cert.ManualIdeal.main (F := Ideal))) ⟨m, fun _ => 0, g⟩ (fun r => (∀ c : Dev Cert.ManualIdeal.nD,
      r.2.mem ((c.tc : Thread Cert.ManualIdeal.nD Cert.ManualIdeal.τ).loc Cert.ManualIdeal.main_arg0) = m ((c.tc : Thread Cert.ManualIdeal.nD Cert.ManualIdeal.τ).loc Cert.ManualIdeal.main_arg0)
      ∧ r.2.mem ((c.tc : Thread Cert.ManualIdeal.nD Cert.ManualIdeal.τ).loc Cert.ManualIdeal.main_arg1) = m ((c.tc : Thread Cert.ManualIdeal.nD Cert.ManualIdeal.τ).loc Cert.ManualIdeal.main_arg1)
      ∧ r.2.mem ((c.tc : Thread Cert.ManualIdeal.nD Cert.ManualIdeal.τ).loc Cert.ManualIdeal.main_arg2) = m ((c.tc : Thread Cert.ManualIdeal.nD Cert.ManualIdeal.τ).loc Cert.ManualIdeal.main_arg2))
      ∧ r.2.sem = fun _ => 0)

def quiescent_Blocks [hBlocks : Cert.Blocks.Facts] : Prop :=
  ∀ (m : (ℓ : Loc Cert.Blocks.nD Cert.Blocks.τ Cert.Blocks.sig) → Buf (Elt Bits) ℓ) (g : Dev Cert.Blocks.nD → PrngReg), Pre_Blocks m →
    θ_run (Cert.Blocks.defs (F := Bits)) (onTc (τ := Cert.Blocks.τ) (Cert.Blocks.main (F := Bits))) ⟨m, fun _ => 0, g⟩ (fun r => (∀ c : Dev Cert.Blocks.nD,
      r.2.mem ((c.tc : Thread Cert.Blocks.nD Cert.Blocks.τ).loc Cert.Blocks.main_arg0) = m ((c.tc : Thread Cert.Blocks.nD Cert.Blocks.τ).loc Cert.Blocks.main_arg0)
      ∧ r.2.mem ((c.tc : Thread Cert.Blocks.nD Cert.Blocks.τ).loc Cert.Blocks.main_arg1) = m ((c.tc : Thread Cert.Blocks.nD Cert.Blocks.τ).loc Cert.Blocks.main_arg1)
      ∧ r.2.mem ((c.tc : Thread Cert.Blocks.nD Cert.Blocks.τ).loc Cert.Blocks.main_arg2) = m ((c.tc : Thread Cert.Blocks.nD Cert.Blocks.τ).loc Cert.Blocks.main_arg2))
      ∧ r.2.sem = fun _ => 0)

def quiescent_BlocksIdeal [hBlocksIdeal : Cert.BlocksIdeal.Facts] : Prop :=
  ∀ (m : (ℓ : Loc Cert.BlocksIdeal.nD Cert.BlocksIdeal.τ Cert.BlocksIdeal.sig) → Buf (Elt Ideal) ℓ) (g : Dev Cert.BlocksIdeal.nD → PrngReg), Pre_BlocksIdeal m →
    θ_run (Cert.BlocksIdeal.defs (F := Ideal)) (onTc (τ := Cert.BlocksIdeal.τ) (Cert.BlocksIdeal.main (F := Ideal))) ⟨m, fun _ => 0, g⟩ (fun r => (∀ c : Dev Cert.BlocksIdeal.nD,
      r.2.mem ((c.tc : Thread Cert.BlocksIdeal.nD Cert.BlocksIdeal.τ).loc Cert.BlocksIdeal.main_arg0) = m ((c.tc : Thread Cert.BlocksIdeal.nD Cert.BlocksIdeal.τ).loc Cert.BlocksIdeal.main_arg0)
      ∧ r.2.mem ((c.tc : Thread Cert.BlocksIdeal.nD Cert.BlocksIdeal.τ).loc Cert.BlocksIdeal.main_arg1) = m ((c.tc : Thread Cert.BlocksIdeal.nD Cert.BlocksIdeal.τ).loc Cert.BlocksIdeal.main_arg1)
      ∧ r.2.mem ((c.tc : Thread Cert.BlocksIdeal.nD Cert.BlocksIdeal.τ).loc Cert.BlocksIdeal.main_arg2) = m ((c.tc : Thread Cert.BlocksIdeal.nD Cert.BlocksIdeal.τ).loc Cert.BlocksIdeal.main_arg2))
      ∧ r.2.sem = fun _ => 0)

def quiescent_BlocksIdeal_pre_std_nonzero_mean_finite [hBlocksIdeal : Cert.BlocksIdeal.Facts] [hPre_std_nonzero_mean_finite : Cert.Pre_std_nonzero_mean_finite.Facts] : Prop :=
  ∀ (m : (ℓ : Loc Cert.BlocksIdeal.nD Cert.BlocksIdeal.τ Cert.BlocksIdeal.sig) → Buf (Elt Ideal) ℓ) (g : Dev Cert.BlocksIdeal.nD → PrngReg), Pre_BlocksIdeal_std_nonzero_mean_finite m →
    θ_run (Cert.BlocksIdeal.defs (F := Ideal)) (onTc (τ := Cert.BlocksIdeal.τ) (Cert.BlocksIdeal.main (F := Ideal))) ⟨m, fun _ => 0, g⟩ (fun r => (∀ c : Dev Cert.BlocksIdeal.nD,
      r.2.mem ((c.tc : Thread Cert.BlocksIdeal.nD Cert.BlocksIdeal.τ).loc Cert.BlocksIdeal.main_arg0) = m ((c.tc : Thread Cert.BlocksIdeal.nD Cert.BlocksIdeal.τ).loc Cert.BlocksIdeal.main_arg0)
      ∧ r.2.mem ((c.tc : Thread Cert.BlocksIdeal.nD Cert.BlocksIdeal.τ).loc Cert.BlocksIdeal.main_arg1) = m ((c.tc : Thread Cert.BlocksIdeal.nD Cert.BlocksIdeal.τ).loc Cert.BlocksIdeal.main_arg1)
      ∧ r.2.mem ((c.tc : Thread Cert.BlocksIdeal.nD Cert.BlocksIdeal.τ).loc Cert.BlocksIdeal.main_arg2) = m ((c.tc : Thread Cert.BlocksIdeal.nD Cert.BlocksIdeal.τ).loc Cert.BlocksIdeal.main_arg2))
      ∧ r.2.sem = fun _ => 0)

def preserves_Kernel_KernelIdeal : Prop :=
  True

def algebraic_KernelIdeal_ReferenceIdeal_pre_std_nonzero_mean_finite [hKernelIdeal : Cert.KernelIdeal.Facts] [hReferenceIdeal : Cert.ReferenceIdeal.Facts] [hPre_std_nonzero_mean_finite : Cert.Pre_std_nonzero_mean_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_std_nonzero_mean_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Manual_ManualIdeal : Prop :=
  True

def algebraic_ManualIdeal_ReferenceIdeal_pre_std_nonzero_mean_finite [hManualIdeal : Cert.ManualIdeal.Facts] [hReferenceIdeal : Cert.ReferenceIdeal.Facts] [hPre_std_nonzero_mean_finite : Cert.Pre_std_nonzero_mean_finite.Facts] : Prop :=
  ∀ (m : (ℓ : Loc Cert.ManualIdeal.nD Cert.ManualIdeal.τ Cert.ManualIdeal.sig) → Buf (Elt Ideal) ℓ) (g : Dev Cert.ManualIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_ManualIdeal_std_nonzero_mean_finite m →
    (∀ c : Dev Cert.ManualIdeal.nD,
      m' ((c.tc : Thread Cert.ReferenceIdeal.nD Cert.ReferenceIdeal.τ).loc Cert.ReferenceIdeal.main_arg0) = m ((c.tc : Thread Cert.ManualIdeal.nD Cert.ManualIdeal.τ).loc Cert.ManualIdeal.main_arg0)
      ∧ m' ((c.tc : Thread Cert.ReferenceIdeal.nD Cert.ReferenceIdeal.τ).loc Cert.ReferenceIdeal.main_arg1) = m ((c.tc : Thread Cert.ManualIdeal.nD Cert.ManualIdeal.τ).loc Cert.ManualIdeal.main_arg1)
      ∧ m' ((c.tc : Thread Cert.ReferenceIdeal.nD Cert.ReferenceIdeal.τ).loc Cert.ReferenceIdeal.main_arg2) = m ((c.tc : Thread Cert.ManualIdeal.nD Cert.ManualIdeal.τ).loc Cert.ManualIdeal.main_arg2)) →
    ∃ (v0 : (c : Dev Cert.ManualIdeal.nD) → Buf (Elt Ideal) ((c.tc : Thread Cert.ManualIdeal.nD Cert.ManualIdeal.τ).loc Cert.ManualIdeal.main_v6)),
      θ_run (Cert.ManualIdeal.defs (F := Ideal)) (onTc (τ := Cert.ManualIdeal.τ) (Cert.ManualIdeal.main (F := Ideal))) ⟨m, fun _ => 0, g⟩ (fun r => ∀ c : Dev Cert.ManualIdeal.nD,
          r.2.mem ((c.tc : Thread Cert.ManualIdeal.nD Cert.ManualIdeal.τ).loc Cert.ManualIdeal.main_v6) = v0 c
          ∧ r.2.mem ((c.tc : Thread Cert.ManualIdeal.nD Cert.ManualIdeal.τ).loc Cert.ManualIdeal.main_arg0) = m ((c.tc : Thread Cert.ManualIdeal.nD Cert.ManualIdeal.τ).loc Cert.ManualIdeal.main_arg0)
          ∧ r.2.mem ((c.tc : Thread Cert.ManualIdeal.nD Cert.ManualIdeal.τ).loc Cert.ManualIdeal.main_arg1) = m ((c.tc : Thread Cert.ManualIdeal.nD Cert.ManualIdeal.τ).loc Cert.ManualIdeal.main_arg1)
          ∧ r.2.mem ((c.tc : Thread Cert.ManualIdeal.nD Cert.ManualIdeal.τ).loc Cert.ManualIdeal.main_arg2) = m ((c.tc : Thread Cert.ManualIdeal.nD Cert.ManualIdeal.τ).loc Cert.ManualIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Blocks_BlocksIdeal : Prop :=
  True

def algebraic_BlocksIdeal_ReferenceIdeal_pre_std_nonzero_mean_finite [hBlocksIdeal : Cert.BlocksIdeal.Facts] [hReferenceIdeal : Cert.ReferenceIdeal.Facts] [hPre_std_nonzero_mean_finite : Cert.Pre_std_nonzero_mean_finite.Facts] : Prop :=
  ∀ (m : (ℓ : Loc Cert.BlocksIdeal.nD Cert.BlocksIdeal.τ Cert.BlocksIdeal.sig) → Buf (Elt Ideal) ℓ) (g : Dev Cert.BlocksIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_BlocksIdeal_std_nonzero_mean_finite m →
    (∀ c : Dev Cert.BlocksIdeal.nD,
      m' ((c.tc : Thread Cert.ReferenceIdeal.nD Cert.ReferenceIdeal.τ).loc Cert.ReferenceIdeal.main_arg0) = m ((c.tc : Thread Cert.BlocksIdeal.nD Cert.BlocksIdeal.τ).loc Cert.BlocksIdeal.main_arg0)
      ∧ m' ((c.tc : Thread Cert.ReferenceIdeal.nD Cert.ReferenceIdeal.τ).loc Cert.ReferenceIdeal.main_arg1) = m ((c.tc : Thread Cert.BlocksIdeal.nD Cert.BlocksIdeal.τ).loc Cert.BlocksIdeal.main_arg1)
      ∧ m' ((c.tc : Thread Cert.ReferenceIdeal.nD Cert.ReferenceIdeal.τ).loc Cert.ReferenceIdeal.main_arg2) = m ((c.tc : Thread Cert.BlocksIdeal.nD Cert.BlocksIdeal.τ).loc Cert.BlocksIdeal.main_arg2)) →
    ∃ (v0 : (c : Dev Cert.BlocksIdeal.nD) → Buf (Elt Ideal) ((c.tc : Thread Cert.BlocksIdeal.nD Cert.BlocksIdeal.τ).loc Cert.BlocksIdeal.main_v0)),
      θ_run (Cert.BlocksIdeal.defs (F := Ideal)) (onTc (τ := Cert.BlocksIdeal.τ) (Cert.BlocksIdeal.main (F := Ideal))) ⟨m, fun _ => 0, g⟩ (fun r => ∀ c : Dev Cert.BlocksIdeal.nD,
          r.2.mem ((c.tc : Thread Cert.BlocksIdeal.nD Cert.BlocksIdeal.τ).loc Cert.BlocksIdeal.main_v0) = v0 c
          ∧ r.2.mem ((c.tc : Thread Cert.BlocksIdeal.nD Cert.BlocksIdeal.τ).loc Cert.BlocksIdeal.main_arg0) = m ((c.tc : Thread Cert.BlocksIdeal.nD Cert.BlocksIdeal.τ).loc Cert.BlocksIdeal.main_arg0)
          ∧ r.2.mem ((c.tc : Thread Cert.BlocksIdeal.nD Cert.BlocksIdeal.τ).loc Cert.BlocksIdeal.main_arg1) = m ((c.tc : Thread Cert.BlocksIdeal.nD Cert.BlocksIdeal.τ).loc Cert.BlocksIdeal.main_arg1)
          ∧ r.2.mem ((c.tc : Thread Cert.BlocksIdeal.nD Cert.BlocksIdeal.τ).loc Cert.BlocksIdeal.main_arg2) = m ((c.tc : Thread Cert.BlocksIdeal.nD Cert.BlocksIdeal.τ).loc Cert.BlocksIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hManual : Cert.Manual.Facts) (hManualIdeal : Cert.ManualIdeal.Facts) (hBlocks : Cert.Blocks.Facts) (hBlocksIdeal : Cert.BlocksIdeal.Facts) (hPre_std_nonzero_mean_finite : Cert.Pre_std_nonzero_mean_finite.Facts),
    quiescent_Kernel (hKernel := hKernel)
    ∧ quiescent_KernelIdeal (hKernelIdeal := hKernelIdeal)
    ∧ quiescent_KernelIdeal_pre_std_nonzero_mean_finite (hKernelIdeal := hKernelIdeal) (hPre_std_nonzero_mean_finite := hPre_std_nonzero_mean_finite)
    ∧ quiescent_ReferenceIdeal (hReferenceIdeal := hReferenceIdeal)
    ∧ quiescent_ReferenceIdeal_pre_std_nonzero_mean_finite (hReferenceIdeal := hReferenceIdeal) (hPre_std_nonzero_mean_finite := hPre_std_nonzero_mean_finite)
    ∧ quiescent_Manual (hManual := hManual)
    ∧ quiescent_ManualIdeal (hManualIdeal := hManualIdeal)
    ∧ quiescent_ManualIdeal_pre_std_nonzero_mean_finite (hManualIdeal := hManualIdeal) (hPre_std_nonzero_mean_finite := hPre_std_nonzero_mean_finite)
    ∧ quiescent_Blocks (hBlocks := hBlocks)
    ∧ quiescent_BlocksIdeal (hBlocksIdeal := hBlocksIdeal)
    ∧ quiescent_BlocksIdeal_pre_std_nonzero_mean_finite (hBlocksIdeal := hBlocksIdeal) (hPre_std_nonzero_mean_finite := hPre_std_nonzero_mean_finite)
    ∧ preserves_Kernel_KernelIdeal
    ∧ algebraic_KernelIdeal_ReferenceIdeal_pre_std_nonzero_mean_finite (hKernelIdeal := hKernelIdeal) (hReferenceIdeal := hReferenceIdeal) (hPre_std_nonzero_mean_finite := hPre_std_nonzero_mean_finite)
    ∧ preserves_Manual_ManualIdeal
    ∧ algebraic_ManualIdeal_ReferenceIdeal_pre_std_nonzero_mean_finite (hManualIdeal := hManualIdeal) (hReferenceIdeal := hReferenceIdeal) (hPre_std_nonzero_mean_finite := hPre_std_nonzero_mean_finite)
    ∧ preserves_Blocks_BlocksIdeal
    ∧ algebraic_BlocksIdeal_ReferenceIdeal_pre_std_nonzero_mean_finite (hBlocksIdeal := hBlocksIdeal) (hReferenceIdeal := hReferenceIdeal) (hPre_std_nonzero_mean_finite := hPre_std_nonzero_mean_finite)
-- ==== Pre_std_nonzero_mean_finite.lean ====
abbrev S100000x512 : Shape := ⟨2, ![100000, 512]⟩
abbrev S1x512 : Shape := ⟨2, ![1, 512]⟩
abbrev S_ : Shape := ⟨0, ![]⟩

class Facts : Prop where
  bcast_S_S1x512 : S_.BroadcastsInDim S1x512 (![] : Fin 0 → Fin S1x512.rank)
  reducesTo_S1x512_S_d0_1 : S1x512.ReducesTo [0, 1] S_
  h_S_ : 0 < S_.numel

variable [Facts]

def fn {F : FTy → Type} [FloatOps F] (main_arg0 : FVec F S100000x512 .f32) (main_arg1 : FVec F S1x512 .f32) (main_arg2 : FVec F S1x512 .f32) : IVec S_ 1 :=
  let main_cst : FVec F S_ .f32 := constant S_ .f32 0x00000000#32
  let main_v0 : FVec F S1x512 .f32 := broadcastInDim S1x512 ![] bcast_S_S1x512 main_cst
  let main_v1 : IVec S1x512 1 := cmpf .une main_arg2 main_v0
  let main_c : IVec S_ 1 := constantI S_ 1 1#1
  let main_v2 : IVec S_ 1 := (fun x v => Host.reduce IntOp.andi x v reducesTo_S1x512_S_d0_1 h_S_) main_v1 main_c
  let main_v3 : FVec F S1x512 .f32 := Host.absf main_arg1
  let main_cst_0 : FVec F S_ .f32 := constant S_ .f32 0x7F800000#32
  let main_v4 : FVec F S1x512 .f32 := broadcastInDim S1x512 ![] bcast_S_S1x512 main_cst_0
  let main_v5 : IVec S1x512 1 := cmpf .olt main_v3 main_v4
  let main_c_1 : IVec S_ 1 := constantI S_ 1 1#1
  let main_v6 : IVec S_ 1 := (fun x v => Host.reduce IntOp.andi x v reducesTo_S1x512_S_d0_1 h_S_) main_v5 main_c_1
  let main_v7 : IVec S_ 1 := andi main_v2 main_v6
  main_v7
-- ==== Kernel.lean ====
abbrev S100000x512 : Shape := ⟨2, ![100000, 512]⟩
abbrev S1x512 : Shape := ⟨2, ![1, 512]⟩
abbrev S_ : Shape := ⟨0, ![]⟩
abbrev S512 : Shape := ⟨1, ![512]⟩
abbrev S120x512 : Shape := ⟨2, ![120, 512]⟩
abbrev S16 : Shape := ⟨1, ![16]⟩
abbrev S1x16 : Shape := ⟨2, ![1, 16]⟩
abbrev S8x512 : Shape := ⟨2, ![8, 512]⟩

abbrev nBuf : Table → Nat
  | .hbm => 14
  | .local .scVector .vmem => 4
  | _ => 0

abbrev bufTy : (tb : Table) → Fin (nBuf tb) → BufTy
  | .hbm, ⟨0, _⟩ => ⟨S100000x512, .f32⟩
  | .hbm, ⟨1, _⟩ => ⟨S1x512, .f32⟩
  | .hbm, ⟨2, _⟩ => ⟨S1x512, .f32⟩
  | .hbm, ⟨3, _⟩ => ⟨S_, .f32⟩
  | .hbm, ⟨4, _⟩ => ⟨S1x512, .f32⟩
  | .hbm, ⟨5, _⟩ => ⟨S1x512, .f32⟩
  | .hbm, ⟨6, _⟩ => ⟨S_, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S512, .f32⟩
  | .hbm, ⟨12, _⟩ => ⟨S512, .f32⟩
  | .hbm, ⟨13, _⟩ => ⟨S100000x512, .f32⟩
  | .local .scVector .vmem, ⟨0, _⟩ => ⟨S120x512, .f32⟩
  | .local .scVector .vmem, ⟨1, _⟩ => ⟨S120x512, .f32⟩
  | .local .scVector .vmem, ⟨2, _⟩ => ⟨S512, .f32⟩
  | .local .scVector .vmem, ⟨3, _⟩ => ⟨S512, .f32⟩
  | _, _ => ⟨S100000x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_arg0_scv : Ref sig .scVector := ⟨.hbm, 0, rfl⟩
abbrev main_v6_scv : Ref sig .scVector := ⟨.hbm, 11, rfl⟩
abbrev main_v7_scv : Ref sig .scVector := ⟨.hbm, 12, rfl⟩
abbrev main_v8_scv : Ref sig .scVector := ⟨.hbm, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c390_i32 : BitVec 32 := 390#32
  let v2 : BitVec 32 := Scalar.muli v1 c390_i32
  let c20_i32 : BitVec 32 := 20#32
  let v3 : BitVec 32 := Scalar.minsi v1 c20_i32
  let v4 : BitVec 32 := Scalar.addi v2 v3
  let c8_i32 : BitVec 32 := 8#32
  let v5 : BitVec 32 := Scalar.muli v4 c8_i32
  let c0_i32 : BitVec 32 := 0#32
  let v6 : BitVec 32 := Scalar.addi v5 c0_i32
  v6
def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c390_i32 : BitVec 32 := 390#32
  let v2 : BitVec 32 := Scalar.muli v1 c390_i32
  let c20_i32 : BitVec 32 := 20#32
  let v3 : BitVec 32 := Scalar.minsi v1 c20_i32
  let v4 : BitVec 32 := Scalar.addi v2 v3
  let c8_i32 : BitVec 32 := 8#32
  let v5 : BitVec 32 := Scalar.muli v4 c8_i32
  let v6 : BitVec 32 := Scalar.addi v5 c0_i32
  let v7 : BitVec 32 := v6
  let c0_i32_0 : BitVec 32 := 0#32
  ![v7.toNat, 0]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c390_i32 : BitVec 32 := 390#32
  let v2 : BitVec 32 := Scalar.muli v1 c390_i32
  let c20_i32 : BitVec 32 := 20#32
  let v3 : BitVec 32 := Scalar.minsi v1 c20_i32
  let v4 : BitVec 32 := Scalar.addi v2 v3
  let c8_i32 : BitVec 32 := 8#32
  let v5 : BitVec 32 := Scalar.muli v4 c8_i32
  let c120_i32 : BitVec 32 := 120#32
  let v10 : BitVec 32 := Scalar.addi v5 c120_i32
  v10
@[reducible] def k0_t1_loop : Scf.Loop 32 :=
  let c0_i32_5 : BitVec 32 := 0#32
  let c13_i32 : BitVec 32 := 13#32
  let v14 : BitVec 32 := Scalar.addi c0_i32_5 c13_i32
  let c1_i32 : BitVec 32 := 1#32
  ⟨c0_i32_5, v14, c1_i32⟩
def k0_cond1 (k0_t1 : Fin k0_t1_loop.trips) : BitVec 1 :=
  let c0_i32_5 : BitVec 32 := 0#32
  let c1_i32 : BitVec 32 := 1#32
  let arg16 : BitVec 32 := Scf.iv c0_i32_5 c1_i32 k0_t1
  let c2_i32_17 : BitVec 32 := 2#32
  let v23 : BitVec 32 := Scalar.muli arg16 c2_i32_17
  let c0_i32_18 : BitVec 32 := 0#32
  let v24 : BitVec 32 := Scalar.addi v23 c0_i32_18
  let c26_i32 : BitVec 32 := 26#32
  let v25 : BitVec 1 := Scalar.cmpi .slt v24 c26_i32
  let v26 : BitVec 32 := Scalar.extui v25
  let c0_i32_19 : BitVec 32 := 0#32
  let v27 : BitVec 1 := Scalar.cmpi .ne v26 c0_i32_19
  v27

@[reducible] def k0_t2_loop : Scf.Loop 32 :=
  let c0_i32_31 : BitVec 32 := 0#32
  let c15_i32 : BitVec 32 := 15#32
  let v39 : BitVec 32 := Scalar.addi c0_i32_31 c15_i32
  let c1_i32_32 : BitVec 32 := 1#32
  ⟨c0_i32_31, v39, c1_i32_32⟩
def k0_off2 (k0_t2 : Fin k0_t2_loop.trips) (c0_i32_227 : BitVec 32) : Fin 2 → Nat :=
  let c0_i32_31 : BitVec 32 := 0#32
  let c1_i32_32 : BitVec 32 := 1#32
  let arg18 : BitVec 32 := Scf.iv c0_i32_31 c1_i32_32 k0_t2
  let c8_i32_226 : BitVec 32 := 8#32
  let v236 : BitVec 32 := Scalar.muli arg18 c8_i32_226
  let v237 : BitVec 32 := Scalar.addi v236 c0_i32_227
  let v238 : Index := Scalar.indexCast v237
  let c0_228 : Index := 0#32
  ![v238.toNat, 0]
@[reducible] def k0_t3_loop : Scf.Loop 32 :=
  let c0_i32_36 : BitVec 32 := 0#32
  let c15_i32_37 : BitVec 32 := 15#32
  let v45 : BitVec 32 := Scalar.addi c0_i32_36 c15_i32_37
  let c1_i32_38 : BitVec 32 := 1#32
  ⟨c0_i32_36, v45, c1_i32_38⟩
def k0_off3 (k0_t3 : Fin k0_t3_loop.trips) (c0_i32_227 : BitVec 32) : Fin 2 → Nat :=
  let c0_i32_36 : BitVec 32 := 0#32
  let c1_i32_38 : BitVec 32 := 1#32
  let arg18 : BitVec 32 := Scf.iv c0_i32_36 c1_i32_38 k0_t3
  let c8_i32_226 : BitVec 32 := 8#32
  let v236 : BitVec 32 := Scalar.muli arg18 c8_i32_226
  let v237 : BitVec 32 := Scalar.addi v236 c0_i32_227
  let v238 : Index := Scalar.indexCast v237
  let c16_228 : Index := 16#32
  ![v238.toNat, 16]
@[reducible] def k0_t4_loop : Scf.Loop 32 :=
  let c0_i32_42 : BitVec 32 := 0#32
  let c15_i32_43 : BitVec 32 := 15#32
  let v51 : BitVec 32 := Scalar.addi c0_i32_42 c15_i32_43
  let c1_i32_44 : BitVec 32 := 1#32
  ⟨c0_i32_42, v51, c1_i32_44⟩
def k0_off4 (k0_t4 : Fin k0_t4_loop.trips) (c0_i32_227 : BitVec 32) : Fin 2 → Nat :=
  let c0_i32_42 : BitVec 32 := 0#32
  let c1_i32_44 : BitVec 32 := 1#32
  let arg18 : BitVec 32 := Scf.iv c0_i32_42 c1_i32_44 k0_t4
  let c8_i32_226 : BitVec 32 := 8#32
  let v236 : BitVec 32 := Scalar.muli arg18 c8_i32_226
  let v237 : BitVec 32 := Scalar.addi v236 c0_i32_227
  let v238 : Index := Scalar.indexCast v237
  let c32_228 : Index := 32#32
  ![v238.toNat, 32]
@[reducible] def k0_t5_loop : Scf.Loop 32 :=
  let c0_i32_48 : BitVec 32 := 0#32
  let c15_i32_49 : BitVec 32 := 15#32
  let v57 : BitVec 32 := Scalar.addi c0_i32_48 c15_i32_49
  let c1_i32_50 : BitVec 32 := 1#32
  ⟨c0_i32_48, v57, c1_i32_50⟩
def k0_off5 (k0_t5 : Fin k0_t5_loop.trips) (c0_i32_227 : BitVec 32) : Fin 2 → Nat :=
  let c0_i32_48 : BitVec 32 := 0#32
  let c1_i32_50 : BitVec 32 := 1#32
  let arg18 : BitVec 32 := Scf.iv c0_i32_48 c1_i32_50 k0_t5
  let c8_i32_226 : BitVec 32 := 8#32
  let v236 : BitVec 32 := Scalar.muli arg18 c8_i32_226
  let v237 : BitVec 32 := Scalar.addi v236 c0_i32_227
  let v238 : Index := Scalar.indexCast v237
  let c48_228 : Index := 48#32
  ![v238.toNat, 48]
@[reducible] def k0_t6_loop : Scf.Loop 32 :=
  let c0_i32_54 : BitVec 32 := 0#32
  let c15_i32_55 : BitVec 32 := 15#32
  let v63 : BitVec 32 := Scalar.addi c0_i32_54 c15_i32_55
  let c1_i32_56 : BitVec 32 := 1#32
  ⟨c0_i32_54, v63, c1_i32_56⟩
def k0_off6 (k0_t6 : Fin k0_t6_loop.trips) (c0_i32_227 : BitVec 32) : Fin 2 → Nat :=
  let c0_i32_54 : BitVec 32 := 0#32
  let c1_i32_56 : BitVec 32 := 1#32
  let arg18 : BitVec 32 := Scf.iv c0_i32_54 c1_i32_56 k0_t6
  let c8_i32_226 : BitVec 32 := 8#32
  let v236 : BitVec 32 := Scalar.muli arg18 c8_i32_226
  let v237 : BitVec 32 := Scalar.addi v236 c0_i32_227
  let v238 : Index := Scalar.indexCast v237
  let c64_228 : Index := 64#32
  ![v238.toNat, 64]
@[reducible] def k0_t7_loop : Scf.Loop 32 :=
  let c0_i32_60 : BitVec 32 := 0#32
  let c15_i32_61 : BitVec 32 := 15#32
  let v69 : BitVec 32 := Scalar.addi c0_i32_60 c15_i32_61
  let c1_i32_62 : BitVec 32 := 1#32
  ⟨c0_i32_60, v69, c1_i32_62⟩
def k0_off7 (k0_t7 : Fin k0_t7_loop.trips) (c0_i32_227 : BitVec 32) : Fin 2 → Nat :=
  let c0_i32_60 : BitVec 32 := 0#32
  let c1_i32_62 : BitVec 32 := 1#32
  let arg18 : BitVec 32 := Scf.iv c0_i32_60 c1_i32_62 k0_t7
  let c8_i32_226 : BitVec 32 := 8#32
  let v236 : BitVec 32 := Scalar.muli arg18 c8_i32_226
  let v237 : BitVec 32 := Scalar.addi v236 c0_i32_227
  let v238 : Index := Scalar.indexCast v237
  let c80_228 : Index := 80#32
  ![v238.toNat, 80]
@[reducible] def k0_t8_loop : Scf.Loop 32 :=
  let c0_i32_66 : BitVec 32 := 0#32
  let c15_i32_67 : BitVec 32 := 15#32
  let v75 : BitVec 32 := Scalar.addi c0_i32_66 c15_i32_67
  let c1_i32_68 : BitVec 32 := 1#32
  ⟨c0_i32_66, v75, c1_i32_68⟩
def k0_off8 (k0_t8 : Fin k0_t8_loop.trips) (c0_i32_227 : BitVec 32) : Fin 2 → Nat :=
  let c0_i32_66 : BitVec 32 := 0#32
  let c1_i32_68 : BitVec 32 := 1#32
  let arg18 : BitVec 32 := Scf.iv c0_i32_66 c1_i32_68 k0_t8
  let c8_i32_226 : BitVec 32 := 8#32
  let v236 : BitVec 32 := Scalar.muli arg18 c8_i32_226
  let v237 : BitVec 32 := Scalar.addi v236 c0_i32_227
  let v238 : Index := Scalar.indexCast v237
  let c96_228 : Index := 96#32
  ![v238.toNat, 96]
@[reducible] def k0_t9_loop : Scf.Loop 32 :=
  let c0_i32_72 : BitVec 32 := 0#32
  let c15_i32_73 : BitVec 32 := 15#32
  let v81 : BitVec 32 := Scalar.addi c0_i32_72 c15_i32_73
  let c1_i32_74 : BitVec 32 := 1#32
  ⟨c0_i32_72, v81, c1_i32_74⟩
def k0_off9 (k0_t9 : Fin k0_t9_loop.trips) (c0_i32_227 : BitVec 32) : Fin 2 → Nat :=
  let c0_i32_72 : BitVec 32 := 0#32
  let c1_i32_74 : BitVec 32 := 1#32
  let arg18 : BitVec 32 := Scf.iv c0_i32_72 c1_i32_74 k0_t9
  let c8_i32_226 : BitVec 32 := 8#32
  let v236 : BitVec 32 := Scalar.muli arg18 c8_i32_226
  let v237 : BitVec 32 := Scalar.addi v236 c0_i32_227
  let v238 : Index := Scalar.indexCast v237
  let c112_228 : Index := 112#32
  ![v238.toNat, 112]
@[reducible] def k0_t10_loop : Scf.Loop 32 :=
  let c0_i32_78 : BitVec 32 := 0#32
  let c15_i32_79 : BitVec 32 := 15#32
  let v87 : BitVec 32 := Scalar.addi c0_i32_78 c15_i32_79
  let c1_i32_80 : BitVec 32 := 1#32
  ⟨c0_i32_78, v87, c1_i32_80⟩
def k0_off10 (k0_t10 : Fin k0_t10_loop.trips) (c0_i32_227 : BitVec 32) : Fin 2 → Nat :=
  let c0_i32_78 : BitVec 32 := 0#32
  let c1_i32_80 : BitVec 32 := 1#32
  let arg18 : BitVec 32 := Scf.iv c0_i32_78 c1_i32_80 k0_t10
  let c8_i32_226 : BitVec 32 := 8#32
  let v236 : BitVec 32 := Scalar.muli arg18 c8_i32_226
  let v237 : BitVec 32 := Scalar.addi v236 c0_i32_227
  let v238 : Index := Scalar.indexCast v237
  let c128_228 : Index := 128#32
  ![v238.toNat, 128]
@[reducible] def k0_t11_loop : Scf.Loop 32 :=
  let c0_i32_84 : BitVec 32 := 0#32
  let c15_i32_85 : BitVec 32 := 15#32
  let v93 : BitVec 32 := Scalar.addi c0_i32_84 c15_i32_85
  let c1_i32_86 : BitVec 32 := 1#32
  ⟨c0_i32_84, v93, c1_i32_86⟩
def k0_off11 (k0_t11 : Fin k0_t11_loop.trips) (c0_i32_227 : BitVec 32) : Fin 2 → Nat :=
  let c0_i32_84 : BitVec 32 := 0#32
  let c1_i32_86 : BitVec 32 := 1#32
  let arg18 : BitVec 32 := Scf.iv c0_i32_84 c1_i32_86 k0_t11
  let c8_i32_226 : BitVec 32 := 8#32
  let v236 : BitVec 32 := Scalar.muli arg18 c8_i32_226
  let v237 : BitVec 32 := Scalar.addi v236 c0_i32_227
  let v238 : Index := Scalar.indexCast v237
  let c144_228 : Index := 144#32
  ![v238.toNat, 144]
@[reducible] def k0_t12_loop : Scf.Loop 32 :=
  let c0_i32_90 : BitVec 32 := 0#32
  let c15_i32_91 : BitVec 32 := 15#32
  let v99 : BitVec 32 := Scalar.addi c0_i32_90 c15_i32_91
  let c1_i32_92 : BitVec 32 := 1#32
  ⟨c0_i32_90, v99, c1_i32_92⟩
def k0_off12 (k0_t12 : Fin k0_t12_loop.trips) (c0_i32_227 : BitVec 32) : Fin 2 → Nat :=
  let c0_i32_90 : BitVec 32 := 0#32
  let c1_i32_92 : BitVec 32 := 1#32
  let arg18 : BitVec 32 := Scf.iv c0_i32_90 c1_i32_92 k0_t12
  let c8_i32_226 : BitVec 32 := 8#32
  let v236 : BitVec 32 := Scalar.muli arg18 c8_i32_226
  let v237 : BitVec 32 := Scalar.addi v236 c0_i32_227
  let v238 : Index := Scalar.indexCast v237
  let c160_228 : Index := 160#32
  ![v238.toNat, 160]
@[reducible] def k0_t13_loop : Scf.Loop 32 :=
  let c0_i32_96 : BitVec 32 := 0#32
  let c15_i32_97 : BitVec 32 := 15#32
  let v105 : BitVec 32 := Scalar.addi c0_i32_96 c15_i32_97
  let c1_i32_98 : BitVec 32 := 1#32
  ⟨c0_i32_96, v105, c1_i32_98⟩
def k0_off13 (k0_t13 : Fin k0_t13_loop.trips) (c0_i32_227 : BitVec 32) : Fin 2 → Nat :=
  let c0_i32_96 : BitVec 32 := 0#32
  let c1_i32_98 : BitVec 32 := 1#32
  let arg18 : BitVec 32 := Scf.iv c0_i32_96 c1_i32_98 k0_t13
  let c8_i32_226 : BitVec 32 := 8#32
  let v236 : BitVec 32 := Scalar.muli arg18 c8_i32_226
  let v237 : BitVec 32 := Scalar.addi v236 c0_i32_227
  let v238 : Index := Scalar.indexCast v237
  let c176_228 : Index := 176#32
  ![v238.toNat, 176]
@[reducible] def k0_t14_loop : Scf.Loop 32 :=
  let c0_i32_102 : BitVec 32 := 0#32
  let c15_i32_103 : BitVec 32 := 15#32
  let v111 : BitVec 32 := Scalar.addi c0_i32_102 c15_i32_103
  let c1_i32_104 : BitVec 32 := 1#32
  ⟨c0_i32_102, v111, c1_i32_104⟩
def k0_off14 (k0_t14 : Fin k0_t14_loop.trips) (c0_i32_227 : BitVec 32) : Fin 2 → Nat :=
  let c0_i32_102 : BitVec 32 := 0#32
  let c1_i32_104 : BitVec 32 := 1#32
  let arg18 : BitVec 32 := Scf.iv c0_i32_102 c1_i32_104 k0_t14
  let c8_i32_226 : BitVec 32 := 8#32
  let v236 : BitVec 32 := Scalar.muli arg18 c8_i32_226
  let v237 : BitVec 32 := Scalar.addi v236 c0_i32_227
  let v238 : Index := Scalar.indexCast v237
  let c192_228 : Index := 192#32
  ![v238.toNat, 192]
@[reducible] def k0_t15_loop : Scf.Loop 32 :=
  let c0_i32_108 : BitVec 32 := 0#32
  let c15_i32_109 : BitVec 32 := 15#32
  let v117 : BitVec 32 := Scalar.addi c0_i32_108 c15_i32_109
  let c1_i32_110 : BitVec 32 := 1#32
  ⟨c0_i32_108, v117, c1_i32_110⟩
def k0_off15 (k0_t15 : Fin k0_t15_loop.trips) (c0_i32_227 : BitVec 32) : Fin 2 → Nat :=
  let c0_i32_108 : BitVec 32 := 0#32
  let c1_i32_110 : BitVec 32 := 1#32
  let arg18 : BitVec 32 := Scf.iv c0_i32_108 c1_i32_110 k0_t15
  let c8_i32_226 : BitVec 32 := 8#32
  let v236 : BitVec 32 := Scalar.muli arg18 c8_i32_226
  let v237 : BitVec 32 := Scalar.addi v236 c0_i32_227
  let v238 : Index := Scalar.indexCast v237
  let c208_228 : Index := 208#32
  ![v238.toNat, 208]
@[reducible] def k0_t16_loop : Scf.Loop 32 :=
  let c0_i32_114 : BitVec 32 := 0#32
  let c15_i32_115 : BitVec 32 := 15#32
  let v123 : BitVec 32 := Scalar.addi c0_i32_114 c15_i32_115
  let c1_i32_116 : BitVec 32 := 1#32
  ⟨c0_i32_114, v123, c1_i32_116⟩
def k0_off16 (k0_t16 : Fin k0_t16_loop.trips) (c0_i32_227 : BitVec 32) : Fin 2 → Nat :=
  let c0_i32_114 : BitVec 32 := 0#32
  let c1_i32_116 : BitVec 32 := 1#32
  let arg18 : BitVec 32 := Scf.iv c0_i32_114 c1_i32_116 k0_t16
  let c8_i32_226 : BitVec 32 := 8#32
  let v236 : BitVec 32 := Scalar.muli arg18 c8_i32_226
  let v237 : BitVec 32 := Scalar.addi v236 c0_i32_227
  let v238 : Index := Scalar.indexCast v237
  let c224_228 : Index := 224#32
  ![v238.toNat, 224]
@[reducible] def k0_t17_loop : Scf.Loop 32 :=
  let c0_i32_120 : BitVec 32 := 0#32
  let c15_i32_121 : BitVec 32 := 15#32
  let v129 : BitVec 32 := Scalar.addi c0_i32_120 c15_i32_121
  let c1_i32_122 : BitVec 32 := 1#32
  ⟨c0_i32_120, v129, c1_i32_122⟩
def k0_off17 (k0_t17 : Fin k0_t17_loop.trips) (c0_i32_227 : BitVec 32) : Fin 2 → Nat :=
  let c0_i32_120 : BitVec 32 := 0#32
  let c1_i32_122 : BitVec 32 := 1#32
  let arg18 : BitVec 32 := Scf.iv c0_i32_120 c1_i32_122 k0_t17
  let c8_i32_226 : BitVec 32 := 8#32
  let v236 : BitVec 32 := Scalar.muli arg18 c8_i32_226
  let v237 : BitVec 32 := Scalar.addi v236 c0_i32_227
  let v238 : Index := Scalar.indexCast v237
  let c240_228 : Index := 240#32
  ![v238.toNat, 240]
@[reducible] def k0_t18_loop : Scf.Loop 32 :=
  let c0_i32_126 : BitVec 32 := 0#32
  let c15_i32_127 : BitVec 32 := 15#32
  let v135 : BitVec 32 := Scalar.addi c0_i32_126 c15_i32_127
  let c1_i32_128 : BitVec 32 := 1#32
  ⟨c0_i32_126, v135, c1_i32_128⟩
def k0_off18 (k0_t18 : Fin k0_t18_loop.trips) (c0_i32_227 : BitVec 32) : Fin 2 → Nat :=
  let c0_i32_126 : BitVec 32 := 0#32
  let c1_i32_128 : BitVec 32 := 1#32
  let arg18 : BitVec 32 := Scf.iv c0_i32_126 c1_i32_128 k0_t18
  let c8_i32_226 : BitVec 32 := 8#32
  let v236 : BitVec 32 := Scalar.muli arg18 c8_i32_226
  let v237 : BitVec 32 := Scalar.addi v236 c0_i32_227
  let v238 : Index := Scalar.indexCast v237
  let c256_228 : Index := 256#32
  ![v238.toNat, 256]
@[reducible] def k0_t19_loop : Scf.Loop 32 :=
  let c0_i32_132 : BitVec 32 := 0#32
  let c15_i32_133 : BitVec 32 := 15#32
  let v141 : BitVec 32 := Scalar.addi c0_i32_132 c15_i32_133
  let c1_i32_134 : BitVec 32 := 1#32
  ⟨c0_i32_132, v141, c1_i32_134⟩
def k0_off19 (k0_t19 : Fin k0_t19_loop.trips) (c0_i32_227 : BitVec 32) : Fin 2 → Nat :=
  let c0_i32_132 : BitVec 32 := 0#32
  let c1_i32_134 : BitVec 32 := 1#32
  let arg18 : BitVec 32 := Scf.iv c0_i32_132 c1_i32_134 k0_t19
  let c8_i32_226 : BitVec 32 := 8#32
  let v236 : BitVec 32 := Scalar.muli arg18 c8_i32_226
  let v237 : BitVec 32 := Scalar.addi v236 c0_i32_227
  let v238 : Index := Scalar.indexCast v237
  let c272_228 : Index := 272#32
  ![v238.toNat, 272]
@[reducible] def k0_t20_loop : Scf.Loop 32 :=
  let c0_i32_138 : BitVec 32 := 0#32
  let c15_i32_139 : BitVec 32 := 15#32
  let v147 : BitVec 32 := Scalar.addi c0_i32_138 c15_i32_139
  let c1_i32_140 : BitVec 32 := 1#32
  ⟨c0_i32_138, v147, c1_i32_140⟩
def k0_off20 (k0_t20 : Fin k0_t20_loop.trips) (c0_i32_227 : BitVec 32) : Fin 2 → Nat :=
  let c0_i32_138 : BitVec 32 := 0#32
  let c1_i32_140 : BitVec 32 := 1#32
  let arg18 : BitVec 32 := Scf.iv c0_i32_138 c1_i32_140 k0_t20
  let c8_i32_226 : BitVec 32 := 8#32
  let v236 : BitVec 32 := Scalar.muli arg18 c8_i32_226
  let v237 : BitVec 32 := Scalar.addi v236 c0_i32_227
  let v238 : Index := Scalar.indexCast v237
  let c288_228 : Index := 288#32
  ![v238.toNat, 288]
@[reducible] def k0_t21_loop : Scf.Loop 32 :=
  let c0_i32_144 : BitVec 32 := 0#32
  let c15_i32_145 : BitVec 32 := 15#32
  let v153 : BitVec 32 := Scalar.addi c0_i32_144 c15_i32_145
  let c1_i32_146 : BitVec 32 := 1#32
  ⟨c0_i32_144, v153, c1_i32_146⟩
def k0_off21 (k0_t21 : Fin k0_t21_loop.trips) (c0_i32_227 : BitVec 32) : Fin 2 → Nat :=
  let c0_i32_144 : BitVec 32 := 0#32
  let c1_i32_146 : BitVec 32 := 1#32
  let arg18 : BitVec 32 := Scf.iv c0_i32_144 c1_i32_146 k0_t21
  let c8_i32_226 : BitVec 32 := 8#32
  let v236 : BitVec 32 := Scalar.muli arg18 c8_i32_226
  let v237 : BitVec 32 := Scalar.addi v236 c0_i32_227
  let v238 : Index := Scalar.indexCast v237
  let c304_228 : Index := 304#32
  ![v238.toNat, 304]
@[reducible] def k0_t22_loop : Scf.Loop 32 :=
  let c0_i32_150 : BitVec 32 := 0#32
  let c15_i32_151 : BitVec 32 := 15#32
  let v159 : BitVec 32 := Scalar.addi c0_i32_150 c15_i32_151
  let c1_i32_152 : BitVec 32 := 1#32
  ⟨c0_i32_150, v159, c1_i32_152⟩
def k0_off22 (k0_t22 : Fin k0_t22_loop.trips) (c0_i32_227 : BitVec 32) : Fin 2 → Nat :=
  let c0_i32_150 : BitVec 32 := 0#32
  let c1_i32_152 : BitVec 32 := 1#32
  let arg18 : BitVec 32 := Scf.iv c0_i32_150 c1_i32_152 k0_t22
  let c8_i32_226 : BitVec 32 := 8#32
  let v236 : BitVec 32 := Scalar.muli arg18 c8_i32_226
  let v237 : BitVec 32 := Scalar.addi v236 c0_i32_227
  let v238 : Index := Scalar.indexCast v237
  let c320_228 : Index := 320#32
  ![v238.toNat, 320]
@[reducible] def k0_t23_loop : Scf.Loop 32 :=
  let c0_i32_156 : BitVec 32 := 0#32
  let c15_i32_157 : BitVec 32 := 15#32
  let v165 : BitVec 32 := Scalar.addi c0_i32_156 c15_i32_157
  let c1_i32_158 : BitVec 32 := 1#32
  ⟨c0_i32_156, v165, c1_i32_158⟩
def k0_off23 (k0_t23 : Fin k0_t23_loop.trips) (c0_i32_227 : BitVec 32) : Fin 2 → Nat :=
  let c0_i32_156 : BitVec 32 := 0#32
  let c1_i32_158 : BitVec 32 := 1#32
  let arg18 : BitVec 32 := Scf.iv c0_i32_156 c1_i32_158 k0_t23
  let c8_i32_226 : BitVec 32 := 8#32
  let v236 : BitVec 32 := Scalar.muli arg18 c8_i32_226
  let v237 : BitVec 32 := Scalar.addi v236 c0_i32_227
  let v238 : Index := Scalar.indexCast v237
  let c336_228 : Index := 336#32
  ![v238.toNat, 336]
@[reducible] def k0_t24_loop : Scf.Loop 32 :=
  let c0_i32_162 : BitVec 32 := 0#32
  let c15_i32_163 : BitVec 32 := 15#32
  let v171 : BitVec 32 := Scalar.addi c0_i32_162 c15_i32_163
  let c1_i32_164 : BitVec 32 := 1#32
  ⟨c0_i32_162, v171, c1_i32_164⟩
def k0_off24 (k0_t24 : Fin k0_t24_loop.trips) (c0_i32_227 : BitVec 32) : Fin 2 → Nat :=
  let c0_i32_162 : BitVec 32 := 0#32
  let c1_i32_164 : BitVec 32 := 1#32
  let arg18 : BitVec 32 := Scf.iv c0_i32_162 c1_i32_164 k0_t24
  let c8_i32_226 : BitVec 32 := 8#32
  let v236 : BitVec 32 := Scalar.muli arg18 c8_i32_226
  let v237 : BitVec 32 := Scalar.addi v236 c0_i32_227
  let v238 : Index := Scalar.indexCast v237
  let c352_228 : Index := 352#32
  ![v238.toNat, 352]
@[reducible] def k0_t25_loop : Scf.Loop 32 :=
  let c0_i32_168 : BitVec 32 := 0#32
  let c15_i32_169 : BitVec 32 := 15#32
  let v177 : BitVec 32 := Scalar.addi c0_i32_168 c15_i32_169
  let c1_i32_170 : BitVec 32 := 1#32
  ⟨c0_i32_168, v177, c1_i32_170⟩
def k0_off25 (k0_t25 : Fin k0_t25_loop.trips) (c0_i32_227 : BitVec 32) : Fin 2 → Nat :=
  let c0_i32_168 : BitVec 32 := 0#32
  let c1_i32_170 : BitVec 32 := 1#32
  let arg18 : BitVec 32 := Scf.iv c0_i32_168 c1_i32_170 k0_t25
  let c8_i32_226 : BitVec 32 := 8#32
  let v236 : BitVec 32 := Scalar.muli arg18 c8_i32_226
  let v237 : BitVec 32 := Scalar.addi v236 c0_i32_227
  let v238 : Index := Scalar.indexCast v237
  let c368_228 : Index := 368#32
  ![v238.toNat, 368]
@[reducible] def k0_t26_loop : Scf.Loop 32 :=
  let c0_i32_174 : BitVec 32 := 0#32
  let c15_i32_175 : BitVec 32 := 15#32
  let v183 : BitVec 32 := Scalar.addi c0_i32_174 c15_i32_175
  let c1_i32_176 : BitVec 32 := 1#32
  ⟨c0_i32_174, v183, c1_i32_176⟩
def k0_off26 (k0_t26 : Fin k0_t26_loop.trips) (c0_i32_227 : BitVec 32) : Fin 2 → Nat :=
  let c0_i32_174 : BitVec 32 := 0#32
  let c1_i32_176 : BitVec 32 := 1#32
  let arg18 : BitVec 32 := Scf.iv c0_i32_174 c1_i32_176 k0_t26
  let c8_i32_226 : BitVec 32 := 8#32
  let v236 : BitVec 32 := Scalar.muli arg18 c8_i32_226
  let v237 : BitVec 32 := Scalar.addi v236 c0_i32_227
  let v238 : Index := Scalar.indexCast v237
  let c384_228 : Index := 384#32
  ![v238.toNat, 384]
@[reducible] def k0_t27_loop : Scf.Loop 32 :=
  let c0_i32_180 : BitVec 32 := 0#32
  let c15_i32_181 : BitVec 32 := 15#32
  let v189 : BitVec 32 := Scalar.addi c0_i32_180 c15_i32_181
  let c1_i32_182 : BitVec 32 := 1#32
  ⟨c0_i32_180, v189, c1_i32_182⟩
def k0_off27 (k0_t27 : Fin k0_t27_loop.trips) (c0_i32_227 : BitVec 32) : Fin 2 → Nat :=
  let c0_i32_180 : BitVec 32 := 0#32
  let c1_i32_182 : BitVec 32 := 1#32
  let arg18 : BitVec 32 := Scf.iv c0_i32_180 c1_i32_182 k0_t27
  let c8_i32_226 : BitVec 32 := 8#32
  let v236 : BitVec 32 := Scalar.muli arg18 c8_i32_226
  let v237 : BitVec 32 := Scalar.addi v236 c0_i32_227
  let v238 : Index := Scalar.indexCast v237
  let c400_228 : Index := 400#32
  ![v238.toNat, 400]
@[reducible] def k0_t28_loop : Scf.Loop 32 :=
  let c0_i32_186 : BitVec 32 := 0#32
  let c15_i32_187 : BitVec 32 := 15#32
  let v195 : BitVec 32 := Scalar.addi c0_i32_186 c15_i32_187
  let c1_i32_188 : BitVec 32 := 1#32
  ⟨c0_i32_186, v195, c1_i32_188⟩
def k0_off28 (k0_t28 : Fin k0_t28_loop.trips) (c0_i32_227 : BitVec 32) : Fin 2 → Nat :=
  let c0_i32_186 : BitVec 32 := 0#32
  let c1_i32_188 : BitVec 32 := 1#32
  let arg18 : BitVec 32 := Scf.iv c0_i32_186 c1_i32_188 k0_t28
  let c8_i32_226 : BitVec 32 := 8#32
  let v236 : BitVec 32 := Scalar.muli arg18 c8_i32_226
  let v237 : BitVec 32 := Scalar.addi v236 c0_i32_227
  let v238 : Index := Scalar.indexCast v237
  let c416_228 : Index := 416#32
  ![v238.toNat, 416]
@[reducible] def k0_t29_loop : Scf.Loop 32 :=
  let c0_i32_192 : BitVec 32 := 0#32
  let c15_i32_193 : BitVec 32 := 15#32
  let v201 : BitVec 32 := Scalar.addi c0_i32_192 c15_i32_193
  let c1_i32_194 : BitVec 32 := 1#32
  ⟨c0_i32_192, v201, c1_i32_194⟩
def k0_off29 (k0_t29 : Fin k0_t29_loop.trips) (c0_i32_227 : BitVec 32) : Fin 2 → Nat :=
  let c0_i32_192 : BitVec 32 := 0#32
  let c1_i32_194 : BitVec 32 := 1#32
  let arg18 : BitVec 32 := Scf.iv c0_i32_192 c1_i32_194 k0_t29
  let c8_i32_226 : BitVec 32 := 8#32
  let v236 : BitVec 32 := Scalar.muli arg18 c8_i32_226
  let v237 : BitVec 32 := Scalar.addi v236 c0_i32_227
  let v238 : Index := Scalar.indexCast v237
  let c432_228 : Index := 432#32
  ![v238.toNat, 432]
@[reducible] def k0_t30_loop : Scf.Loop 32 :=
  let c0_i32_198 : BitVec 32 := 0#32
  let c15_i32_199 : BitVec 32 := 15#32
  let v207 : BitVec 32 := Scalar.addi c0_i32_198 c15_i32_199
  let c1_i32_200 : BitVec 32 := 1#32
  ⟨c0_i32_198, v207, c1_i32_200⟩
def k0_off30 (k0_t30 : Fin k0_t30_loop.trips) (c0_i32_227 : BitVec 32) : Fin 2 → Nat :=
  let c0_i32_198 : BitVec 32 := 0#32
  let c1_i32_200 : BitVec 32 := 1#32
  let arg18 : BitVec 32 := Scf.iv c0_i32_198 c1_i32_200 k0_t30
  let c8_i32_226 : BitVec 32 := 8#32
  let v236 : BitVec 32 := Scalar.muli arg18 c8_i32_226
  let v237 : BitVec 32 := Scalar.addi v236 c0_i32_227
  let v238 : Index := Scalar.indexCast v237
  let c448_228 : Index := 448#32
  ![v238.toNat, 448]
@[reducible] def k0_t31_loop : Scf.Loop 32 :=
  let c0_i32_204 : BitVec 32 := 0#32
  let c15_i32_205 : BitVec 32 := 15#32
  let v213 : BitVec 32 := Scalar.addi c0_i32_204 c15_i32_205
  let c1_i32_206 : BitVec 32 := 1#32
  ⟨c0_i32_204, v213, c1_i32_206⟩
def k0_off31 (k0_t31 : Fin k0_t31_loop.trips) (c0_i32_227 : BitVec 32) : Fin 2 → Nat :=
  let c0_i32_204 : BitVec 32 := 0#32
  let c1_i32_206 : BitVec 32 := 1#32
  let arg18 : BitVec 32 := Scf.iv c0_i32_204 c1_i32_206 k0_t31
  let c8_i32_226 : BitVec 32 := 8#32
  let v236 : BitVec 32 := Scalar.muli arg18 c8_i32_226
  let v237 : BitVec 32 := Scalar.addi v236 c0_i32_227
  let v238 : Index := Scalar.indexCast v237
  let c464_228 : Index := 464#32
  ![v238.toNat, 464]
@[reducible] def k0_t32_loop : Scf.Loop 32 :=
  let c0_i32_210 : BitVec 32 := 0#32
  let c15_i32_211 : BitVec 32 := 15#32
  let v219 : BitVec 32 := Scalar.addi c0_i32_210 c15_i32_211
  let c1_i32_212 : BitVec 32 := 1#32
  ⟨c0_i32_210, v219, c1_i32_212⟩
def k0_off32 (k0_t32 : Fin k0_t32_loop.trips) (c0_i32_227 : BitVec 32) : Fin 2 → Nat :=
  let c0_i32_210 : BitVec 32 := 0#32
  let c1_i32_212 : BitVec 32 := 1#32
  let arg18 : BitVec 32 := Scf.iv c0_i32_210 c1_i32_212 k0_t32
  let c8_i32_226 : BitVec 32 := 8#32
  let v236 : BitVec 32 := Scalar.muli arg18 c8_i32_226
  let v237 : BitVec 32 := Scalar.addi v236 c0_i32_227
  let v238 : Index := Scalar.indexCast v237
  let c480_228 : Index := 480#32
  ![v238.toNat, 480]
@[reducible] def k0_t33_loop : Scf.Loop 32 :=
  let c0_i32_216 : BitVec 32 := 0#32
  let c15_i32_217 : BitVec 32 := 15#32
  let v225 : BitVec 32 := Scalar.addi c0_i32_216 c15_i32_217
  let c1_i32_218 : BitVec 32 := 1#32
  ⟨c0_i32_216, v225, c1_i32_218⟩
def k0_off33 (k0_t33 : Fin k0_t33_loop.trips) (c0_i32_227 : BitVec 32) : Fin 2 → Nat :=
  let c0_i32_216 : BitVec 32 := 0#32
  let c1_i32_218 : BitVec 32 := 1#32
  let arg18 : BitVec 32 := Scf.iv c0_i32_216 c1_i32_218 k0_t33
  let c8_i32_226 : BitVec 32 := 8#32
  let v236 : BitVec 32 := Scalar.muli arg18 c8_i32_226
  let v237 : BitVec 32 := Scalar.addi v236 c0_i32_227
  let v238 : Index := Scalar.indexCast v237
  let c496_228 : Index := 496#32
  ![v238.toNat, 496]
def k0_mult3 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c390_i32 : BitVec 32 := 390#32
  let v2 : BitVec 32 := Scalar.muli v1 c390_i32
  let c20_i32 : BitVec 32 := 20#32
  let v3 : BitVec 32 := Scalar.minsi v1 c20_i32
  let v4 : BitVec 32 := Scalar.addi v2 v3
  let c8_i32 : BitVec 32 := 8#32
  let v5 : BitVec 32 := Scalar.muli v4 c8_i32
  let c0_i32_5 : BitVec 32 := 0#32
  let c1_i32 : BitVec 32 := 1#32
  let arg16 : BitVec 32 := Scf.iv c0_i32_5 c1_i32 k0_t1
  let c2_i32_17 : BitVec 32 := 2#32
  let v23 : BitVec 32 := Scalar.muli arg16 c2_i32_17
  let c0_i32_18 : BitVec 32 := 0#32
  let v24 : BitVec 32 := Scalar.addi v23 c0_i32_18
  let c120_i32_220 : BitVec 32 := 120#32
  let v227 : BitVec 32 := Scalar.muli v24 c120_i32_220
  let v228 : BitVec 32 := Scalar.addi v5 v227
  v228
def k0_off34 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c390_i32 : BitVec 32 := 390#32
  let v2 : BitVec 32 := Scalar.muli v1 c390_i32
  let c20_i32 : BitVec 32 := 20#32
  let v3 : BitVec 32 := Scalar.minsi v1 c20_i32
  let v4 : BitVec 32 := Scalar.addi v2 v3
  let c8_i32 : BitVec 32 := 8#32
  let v5 : BitVec 32 := Scalar.muli v4 c8_i32
  let c0_i32_5 : BitVec 32 := 0#32
  let c1_i32 : BitVec 32 := 1#32
  let arg16 : BitVec 32 := Scf.iv c0_i32_5 c1_i32 k0_t1
  let c2_i32_17 : BitVec 32 := 2#32
  let v23 : BitVec 32 := Scalar.muli arg16 c2_i32_17
  let c0_i32_18 : BitVec 32 := 0#32
  let v24 : BitVec 32 := Scalar.addi v23 c0_i32_18
  let c120_i32_220 : BitVec 32 := 120#32
  let v227 : BitVec 32 := Scalar.muli v24 c120_i32_220
  let v228 : BitVec 32 := Scalar.addi v5 v227
  let v229 : BitVec 32 := v228
  let c0_i32_221 : BitVec 32 := 0#32
  ![v229.toNat, 0]
def k0_cond2 (k0_t1 : Fin k0_t1_loop.trips) : BitVec 1 :=
  let c0_i32_5 : BitVec 32 := 0#32
  let c1_i32 : BitVec 32 := 1#32
  let arg16 : BitVec 32 := Scf.iv c0_i32_5 c1_i32 k0_t1
  let c2_i32_17 : BitVec 32 := 2#32
  let v23 : BitVec 32 := Scalar.muli arg16 c2_i32_17
  let c0_i32_18 : BitVec 32 := 0#32
  let v24 : BitVec 32 := Scalar.addi v23 c0_i32_18
  let c2_i32_223 : BitVec 32 := 2#32
  let v232 : BitVec 32 := Scalar.addi v24 c2_i32_223
  let c26_i32_224 : BitVec 32 := 26#32
  let v233 : BitVec 1 := Scalar.cmpi .slt v232 c26_i32_224
  let v234 : BitVec 32 := Scalar.extui v233
  let c0_i32_225 : BitVec 32 := 0#32
  let v235 : BitVec 1 := Scalar.cmpi .ne v234 c0_i32_225
  v235

def k0_mult4 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c390_i32 : BitVec 32 := 390#32
  let v2 : BitVec 32 := Scalar.muli v1 c390_i32
  let c20_i32 : BitVec 32 := 20#32
  let v3 : BitVec 32 := Scalar.minsi v1 c20_i32
  let v4 : BitVec 32 := Scalar.addi v2 v3
  let c8_i32 : BitVec 32 := 8#32
  let v5 : BitVec 32 := Scalar.muli v4 c8_i32
  let c0_i32_5 : BitVec 32 := 0#32
  let c1_i32 : BitVec 32 := 1#32
  let arg16 : BitVec 32 := Scf.iv c0_i32_5 c1_i32 k0_t1
  let c2_i32_17 : BitVec 32 := 2#32
  let v23 : BitVec 32 := Scalar.muli arg16 c2_i32_17
  let c0_i32_18 : BitVec 32 := 0#32
  let v24 : BitVec 32 := Scalar.addi v23 c0_i32_18
  let c2_i32_230 : BitVec 32 := 2#32
  let v238 : BitVec 32 := Scalar.addi v24 c2_i32_230
  let c120_i32_231 : BitVec 32 := 120#32
  let v239 : BitVec 32 := Scalar.muli v238 c120_i32_231
  let v240 : BitVec 32 := Scalar.addi v5 v239
  v240
def k0_off35 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c390_i32 : BitVec 32 := 390#32
  let v2 : BitVec 32 := Scalar.muli v1 c390_i32
  let c20_i32 : BitVec 32 := 20#32
  let v3 : BitVec 32 := Scalar.minsi v1 c20_i32
  let v4 : BitVec 32 := Scalar.addi v2 v3
  let c8_i32 : BitVec 32 := 8#32
  let v5 : BitVec 32 := Scalar.muli v4 c8_i32
  let c0_i32_5 : BitVec 32 := 0#32
  let c1_i32 : BitVec 32 := 1#32
  let arg16 : BitVec 32 := Scf.iv c0_i32_5 c1_i32 k0_t1
  let c2_i32_17 : BitVec 32 := 2#32
  let v23 : BitVec 32 := Scalar.muli arg16 c2_i32_17
  let c0_i32_18 : BitVec 32 := 0#32
  let v24 : BitVec 32 := Scalar.addi v23 c0_i32_18
  let c2_i32_230 : BitVec 32 := 2#32
  let v238 : BitVec 32 := Scalar.addi v24 c2_i32_230
  let c120_i32_231 : BitVec 32 := 120#32
  let v239 : BitVec 32 := Scalar.muli v238 c120_i32_231
  let v240 : BitVec 32 := Scalar.addi v5 v239
  let v241 : BitVec 32 := v240
  let c0_i32_232 : BitVec 32 := 0#32
  ![v241.toNat, 0]
def k0_cond3 (k0_t1 : Fin k0_t1_loop.trips) : BitVec 1 :=
  let c0_i32_5 : BitVec 32 := 0#32
  let c1_i32 : BitVec 32 := 1#32
  let arg16 : BitVec 32 := Scf.iv c0_i32_5 c1_i32 k0_t1
  let c2_i32_20 : BitVec 32 := 2#32
  let v28 : BitVec 32 := Scalar.muli arg16 c2_i32_20
  let c1_i32_21 : BitVec 32 := 1#32
  let v29 : BitVec 32 := Scalar.addi v28 c1_i32_21
  let c26_i32_22 : BitVec 32 := 26#32
  let v30 : BitVec 1 := Scalar.cmpi .slt v29 c26_i32_22
  let v31 : BitVec 32 := Scalar.extui v30
  let c0_i32_23 : BitVec 32 := 0#32
  let v32 : BitVec 1 := Scalar.cmpi .ne v31 c0_i32_23
  v32

@[reducible] def k0_t34_loop : Scf.Loop 32 :=
  let c0_i32_31 : BitVec 32 := 0#32
  let c15_i32 : BitVec 32 := 15#32
  let v39 : BitVec 32 := Scalar.addi c0_i32_31 c15_i32
  let c1_i32_32 : BitVec 32 := 1#32
  ⟨c0_i32_31, v39, c1_i32_32⟩
def k0_off36 (k0_t34 : Fin k0_t34_loop.trips) (c0_i32_227 : BitVec 32) : Fin 2 → Nat :=
  let c0_i32_31 : BitVec 32 := 0#32
  let c1_i32_32 : BitVec 32 := 1#32
  let arg18 : BitVec 32 := Scf.iv c0_i32_31 c1_i32_32 k0_t34
  let c8_i32_226 : BitVec 32 := 8#32
  let v236 : BitVec 32 := Scalar.muli arg18 c8_i32_226
  let v237 : BitVec 32 := Scalar.addi v236 c0_i32_227
  let v238 : Index := Scalar.indexCast v237
  let c0_228 : Index := 0#32
  ![v238.toNat, 0]
@[reducible] def k0_t35_loop : Scf.Loop 32 :=
  let c0_i32_36 : BitVec 32 := 0#32
  let c15_i32_37 : BitVec 32 := 15#32
  let v45 : BitVec 32 := Scalar.addi c0_i32_36 c15_i32_37
  let c1_i32_38 : BitVec 32 := 1#32
  ⟨c0_i32_36, v45, c1_i32_38⟩
def k0_off37 (k0_t35 : Fin k0_t35_loop.trips) (c0_i32_227 : BitVec 32) : Fin 2 → Nat :=
  let c0_i32_36 : BitVec 32 := 0#32
  let c1_i32_38 : BitVec 32 := 1#32
  let arg18 : BitVec 32 := Scf.iv c0_i32_36 c1_i32_38 k0_t35
  let c8_i32_226 : BitVec 32 := 8#32
  let v236 : BitVec 32 := Scalar.muli arg18 c8_i32_226
  let v237 : BitVec 32 := Scalar.addi v236 c0_i32_227
  let v238 : Index := Scalar.indexCast v237
  let c16_228 : Index := 16#32
  ![v238.toNat, 16]
@[reducible] def k0_t36_loop : Scf.Loop 32 :=
  let c0_i32_42 : BitVec 32 := 0#32
  let c15_i32_43 : BitVec 32 := 15#32
  let v51 : BitVec 32 := Scalar.addi c0_i32_42 c15_i32_43
  let c1_i32_44 : BitVec 32 := 1#32
  ⟨c0_i32_42, v51, c1_i32_44⟩
def k0_off38 (k0_t36 : Fin k0_t36_loop.trips) (c0_i32_227 : BitVec 32) : Fin 2 → Nat :=
  let c0_i32_42 : BitVec 32 := 0#32
  let c1_i32_44 : BitVec 32 := 1#32
  let arg18 : BitVec 32 := Scf.iv c0_i32_42 c1_i32_44 k0_t36
  let c8_i32_226 : BitVec 32 := 8#32
  let v236 : BitVec 32 := Scalar.muli arg18 c8_i32_226
  let v237 : BitVec 32 := Scalar.addi v236 c0_i32_227
  let v238 : Index := Scalar.indexCast v237
  let c32_228 : Index := 32#32
  ![v238.toNat, 32]
@[reducible] def k0_t37_loop : Scf.Loop 32 :=
  let c0_i32_48 : BitVec 32 := 0#32
  let c15_i32_49 : BitVec 32 := 15#32
  let v57 : BitVec 32 := Scalar.addi c0_i32_48 c15_i32_49
  let c1_i32_50 : BitVec 32 := 1#32
  ⟨c0_i32_48, v57, c1_i32_50⟩
def k0_off39 (k0_t37 : Fin k0_t37_loop.trips) (c0_i32_227 : BitVec 32) : Fin 2 → Nat :=
  let c0_i32_48 : BitVec 32 := 0#32
  let c1_i32_50 : BitVec 32 := 1#32
  let arg18 : BitVec 32 := Scf.iv c0_i32_48 c1_i32_50 k0_t37
  let c8_i32_226 : BitVec 32 := 8#32
  let v236 : BitVec 32 := Scalar.muli arg18 c8_i32_226
  let v237 : BitVec 32 := Scalar.addi v236 c0_i32_227
  let v238 : Index := Scalar.indexCast v237
  let c48_228 : Index := 48#32
  ![v238.toNat, 48]
@[reducible] def k0_t38_loop : Scf.Loop 32 :=
  let c0_i32_54 : BitVec 32 := 0#32
  let c15_i32_55 : BitVec 32 := 15#32
  let v63 : BitVec 32 := Scalar.addi c0_i32_54 c15_i32_55
  let c1_i32_56 : BitVec 32 := 1#32
  ⟨c0_i32_54, v63, c1_i32_56⟩
def k0_off40 (k0_t38 : Fin k0_t38_loop.trips) (c0_i32_227 : BitVec 32) : Fin 2 → Nat :=
  let c0_i32_54 : BitVec 32 := 0#32
  let c1_i32_56 : BitVec 32 := 1#32
  let arg18 : BitVec 32 := Scf.iv c0_i32_54 c1_i32_56 k0_t38
  let c8_i32_226 : BitVec 32 := 8#32
  let v236 : BitVec 32 := Scalar.muli arg18 c8_i32_226
  let v237 : BitVec 32 := Scalar.addi v236 c0_i32_227
  let v238 : Index := Scalar.indexCast v237
  let c64_228 : Index := 64#32
  ![v238.toNat, 64]
@[reducible] def k0_t39_loop : Scf.Loop 32 :=
  let c0_i32_60 : BitVec 32 := 0#32
  let c15_i32_61 : BitVec 32 := 15#32
  let v69 : BitVec 32 := Scalar.addi c0_i32_60 c15_i32_61
  let c1_i32_62 : BitVec 32 := 1#32
  ⟨c0_i32_60, v69, c1_i32_62⟩
def k0_off41 (k0_t39 : Fin k0_t39_loop.trips) (c0_i32_227 : BitVec 32) : Fin 2 → Nat :=
  let c0_i32_60 : BitVec 32 := 0#32
  let c1_i32_62 : BitVec 32 := 1#32
  let arg18 : BitVec 32 := Scf.iv c0_i32_60 c1_i32_62 k0_t39
  let c8_i32_226 : BitVec 32 := 8#32
  let v236 : BitVec 32 := Scalar.muli arg18 c8_i32_226
  let v237 : BitVec 32 := Scalar.addi v236 c0_i32_227
  let v238 : Index := Scalar.indexCast v237
  let c80_228 : Index := 80#32
  ![v238.toNat, 80]
@[reducible] def k0_t40_loop : Scf.Loop 32 :=
  let c0_i32_66 : BitVec 32 := 0#32
  let c15_i32_67 : BitVec 32 := 15#32
  let v75 : BitVec 32 := Scalar.addi c0_i32_66 c15_i32_67
  let c1_i32_68 : BitVec 32 := 1#32
  ⟨c0_i32_66, v75, c1_i32_68⟩
def k0_off42 (k0_t40 : Fin k0_t40_loop.trips) (c0_i32_227 : BitVec 32) : Fin 2 → Nat :=
  let c0_i32_66 : BitVec 32 := 0#32
  let c1_i32_68 : BitVec 32 := 1#32
  let arg18 : BitVec 32 := Scf.iv c0_i32_66 c1_i32_68 k0_t40
  let c8_i32_226 : BitVec 32 := 8#32
  let v236 : BitVec 32 := Scalar.muli arg18 c8_i32_226
  let v237 : BitVec 32 := Scalar.addi v236 c0_i32_227
  let v238 : Index := Scalar.indexCast v237
  let c96_228 : Index := 96#32
  ![v238.toNat, 96]
@[reducible] def k0_t41_loop : Scf.Loop 32 :=
  let c0_i32_72 : BitVec 32 := 0#32
  let c15_i32_73 : BitVec 32 := 15#32
  let v81 : BitVec 32 := Scalar.addi c0_i32_72 c15_i32_73
  let c1_i32_74 : BitVec 32 := 1#32
  ⟨c0_i32_72, v81, c1_i32_74⟩
def k0_off43 (k0_t41 : Fin k0_t41_loop.trips) (c0_i32_227 : BitVec 32) : Fin 2 → Nat :=
  let c0_i32_72 : BitVec 32 := 0#32
  let c1_i32_74 : BitVec 32 := 1#32
  let arg18 : BitVec 32 := Scf.iv c0_i32_72 c1_i32_74 k0_t41
  let c8_i32_226 : BitVec 32 := 8#32
  let v236 : BitVec 32 := Scalar.muli arg18 c8_i32_226
  let v237 : BitVec 32 := Scalar.addi v236 c0_i32_227
  let v238 : Index := Scalar.indexCast v237
  let c112_228 : Index := 112#32
  ![v238.toNat, 112]
@[reducible] def k0_t42_loop : Scf.Loop 32 :=
  let c0_i32_78 : BitVec 32 := 0#32
  let c15_i32_79 : BitVec 32 := 15#32
  let v87 : BitVec 32 := Scalar.addi c0_i32_78 c15_i32_79
  let c1_i32_80 : BitVec 32 := 1#32
  ⟨c0_i32_78, v87, c1_i32_80⟩
def k0_off44 (k0_t42 : Fin k0_t42_loop.trips) (c0_i32_227 : BitVec 32) : Fin 2 → Nat :=
  let c0_i32_78 : BitVec 32 := 0#32
  let c1_i32_80 : BitVec 32 := 1#32
  let arg18 : BitVec 32 := Scf.iv c0_i32_78 c1_i32_80 k0_t42
  let c8_i32_226 : BitVec 32 := 8#32
  let v236 : BitVec 32 := Scalar.muli arg18 c8_i32_226
  let v237 : BitVec 32 := Scalar.addi v236 c0_i32_227
  let v238 : Index := Scalar.indexCast v237
  let c128_228 : Index := 128#32
  ![v238.toNat, 128]
@[reducible] def k0_t43_loop : Scf.Loop 32 :=
  let c0_i32_84 : BitVec 32 := 0#32
  let c15_i32_85 : BitVec 32 := 15#32
  let v93 : BitVec 32 := Scalar.addi c0_i32_84 c15_i32_85
  let c1_i32_86 : BitVec 32 := 1#32
  ⟨c0_i32_84, v93, c1_i32_86⟩
def k0_off45 (k0_t43 : Fin k0_t43_loop.trips) (c0_i32_227 : BitVec 32) : Fin 2 → Nat :=
  let c0_i32_84 : BitVec 32 := 0#32
  let c1_i32_86 : BitVec 32 := 1#32
  let arg18 : BitVec 32 := Scf.iv c0_i32_84 c1_i32_86 k0_t43
  let c8_i32_226 : BitVec 32 := 8#32
  let v236 : BitVec 32 := Scalar.muli arg18 c8_i32_226
  let v237 : BitVec 32 := Scalar.addi v236 c0_i32_227
  let v238 : Index := Scalar.indexCast v237
  let c144_228 : Index := 144#32
  ![v238.toNat, 144]
@[reducible] def k0_t44_loop : Scf.Loop 32 :=
  let c0_i32_90 : BitVec 32 := 0#32
  let c15_i32_91 : BitVec 32 := 15#32
  let v99 : BitVec 32 := Scalar.addi c0_i32_90 c15_i32_91
  let c1_i32_92 : BitVec 32 := 1#32
  ⟨c0_i32_90, v99, c1_i32_92⟩
def k0_off46 (k0_t44 : Fin k0_t44_loop.trips) (c0_i32_227 : BitVec 32) : Fin 2 → Nat :=
  let c0_i32_90 : BitVec 32 := 0#32
  let c1_i32_92 : BitVec 32 := 1#32
  let arg18 : BitVec 32 := Scf.iv c0_i32_90 c1_i32_92 k0_t44
  let c8_i32_226 : BitVec 32 := 8#32
  let v236 : BitVec 32 := Scalar.muli arg18 c8_i32_226
  let v237 : BitVec 32 := Scalar.addi v236 c0_i32_227
  let v238 : Index := Scalar.indexCast v237
  let c160_228 : Index := 160#32
  ![v238.toNat, 160]
@[reducible] def k0_t45_loop : Scf.Loop 32 :=
  let c0_i32_96 : BitVec 32 := 0#32
  let c15_i32_97 : BitVec 32 := 15#32
  let v105 : BitVec 32 := Scalar.addi c0_i32_96 c15_i32_97
  let c1_i32_98 : BitVec 32 := 1#32
  ⟨c0_i32_96, v105, c1_i32_98⟩
def k0_off47 (k0_t45 : Fin k0_t45_loop.trips) (c0_i32_227 : BitVec 32) : Fin 2 → Nat :=
  let c0_i32_96 : BitVec 32 := 0#32
  let c1_i32_98 : BitVec 32 := 1#32
  let arg18 : BitVec 32 := Scf.iv c0_i32_96 c1_i32_98 k0_t45
  let c8_i32_226 : BitVec 32 := 8#32
  let v236 : BitVec 32 := Scalar.muli arg18 c8_i32_226
  let v237 : BitVec 32 := Scalar.addi v236 c0_i32_227
  let v238 : Index := Scalar.indexCast v237
  let c176_228 : Index := 176#32
  ![v238.toNat, 176]
@[reducible] def k0_t46_loop : Scf.Loop 32 :=
  let c0_i32_102 : BitVec 32 := 0#32
  let c15_i32_103 : BitVec 32 := 15#32
  let v111 : BitVec 32 := Scalar.addi c0_i32_102 c15_i32_103
  let c1_i32_104 : BitVec 32 := 1#32
  ⟨c0_i32_102, v111, c1_i32_104⟩
def k0_off48 (k0_t46 : Fin k0_t46_loop.trips) (c0_i32_227 : BitVec 32) : Fin 2 → Nat :=
  let c0_i32_102 : BitVec 32 := 0#32
  let c1_i32_104 : BitVec 32 := 1#32
  let arg18 : BitVec 32 := Scf.iv c0_i32_102 c1_i32_104 k0_t46
  let c8_i32_226 : BitVec 32 := 8#32
  let v236 : BitVec 32 := Scalar.muli arg18 c8_i32_226
  let v237 : BitVec 32 := Scalar.addi v236 c0_i32_227
  let v238 : Index := Scalar.indexCast v237
  let c192_228 : Index := 192#32
  ![v238.toNat, 192]
@[reducible] def k0_t47_loop : Scf.Loop 32 :=
  let c0_i32_108 : BitVec 32 := 0#32
  let c15_i32_109 : BitVec 32 := 15#32
  let v117 : BitVec 32 := Scalar.addi c0_i32_108 c15_i32_109
  let c1_i32_110 : BitVec 32 := 1#32
  ⟨c0_i32_108, v117, c1_i32_110⟩
def k0_off49 (k0_t47 : Fin k0_t47_loop.trips) (c0_i32_227 : BitVec 32) : Fin 2 → Nat :=
  let c0_i32_108 : BitVec 32 := 0#32
  let c1_i32_110 : BitVec 32 := 1#32
  let arg18 : BitVec 32 := Scf.iv c0_i32_108 c1_i32_110 k0_t47
  let c8_i32_226 : BitVec 32 := 8#32
  let v236 : BitVec 32 := Scalar.muli arg18 c8_i32_226
  let v237 : BitVec 32 := Scalar.addi v236 c0_i32_227
  let v238 : Index := Scalar.indexCast v237
  let c208_228 : Index := 208#32
  ![v238.toNat, 208]
@[reducible] def k0_t48_loop : Scf.Loop 32 :=
  let c0_i32_114 : BitVec 32 := 0#32
  let c15_i32_115 : BitVec 32 := 15#32
  let v123 : BitVec 32 := Scalar.addi c0_i32_114 c15_i32_115
  let c1_i32_116 : BitVec 32 := 1#32
  ⟨c0_i32_114, v123, c1_i32_116⟩
def k0_off50 (k0_t48 : Fin k0_t48_loop.trips) (c0_i32_227 : BitVec 32) : Fin 2 → Nat :=
  let c0_i32_114 : BitVec 32 := 0#32
  let c1_i32_116 : BitVec 32 := 1#32
  let arg18 : BitVec 32 := Scf.iv c0_i32_114 c1_i32_116 k0_t48
  let c8_i32_226 : BitVec 32 := 8#32
  let v236 : BitVec 32 := Scalar.muli arg18 c8_i32_226
  let v237 : BitVec 32 := Scalar.addi v236 c0_i32_227
  let v238 : Index := Scalar.indexCast v237
  let c224_228 : Index := 224#32
  ![v238.toNat, 224]
@[reducible] def k0_t49_loop : Scf.Loop 32 :=
  let c0_i32_120 : BitVec 32 := 0#32
  let c15_i32_121 : BitVec 32 := 15#32
  let v129 : BitVec 32 := Scalar.addi c0_i32_120 c15_i32_121
  let c1_i32_122 : BitVec 32 := 1#32
  ⟨c0_i32_120, v129, c1_i32_122⟩
def k0_off51 (k0_t49 : Fin k0_t49_loop.trips) (c0_i32_227 : BitVec 32) : Fin 2 → Nat :=
  let c0_i32_120 : BitVec 32 := 0#32
  let c1_i32_122 : BitVec 32 := 1#32
  let arg18 : BitVec 32 := Scf.iv c0_i32_120 c1_i32_122 k0_t49
  let c8_i32_226 : BitVec 32 := 8#32
  let v236 : BitVec 32 := Scalar.muli arg18 c8_i32_226
  let v237 : BitVec 32 := Scalar.addi v236 c0_i32_227
  let v238 : Index := Scalar.indexCast v237
  let c240_228 : Index := 240#32
  ![v238.toNat, 240]
@[reducible] def k0_t50_loop : Scf.Loop 32 :=
  let c0_i32_126 : BitVec 32 := 0#32
  let c15_i32_127 : BitVec 32 := 15#32
  let v135 : BitVec 32 := Scalar.addi c0_i32_126 c15_i32_127
  let c1_i32_128 : BitVec 32 := 1#32
  ⟨c0_i32_126, v135, c1_i32_128⟩
def k0_off52 (k0_t50 : Fin k0_t50_loop.trips) (c0_i32_227 : BitVec 32) : Fin 2 → Nat :=
  let c0_i32_126 : BitVec 32 := 0#32
  let c1_i32_128 : BitVec 32 := 1#32
  let arg18 : BitVec 32 := Scf.iv c0_i32_126 c1_i32_128 k0_t50
  let c8_i32_226 : BitVec 32 := 8#32
  let v236 : BitVec 32 := Scalar.muli arg18 c8_i32_226
  let v237 : BitVec 32 := Scalar.addi v236 c0_i32_227
  let v238 : Index := Scalar.indexCast v237
  let c256_228 : Index := 256#32
  ![v238.toNat, 256]
@[reducible] def k0_t51_loop : Scf.Loop 32 :=
  let c0_i32_132 : BitVec 32 := 0#32
  let c15_i32_133 : BitVec 32 := 15#32
  let v141 : BitVec 32 := Scalar.addi c0_i32_132 c15_i32_133
  let c1_i32_134 : BitVec 32 := 1#32
  ⟨c0_i32_132, v141, c1_i32_134⟩
def k0_off53 (k0_t51 : Fin k0_t51_loop.trips) (c0_i32_227 : BitVec 32) : Fin 2 → Nat :=
  let c0_i32_132 : BitVec 32 := 0#32
  let c1_i32_134 : BitVec 32 := 1#32
  let arg18 : BitVec 32 := Scf.iv c0_i32_132 c1_i32_134 k0_t51
  let c8_i32_226 : BitVec 32 := 8#32
  let v236 : BitVec 32 := Scalar.muli arg18 c8_i32_226
  let v237 : BitVec 32 := Scalar.addi v236 c0_i32_227
  let v238 : Index := Scalar.indexCast v237
  let c272_228 : Index := 272#32
  ![v238.toNat, 272]
@[reducible] def k0_t52_loop : Scf.Loop 32 :=
  let c0_i32_138 : BitVec 32 := 0#32
  let c15_i32_139 : BitVec 32 := 15#32
  let v147 : BitVec 32 := Scalar.addi c0_i32_138 c15_i32_139
  let c1_i32_140 : BitVec 32 := 1#32
  ⟨c0_i32_138, v147, c1_i32_140⟩
def k0_off54 (k0_t52 : Fin k0_t52_loop.trips) (c0_i32_227 : BitVec 32) : Fin 2 → Nat :=
  let c0_i32_138 : BitVec 32 := 0#32
  let c1_i32_140 : BitVec 32 := 1#32
  let arg18 : BitVec 32 := Scf.iv c0_i32_138 c1_i32_140 k0_t52
  let c8_i32_226 : BitVec 32 := 8#32
  let v236 : BitVec 32 := Scalar.muli arg18 c8_i32_226
  let v237 : BitVec 32 := Scalar.addi v236 c0_i32_227
  let v238 : Index := Scalar.indexCast v237
  let c288_228 : Index := 288#32
  ![v238.toNat, 288]
@[reducible] def k0_t53_loop : Scf.Loop 32 :=
  let c0_i32_144 : BitVec 32 := 0#32
  let c15_i32_145 : BitVec 32 := 15#32
  let v153 : BitVec 32 := Scalar.addi c0_i32_144 c15_i32_145
  let c1_i32_146 : BitVec 32 := 1#32
  ⟨c0_i32_144, v153, c1_i32_146⟩
def k0_off55 (k0_t53 : Fin k0_t53_loop.trips) (c0_i32_227 : BitVec 32) : Fin 2 → Nat :=
  let c0_i32_144 : BitVec 32 := 0#32
  let c1_i32_146 : BitVec 32 := 1#32
  let arg18 : BitVec 32 := Scf.iv c0_i32_144 c1_i32_146 k0_t53
  let c8_i32_226 : BitVec 32 := 8#32
  let v236 : BitVec 32 := Scalar.muli arg18 c8_i32_226
  let v237 : BitVec 32 := Scalar.addi v236 c0_i32_227
  let v238 : Index := Scalar.indexCast v237
  let c304_228 : Index := 304#32
  ![v238.toNat, 304]
@[reducible] def k0_t54_loop : Scf.Loop 32 :=
  let c0_i32_150 : BitVec 32 := 0#32
  let c15_i32_151 : BitVec 32 := 15#32
  let v159 : BitVec 32 := Scalar.addi c0_i32_150 c15_i32_151
  let c1_i32_152 : BitVec 32 := 1#32
  ⟨c0_i32_150, v159, c1_i32_152⟩
def k0_off56 (k0_t54 : Fin k0_t54_loop.trips) (c0_i32_227 : BitVec 32) : Fin 2 → Nat :=
  let c0_i32_150 : BitVec 32 := 0#32
  let c1_i32_152 : BitVec 32 := 1#32
  let arg18 : BitVec 32 := Scf.iv c0_i32_150 c1_i32_152 k0_t54
  let c8_i32_226 : BitVec 32 := 8#32
  let v236 : BitVec 32 := Scalar.muli arg18 c8_i32_226
  let v237 : BitVec 32 := Scalar.addi v236 c0_i32_227
  let v238 : Index := Scalar.indexCast v237
  let c320_228 : Index := 320#32
  ![v238.toNat, 320]
@[reducible] def k0_t55_loop : Scf.Loop 32 :=
  let c0_i32_156 : BitVec 32 := 0#32
  let c15_i32_157 : BitVec 32 := 15#32
  let v165 : BitVec 32 := Scalar.addi c0_i32_156 c15_i32_157
  let c1_i32_158 : BitVec 32 := 1#32
  ⟨c0_i32_156, v165, c1_i32_158⟩
def k0_off57 (k0_t55 : Fin k0_t55_loop.trips) (c0_i32_227 : BitVec 32) : Fin 2 → Nat :=
  let c0_i32_156 : BitVec 32 := 0#32
  let c1_i32_158 : BitVec 32 := 1#32
  let arg18 : BitVec 32 := Scf.iv c0_i32_156 c1_i32_158 k0_t55
  let c8_i32_226 : BitVec 32 := 8#32
  let v236 : BitVec 32 := Scalar.muli arg18 c8_i32_226
  let v237 : BitVec 32 := Scalar.addi v236 c0_i32_227
  let v238 : Index := Scalar.indexCast v237
  let c336_228 : Index := 336#32
  ![v238.toNat, 336]
@[reducible] def k0_t56_loop : Scf.Loop 32 :=
  let c0_i32_162 : BitVec 32 := 0#32
  let c15_i32_163 : BitVec 32 := 15#32
  let v171 : BitVec 32 := Scalar.addi c0_i32_162 c15_i32_163
  let c1_i32_164 : BitVec 32 := 1#32
  ⟨c0_i32_162, v171, c1_i32_164⟩
def k0_off58 (k0_t56 : Fin k0_t56_loop.trips) (c0_i32_227 : BitVec 32) : Fin 2 → Nat :=
  let c0_i32_162 : BitVec 32 := 0#32
  let c1_i32_164 : BitVec 32 := 1#32
  let arg18 : BitVec 32 := Scf.iv c0_i32_162 c1_i32_164 k0_t56
  let c8_i32_226 : BitVec 32 := 8#32
  let v236 : BitVec 32 := Scalar.muli arg18 c8_i32_226
  let v237 : BitVec 32 := Scalar.addi v236 c0_i32_227
  let v238 : Index := Scalar.indexCast v237
  let c352_228 : Index := 352#32
  ![v238.toNat, 352]
@[reducible] def k0_t57_loop : Scf.Loop 32 :=
  let c0_i32_168 : BitVec 32 := 0#32
  let c15_i32_169 : BitVec 32 := 15#32
  let v177 : BitVec 32 := Scalar.addi c0_i32_168 c15_i32_169
  let c1_i32_170 : BitVec 32 := 1#32
  ⟨c0_i32_168, v177, c1_i32_170⟩
def k0_off59 (k0_t57 : Fin k0_t57_loop.trips) (c0_i32_227 : BitVec 32) : Fin 2 → Nat :=
  let c0_i32_168 : BitVec 32 := 0#32
  let c1_i32_170 : BitVec 32 := 1#32
  let arg18 : BitVec 32 := Scf.iv c0_i32_168 c1_i32_170 k0_t57
  let c8_i32_226 : BitVec 32 := 8#32
  let v236 : BitVec 32 := Scalar.muli arg18 c8_i32_226
  let v237 : BitVec 32 := Scalar.addi v236 c0_i32_227
  let v238 : Index := Scalar.indexCast v237
  let c368_228 : Index := 368#32
  ![v238.toNat, 368]
@[reducible] def k0_t58_loop : Scf.Loop 32 :=
  let c0_i32_174 : BitVec 32 := 0#32
  let c15_i32_175 : BitVec 32 := 15#32
  let v183 : BitVec 32 := Scalar.addi c0_i32_174 c15_i32_175
  let c1_i32_176 : BitVec 32 := 1#32
  ⟨c0_i32_174, v183, c1_i32_176⟩
def k0_off60 (k0_t58 : Fin k0_t58_loop.trips) (c0_i32_227 : BitVec 32) : Fin 2 → Nat :=
  let c0_i32_174 : BitVec 32 := 0#32
  let c1_i32_176 : BitVec 32 := 1#32
  let arg18 : BitVec 32 := Scf.iv c0_i32_174 c1_i32_176 k0_t58
  let c8_i32_226 : BitVec 32 := 8#32
  let v236 : BitVec 32 := Scalar.muli arg18 c8_i32_226
  let v237 : BitVec 32 := Scalar.addi v236 c0_i32_227
  let v238 : Index := Scalar.indexCast v237
  let c384_228 : Index := 384#32
  ![v238.toNat, 384]
@[reducible] def k0_t59_loop : Scf.Loop 32 :=
  let c0_i32_180 : BitVec 32 := 0#32
  let c15_i32_181 : BitVec 32 := 15#32
  let v189 : BitVec 32 := Scalar.addi c0_i32_180 c15_i32_181
  let c1_i32_182 : BitVec 32 := 1#32
  ⟨c0_i32_180, v189, c1_i32_182⟩
def k0_off61 (k0_t59 : Fin k0_t59_loop.trips) (c0_i32_227 : BitVec 32) : Fin 2 → Nat :=
  let c0_i32_180 : BitVec 32 := 0#32
  let c1_i32_182 : BitVec 32 := 1#32
  let arg18 : BitVec 32 := Scf.iv c0_i32_180 c1_i32_182 k0_t59
  let c8_i32_226 : BitVec 32 := 8#32
  let v236 : BitVec 32 := Scalar.muli arg18 c8_i32_226
  let v237 : BitVec 32 := Scalar.addi v236 c0_i32_227
  let v238 : Index := Scalar.indexCast v237
  let c400_228 : Index := 400#32
  ![v238.toNat, 400]
@[reducible] def k0_t60_loop : Scf.Loop 32 :=
  let c0_i32_186 : BitVec 32 := 0#32
  let c15_i32_187 : BitVec 32 := 15#32
  let v195 : BitVec 32 := Scalar.addi c0_i32_186 c15_i32_187
  let c1_i32_188 : BitVec 32 := 1#32
  ⟨c0_i32_186, v195, c1_i32_188⟩
def k0_off62 (k0_t60 : Fin k0_t60_loop.trips) (c0_i32_227 : BitVec 32) : Fin 2 → Nat :=
  let c0_i32_186 : BitVec 32 := 0#32
  let c1_i32_188 : BitVec 32 := 1#32
  let arg18 : BitVec 32 := Scf.iv c0_i32_186 c1_i32_188 k0_t60
  let c8_i32_226 : BitVec 32 := 8#32
  let v236 : BitVec 32 := Scalar.muli arg18 c8_i32_226
  let v237 : BitVec 32 := Scalar.addi v236 c0_i32_227
  let v238 : Index := Scalar.indexCast v237
  let c416_228 : Index := 416#32
  ![v238.toNat, 416]
@[reducible] def k0_t61_loop : Scf.Loop 32 :=
  let c0_i32_192 : BitVec 32 := 0#32
  let c15_i32_193 : BitVec 32 := 15#32
  let v201 : BitVec 32 := Scalar.addi c0_i32_192 c15_i32_193
  let c1_i32_194 : BitVec 32 := 1#32
  ⟨c0_i32_192, v201, c1_i32_194⟩
def k0_off63 (k0_t61 : Fin k0_t61_loop.trips) (c0_i32_227 : BitVec 32) : Fin 2 → Nat :=
  let c0_i32_192 : BitVec 32 := 0#32
  let c1_i32_194 : BitVec 32 := 1#32
  let arg18 : BitVec 32 := Scf.iv c0_i32_192 c1_i32_194 k0_t61
  let c8_i32_226 : BitVec 32 := 8#32
  let v236 : BitVec 32 := Scalar.muli arg18 c8_i32_226
  let v237 : BitVec 32 := Scalar.addi v236 c0_i32_227
  let v238 : Index := Scalar.indexCast v237
  let c432_228 : Index := 432#32
  ![v238.toNat, 432]
@[reducible] def k0_t62_loop : Scf.Loop 32 :=
  let c0_i32_198 : BitVec 32 := 0#32
  let c15_i32_199 : BitVec 32 := 15#32
  let v207 : BitVec 32 := Scalar.addi c0_i32_198 c15_i32_199
  let c1_i32_200 : BitVec 32 := 1#32
  ⟨c0_i32_198, v207, c1_i32_200⟩
def k0_off64 (k0_t62 : Fin k0_t62_loop.trips) (c0_i32_227 : BitVec 32) : Fin 2 → Nat :=
  let c0_i32_198 : BitVec 32 := 0#32
  let c1_i32_200 : BitVec 32 := 1#32
  let arg18 : BitVec 32 := Scf.iv c0_i32_198 c1_i32_200 k0_t62
  let c8_i32_226 : BitVec 32 := 8#32
  let v236 : BitVec 32 := Scalar.muli arg18 c8_i32_226
  let v237 : BitVec 32 := Scalar.addi v236 c0_i32_227
  let v238 : Index := Scalar.indexCast v237
  let c448_228 : Index := 448#32
  ![v238.toNat, 448]
@[reducible] def k0_t63_loop : Scf.Loop 32 :=
  let c0_i32_204 : BitVec 32 := 0#32
  let c15_i32_205 : BitVec 32 := 15#32
  let v213 : BitVec 32 := Scalar.addi c0_i32_204 c15_i32_205
  let c1_i32_206 : BitVec 32 := 1#32
  ⟨c0_i32_204, v213, c1_i32_206⟩
def k0_off65 (k0_t63 : Fin k0_t63_loop.trips) (c0_i32_227 : BitVec 32) : Fin 2 → Nat :=
  let c0_i32_204 : BitVec 32 := 0#32
  let c1_i32_206 : BitVec 32 := 1#32
  let arg18 : BitVec 32 := Scf.iv c0_i32_204 c1_i32_206 k0_t63
  let c8_i32_226 : BitVec 32 := 8#32
  let v236 : BitVec 32 := Scalar.muli arg18 c8_i32_226
  let v237 : BitVec 32 := Scalar.addi v236 c0_i32_227
  let v238 : Index := Scalar.indexCast v237
  let c464_228 : Index := 464#32
  ![v238.toNat, 464]
@[reducible] def k0_t64_loop : Scf.Loop 32 :=
  let c0_i32_210 : BitVec 32 := 0#32
  let c15_i32_211 : BitVec 32 := 15#32
  let v219 : BitVec 32 := Scalar.addi c0_i32_210 c15_i32_211
  let c1_i32_212 : BitVec 32 := 1#32
  ⟨c0_i32_210, v219, c1_i32_212⟩
def k0_off66 (k0_t64 : Fin k0_t64_loop.trips) (c0_i32_227 : BitVec 32) : Fin 2 → Nat :=
  let c0_i32_210 : BitVec 32 := 0#32
  let c1_i32_212 : BitVec 32 := 1#32
  let arg18 : BitVec 32 := Scf.iv c0_i32_210 c1_i32_212 k0_t64
  let c8_i32_226 : BitVec 32 := 8#32
  let v236 : BitVec 32 := Scalar.muli arg18 c8_i32_226
  let v237 : BitVec 32 := Scalar.addi v236 c0_i32_227
  let v238 : Index := Scalar.indexCast v237
  let c480_228 : Index := 480#32
  ![v238.toNat, 480]
@[reducible] def k0_t65_loop : Scf.Loop 32 :=
  let c0_i32_216 : BitVec 32 := 0#32
  let c15_i32_217 : BitVec 32 := 15#32
  let v225 : BitVec 32 := Scalar.addi c0_i32_216 c15_i32_217
  let c1_i32_218 : BitVec 32 := 1#32
  ⟨c0_i32_216, v225, c1_i32_218⟩
def k0_off67 (k0_t65 : Fin k0_t65_loop.trips) (c0_i32_227 : BitVec 32) : Fin 2 → Nat :=
  let c0_i32_216 : BitVec 32 := 0#32
  let c1_i32_218 : BitVec 32 := 1#32
  let arg18 : BitVec 32 := Scf.iv c0_i32_216 c1_i32_218 k0_t65
  let c8_i32_226 : BitVec 32 := 8#32
  let v236 : BitVec 32 := Scalar.muli arg18 c8_i32_226
  let v237 : BitVec 32 := Scalar.addi v236 c0_i32_227
  let v238 : Index := Scalar.indexCast v237
  let c496_228 : Index := 496#32
  ![v238.toNat, 496]
def k0_mult5 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c390_i32 : BitVec 32 := 390#32
  let v2 : BitVec 32 := Scalar.muli v1 c390_i32
  let c20_i32 : BitVec 32 := 20#32
  let v3 : BitVec 32 := Scalar.minsi v1 c20_i32
  let v4 : BitVec 32 := Scalar.addi v2 v3
  let c8_i32 : BitVec 32 := 8#32
  let v5 : BitVec 32 := Scalar.muli v4 c8_i32
  let c0_i32_5 : BitVec 32 := 0#32
  let c1_i32 : BitVec 32 := 1#32
  let arg16 : BitVec 32 := Scf.iv c0_i32_5 c1_i32 k0_t1
  let c2_i32_20 : BitVec 32 := 2#32
  let v28 : BitVec 32 := Scalar.muli arg16 c2_i32_20
  let c1_i32_21 : BitVec 32 := 1#32
  let v29 : BitVec 32 := Scalar.addi v28 c1_i32_21
  let c120_i32_220 : BitVec 32 := 120#32
  let v227 : BitVec 32 := Scalar.muli v29 c120_i32_220
  let v228 : BitVec 32 := Scalar.addi v5 v227
  v228
def k0_off68 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c390_i32 : BitVec 32 := 390#32
  let v2 : BitVec 32 := Scalar.muli v1 c390_i32
  let c20_i32 : BitVec 32 := 20#32
  let v3 : BitVec 32 := Scalar.minsi v1 c20_i32
  let v4 : BitVec 32 := Scalar.addi v2 v3
  let c8_i32 : BitVec 32 := 8#32
  let v5 : BitVec 32 := Scalar.muli v4 c8_i32
  let c0_i32_5 : BitVec 32 := 0#32
  let c1_i32 : BitVec 32 := 1#32
  let arg16 : BitVec 32 := Scf.iv c0_i32_5 c1_i32 k0_t1
  let c2_i32_20 : BitVec 32 := 2#32
  let v28 : BitVec 32 := Scalar.muli arg16 c2_i32_20
  let c1_i32_21 : BitVec 32 := 1#32
  let v29 : BitVec 32 := Scalar.addi v28 c1_i32_21
  let c120_i32_220 : BitVec 32 := 120#32
  let v227 : BitVec 32 := Scalar.muli v29 c120_i32_220
  let v228 : BitVec 32 := Scalar.addi v5 v227
  let v229 : BitVec 32 := v228
  let c0_i32_221 : BitVec 32 := 0#32
  ![v229.toNat, 0]
def k0_cond4 (k0_t1 : Fin k0_t1_loop.trips) : BitVec 1 :=
  let c0_i32_5 : BitVec 32 := 0#32
  let c1_i32 : BitVec 32 := 1#32
  let arg16 : BitVec 32 := Scf.iv c0_i32_5 c1_i32 k0_t1
  let c2_i32_20 : BitVec 32 := 2#32
  let v28 : BitVec 32 := Scalar.muli arg16 c2_i32_20
  let c1_i32_21 : BitVec 32 := 1#32
  let v29 : BitVec 32 := Scalar.addi v28 c1_i32_21
  let c2_i32_223 : BitVec 32 := 2#32
  let v232 : BitVec 32 := Scalar.addi v29 c2_i32_223
  let c26_i32_224 : BitVec 32 := 26#32
  let v233 : BitVec 1 := Scalar.cmpi .slt v232 c26_i32_224
  let v234 : BitVec 32 := Scalar.extui v233
  let c0_i32_225 : BitVec 32 := 0#32
  let v235 : BitVec 1 := Scalar.cmpi .ne v234 c0_i32_225
  v235

def k0_mult6 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c390_i32 : BitVec 32 := 390#32
  let v2 : BitVec 32 := Scalar.muli v1 c390_i32
  let c20_i32 : BitVec 32 := 20#32
  let v3 : BitVec 32 := Scalar.minsi v1 c20_i32
  let v4 : BitVec 32 := Scalar.addi v2 v3
  let c8_i32 : BitVec 32 := 8#32
  let v5 : BitVec 32 := Scalar.muli v4 c8_i32
  let c0_i32_5 : BitVec 32 := 0#32
  let c1_i32 : BitVec 32 := 1#32
  let arg16 : BitVec 32 := Scf.iv c0_i32_5 c1_i32 k0_t1
  let c2_i32_20 : BitVec 32 := 2#32
  let v28 : BitVec 32 := Scalar.muli arg16 c2_i32_20
  let c1_i32_21 : BitVec 32 := 1#32
  let v29 : BitVec 32 := Scalar.addi v28 c1_i32_21
  let c2_i32_230 : BitVec 32 := 2#32
  let v238 : BitVec 32 := Scalar.addi v29 c2_i32_230
  let c120_i32_231 : BitVec 32 := 120#32
  let v239 : BitVec 32 := Scalar.muli v238 c120_i32_231
  let v240 : BitVec 32 := Scalar.addi v5 v239
  v240
def k0_off69 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c390_i32 : BitVec 32 := 390#32
  let v2 : BitVec 32 := Scalar.muli v1 c390_i32
  let c20_i32 : BitVec 32 := 20#32
  let v3 : BitVec 32 := Scalar.minsi v1 c20_i32
  let v4 : BitVec 32 := Scalar.addi v2 v3
  let c8_i32 : BitVec 32 := 8#32
  let v5 : BitVec 32 := Scalar.muli v4 c8_i32
  let c0_i32_5 : BitVec 32 := 0#32
  let c1_i32 : BitVec 32 := 1#32
  let arg16 : BitVec 32 := Scf.iv c0_i32_5 c1_i32 k0_t1
  let c2_i32_20 : BitVec 32 := 2#32
  let v28 : BitVec 32 := Scalar.muli arg16 c2_i32_20
  let c1_i32_21 : BitVec 32 := 1#32
  let v29 : BitVec 32 := Scalar.addi v28 c1_i32_21
  let c2_i32_230 : BitVec 32 := 2#32
  let v238 : BitVec 32 := Scalar.addi v29 c2_i32_230
  let c120_i32_231 : BitVec 32 := 120#32
  let v239 : BitVec 32 := Scalar.muli v238 c120_i32_231
  let v240 : BitVec 32 := Scalar.addi v5 v239
  let v241 : BitVec 32 := v240
  let c0_i32_232 : BitVec 32 := 0#32
  ![v241.toNat, 0]
def k0_cond5 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32_15 : BitVec 32 := 20#32
  let v20 : BitVec 1 := Scalar.cmpi .slt v1 c20_i32_15
  let v21 : BitVec 32 := Scalar.extui v20
  let c0_i32_16 : BitVec 32 := 0#32
  let v22 : BitVec 1 := Scalar.cmpi .ne v21 c0_i32_16
  v22

def k0_mult7 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c390_i32 : BitVec 32 := 390#32
  let v2 : BitVec 32 := Scalar.muli v1 c390_i32
  let c20_i32 : BitVec 32 := 20#32
  let v3 : BitVec 32 := Scalar.minsi v1 c20_i32
  let v4 : BitVec 32 := Scalar.addi v2 v3
  let c8_i32 : BitVec 32 := 8#32
  let v5 : BitVec 32 := Scalar.muli v4 c8_i32
  let c3120_i32 : BitVec 32 := 3120#32
  let v23 : BitVec 32 := Scalar.addi v5 c3120_i32
  v23
def k0_off70 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c390_i32 : BitVec 32 := 390#32
  let v2 : BitVec 32 := Scalar.muli v1 c390_i32
  let c20_i32 : BitVec 32 := 20#32
  let v3 : BitVec 32 := Scalar.minsi v1 c20_i32
  let v4 : BitVec 32 := Scalar.addi v2 v3
  let c8_i32 : BitVec 32 := 8#32
  let v5 : BitVec 32 := Scalar.muli v4 c8_i32
  let c3120_i32 : BitVec 32 := 3120#32
  let v23 : BitVec 32 := Scalar.addi v5 c3120_i32
  let v24 : BitVec 32 := v23
  let c0_i32_19 : BitVec 32 := 0#32
  ![v24.toNat, 0]
def k0_off71 (c0_i32_35 : BitVec 32) : Fin 2 → Nat :=
  let c0_i32_33 : BitVec 32 := 0#32
  let c8_i32_34 : BitVec 32 := 8#32
  let v37 : BitVec 32 := Scalar.muli c0_i32_33 c8_i32_34
  let v38 : BitVec 32 := Scalar.addi v37 c0_i32_35
  let v39 : Index := Scalar.indexCast v38
  let c0_36 : Index := 0#32
  ![v39.toNat, 0]
def k0_off72 (c0_i32_83 : BitVec 32) : Fin 2 → Nat :=
  let c0_i32_81 : BitVec 32 := 0#32
  let c8_i32_82 : BitVec 32 := 8#32
  let v145 : BitVec 32 := Scalar.muli c0_i32_81 c8_i32_82
  let v146 : BitVec 32 := Scalar.addi v145 c0_i32_83
  let v147 : Index := Scalar.indexCast v146
  let c16_84 : Index := 16#32
  ![v147.toNat, 16]
def k0_off73 (c0_i32_136 : BitVec 32) : Fin 2 → Nat :=
  let c0_i32_134 : BitVec 32 := 0#32
  let c8_i32_135 : BitVec 32 := 8#32
  let v253 : BitVec 32 := Scalar.muli c0_i32_134 c8_i32_135
  let v254 : BitVec 32 := Scalar.addi v253 c0_i32_136
  let v255 : Index := Scalar.indexCast v254
  let c32_137 : Index := 32#32
  ![v255.toNat, 32]
def k0_off74 (c0_i32_189 : BitVec 32) : Fin 2 → Nat :=
  let c0_i32_187 : BitVec 32 := 0#32
  let c8_i32_188 : BitVec 32 := 8#32
  let v361 : BitVec 32 := Scalar.muli c0_i32_187 c8_i32_188
  let v362 : BitVec 32 := Scalar.addi v361 c0_i32_189
  let v363 : Index := Scalar.indexCast v362
  let c48_190 : Index := 48#32
  ![v363.toNat, 48]
def k0_off75 (c0_i32_242 : BitVec 32) : Fin 2 → Nat :=
  let c0_i32_240 : BitVec 32 := 0#32
  let c8_i32_241 : BitVec 32 := 8#32
  let v469 : BitVec 32 := Scalar.muli c0_i32_240 c8_i32_241
  let v470 : BitVec 32 := Scalar.addi v469 c0_i32_242
  let v471 : Index := Scalar.indexCast v470
  let c64_243 : Index := 64#32
  ![v471.toNat, 64]
def k0_off76 (c0_i32_295 : BitVec 32) : Fin 2 → Nat :=
  let c0_i32_293 : BitVec 32 := 0#32
  let c8_i32_294 : BitVec 32 := 8#32
  let v577 : BitVec 32 := Scalar.muli c0_i32_293 c8_i32_294
  let v578 : BitVec 32 := Scalar.addi v577 c0_i32_295
  let v579 : Index := Scalar.indexCast v578
  let c80_296 : Index := 80#32
  ![v579.toNat, 80]
def k0_off77 (c0_i32_348 : BitVec 32) : Fin 2 → Nat :=
  let c0_i32_346 : BitVec 32 := 0#32
  let c8_i32_347 : BitVec 32 := 8#32
  let v685 : BitVec 32 := Scalar.muli c0_i32_346 c8_i32_347
  let v686 : BitVec 32 := Scalar.addi v685 c0_i32_348
  let v687 : Index := Scalar.indexCast v686
  let c96_349 : Index := 96#32
  ![v687.toNat, 96]
def k0_off78 (c0_i32_401 : BitVec 32) : Fin 2 → Nat :=
  let c0_i32_399 : BitVec 32 := 0#32
  let c8_i32_400 : BitVec 32 := 8#32
  let v793 : BitVec 32 := Scalar.muli c0_i32_399 c8_i32_400
  let v794 : BitVec 32 := Scalar.addi v793 c0_i32_401
  let v795 : Index := Scalar.indexCast v794
  let c112_402 : Index := 112#32
  ![v795.toNat, 112]
def k0_off79 (c0_i32_454 : BitVec 32) : Fin 2 → Nat :=
  let c0_i32_452 : BitVec 32 := 0#32
  let c8_i32_453 : BitVec 32 := 8#32
  let v901 : BitVec 32 := Scalar.muli c0_i32_452 c8_i32_453
  let v902 : BitVec 32 := Scalar.addi v901 c0_i32_454
  let v903 : Index := Scalar.indexCast v902
  let c128_455 : Index := 128#32
  ![v903.toNat, 128]
def k0_off80 (c0_i32_507 : BitVec 32) : Fin 2 → Nat :=
  let c0_i32_505 : BitVec 32 := 0#32
  let c8_i32_506 : BitVec 32 := 8#32
  let v1009 : BitVec 32 := Scalar.muli c0_i32_505 c8_i32_506
  let v1010 : BitVec 32 := Scalar.addi v1009 c0_i32_507
  let v1011 : Index := Scalar.indexCast v1010
  let c144_508 : Index := 144#32
  ![v1011.toNat, 144]
def k0_off81 (c0_i32_560 : BitVec 32) : Fin 2 → Nat :=
  let c0_i32_558 : BitVec 32 := 0#32
  let c8_i32_559 : BitVec 32 := 8#32
  let v1117 : BitVec 32 := Scalar.muli c0_i32_558 c8_i32_559
  let v1118 : BitVec 32 := Scalar.addi v1117 c0_i32_560
  let v1119 : Index := Scalar.indexCast v1118
  let c160_561 : Index := 160#32
  ![v1119.toNat, 160]
def k0_off82 (c0_i32_613 : BitVec 32) : Fin 2 → Nat :=
  let c0_i32_611 : BitVec 32 := 0#32
  let c8_i32_612 : BitVec 32 := 8#32
  let v1225 : BitVec 32 := Scalar.muli c0_i32_611 c8_i32_612
  let v1226 : BitVec 32 := Scalar.addi v1225 c0_i32_613
  let v1227 : Index := Scalar.indexCast v1226
  let c176_614 : Index := 176#32
  ![v1227.toNat, 176]
def k0_off83 (c0_i32_666 : BitVec 32) : Fin 2 → Nat :=
  let c0_i32_664 : BitVec 32 := 0#32
  let c8_i32_665 : BitVec 32 := 8#32
  let v1333 : BitVec 32 := Scalar.muli c0_i32_664 c8_i32_665
  let v1334 : BitVec 32 := Scalar.addi v1333 c0_i32_666
  let v1335 : Index := Scalar.indexCast v1334
  let c192_667 : Index := 192#32
  ![v1335.toNat, 192]
def k0_off84 (c0_i32_719 : BitVec 32) : Fin 2 → Nat :=
  let c0_i32_717 : BitVec 32 := 0#32
  let c8_i32_718 : BitVec 32 := 8#32
  let v1441 : BitVec 32 := Scalar.muli c0_i32_717 c8_i32_718
  let v1442 : BitVec 32 := Scalar.addi v1441 c0_i32_719
  let v1443 : Index := Scalar.indexCast v1442
  let c208_720 : Index := 208#32
  ![v1443.toNat, 208]
def k0_off85 (c0_i32_772 : BitVec 32) : Fin 2 → Nat :=
  let c0_i32_770 : BitVec 32 := 0#32
  let c8_i32_771 : BitVec 32 := 8#32
  let v1549 : BitVec 32 := Scalar.muli c0_i32_770 c8_i32_771
  let v1550 : BitVec 32 := Scalar.addi v1549 c0_i32_772
  let v1551 : Index := Scalar.indexCast v1550
  let c224_773 : Index := 224#32
  ![v1551.toNat, 224]
def k0_off86 (c0_i32_825 : BitVec 32) : Fin 2 → Nat :=
  let c0_i32_823 : BitVec 32 := 0#32
  let c8_i32_824 : BitVec 32 := 8#32
  let v1657 : BitVec 32 := Scalar.muli c0_i32_823 c8_i32_824
  let v1658 : BitVec 32 := Scalar.addi v1657 c0_i32_825
  let v1659 : Index := Scalar.indexCast v1658
  let c240_826 : Index := 240#32
  ![v1659.toNat, 240]
def k0_off87 (c0_i32_878 : BitVec 32) : Fin 2 → Nat :=
  let c0_i32_876 : BitVec 32 := 0#32
  let c8_i32_877 : BitVec 32 := 8#32
  let v1765 : BitVec 32 := Scalar.muli c0_i32_876 c8_i32_877
  let v1766 : BitVec 32 := Scalar.addi v1765 c0_i32_878
  let v1767 : Index := Scalar.indexCast v1766
  let c256_879 : Index := 256#32
  ![v1767.toNat, 256]
def k0_off88 (c0_i32_931 : BitVec 32) : Fin 2 → Nat :=
  let c0_i32_929 : BitVec 32 := 0#32
  let c8_i32_930 : BitVec 32 := 8#32
  let v1873 : BitVec 32 := Scalar.muli c0_i32_929 c8_i32_930
  let v1874 : BitVec 32 := Scalar.addi v1873 c0_i32_931
  let v1875 : Index := Scalar.indexCast v1874
  let c272_932 : Index := 272#32
  ![v1875.toNat, 272]
def k0_off89 (c0_i32_984 : BitVec 32) : Fin 2 → Nat :=
  let c0_i32_982 : BitVec 32 := 0#32
  let c8_i32_983 : BitVec 32 := 8#32
  let v1981 : BitVec 32 := Scalar.muli c0_i32_982 c8_i32_983
  let v1982 : BitVec 32 := Scalar.addi v1981 c0_i32_984
  let v1983 : Index := Scalar.indexCast v1982
  let c288_985 : Index := 288#32
  ![v1983.toNat, 288]
def k0_off90 (c0_i32_1037 : BitVec 32) : Fin 2 → Nat :=
  let c0_i32_1035 : BitVec 32 := 0#32
  let c8_i32_1036 : BitVec 32 := 8#32
  let v2089 : BitVec 32 := Scalar.muli c0_i32_1035 c8_i32_1036
  let v2090 : BitVec 32 := Scalar.addi v2089 c0_i32_1037
  let v2091 : Index := Scalar.indexCast v2090
  let c304_1038 : Index := 304#32
  ![v2091.toNat, 304]
def k0_off91 (c0_i32_1090 : BitVec 32) : Fin 2 → Nat :=
  let c0_i32_1088 : BitVec 32 := 0#32
  let c8_i32_1089 : BitVec 32 := 8#32
  let v2197 : BitVec 32 := Scalar.muli c0_i32_1088 c8_i32_1089
  let v2198 : BitVec 32 := Scalar.addi v2197 c0_i32_1090
  let v2199 : Index := Scalar.indexCast v2198
  let c320_1091 : Index := 320#32
  ![v2199.toNat, 320]
def k0_off92 (c0_i32_1143 : BitVec 32) : Fin 2 → Nat :=
  let c0_i32_1141 : BitVec 32 := 0#32
  let c8_i32_1142 : BitVec 32 := 8#32
  let v2305 : BitVec 32 := Scalar.muli c0_i32_1141 c8_i32_1142
  let v2306 : BitVec 32 := Scalar.addi v2305 c0_i32_1143
  let v2307 : Index := Scalar.indexCast v2306
  let c336_1144 : Index := 336#32
  ![v2307.toNat, 336]
def k0_off93 (c0_i32_1196 : BitVec 32) : Fin 2 → Nat :=
  let c0_i32_1194 : BitVec 32 := 0#32
  let c8_i32_1195 : BitVec 32 := 8#32
  let v2413 : BitVec 32 := Scalar.muli c0_i32_1194 c8_i32_1195
  let v2414 : BitVec 32 := Scalar.addi v2413 c0_i32_1196
  let v2415 : Index := Scalar.indexCast v2414
  let c352_1197 : Index := 352#32
  ![v2415.toNat, 352]
def k0_off94 (c0_i32_1249 : BitVec 32) : Fin 2 → Nat :=
  let c0_i32_1247 : BitVec 32 := 0#32
  let c8_i32_1248 : BitVec 32 := 8#32
  let v2521 : BitVec 32 := Scalar.muli c0_i32_1247 c8_i32_1248
  let v2522 : BitVec 32 := Scalar.addi v2521 c0_i32_1249
  let v2523 : Index := Scalar.indexCast v2522
  let c368_1250 : Index := 368#32
  ![v2523.toNat, 368]
def k0_off95 (c0_i32_1302 : BitVec 32) : Fin 2 → Nat :=
  let c0_i32_1300 : BitVec 32 := 0#32
  let c8_i32_1301 : BitVec 32 := 8#32
  let v2629 : BitVec 32 := Scalar.muli c0_i32_1300 c8_i32_1301
  let v2630 : BitVec 32 := Scalar.addi v2629 c0_i32_1302
  let v2631 : Index := Scalar.indexCast v2630
  let c384_1303 : Index := 384#32
  ![v2631.toNat, 384]
def k0_off96 (c0_i32_1355 : BitVec 32) : Fin 2 → Nat :=
  let c0_i32_1353 : BitVec 32 := 0#32
  let c8_i32_1354 : BitVec 32 := 8#32
  let v2737 : BitVec 32 := Scalar.muli c0_i32_1353 c8_i32_1354
  let v2738 : BitVec 32 := Scalar.addi v2737 c0_i32_1355
  let v2739 : Index := Scalar.indexCast v2738
  let c400_1356 : Index := 400#32
  ![v2739.toNat, 400]
def k0_off97 (c0_i32_1408 : BitVec 32) : Fin 2 → Nat :=
  let c0_i32_1406 : BitVec 32 := 0#32
  let c8_i32_1407 : BitVec 32 := 8#32
  let v2845 : BitVec 32 := Scalar.muli c0_i32_1406 c8_i32_1407
  let v2846 : BitVec 32 := Scalar.addi v2845 c0_i32_1408
  let v2847 : Index := Scalar.indexCast v2846
  let c416_1409 : Index := 416#32
  ![v2847.toNat, 416]
def k0_off98 (c0_i32_1461 : BitVec 32) : Fin 2 → Nat :=
  let c0_i32_1459 : BitVec 32 := 0#32
  let c8_i32_1460 : BitVec 32 := 8#32
  let v2953 : BitVec 32 := Scalar.muli c0_i32_1459 c8_i32_1460
  let v2954 : BitVec 32 := Scalar.addi v2953 c0_i32_1461
  let v2955 : Index := Scalar.indexCast v2954
  let c432_1462 : Index := 432#32
  ![v2955.toNat, 432]
def k0_off99 (c0_i32_1514 : BitVec 32) : Fin 2 → Nat :=
  let c0_i32_1512 : BitVec 32 := 0#32
  let c8_i32_1513 : BitVec 32 := 8#32
  let v3061 : BitVec 32 := Scalar.muli c0_i32_1512 c8_i32_1513
  let v3062 : BitVec 32 := Scalar.addi v3061 c0_i32_1514
  let v3063 : Index := Scalar.indexCast v3062
  let c448_1515 : Index := 448#32
  ![v3063.toNat, 448]
def k0_off100 (c0_i32_1567 : BitVec 32) : Fin 2 → Nat :=
  let c0_i32_1565 : BitVec 32 := 0#32
  let c8_i32_1566 : BitVec 32 := 8#32
  let v3169 : BitVec 32 := Scalar.muli c0_i32_1565 c8_i32_1566
  let v3170 : BitVec 32 := Scalar.addi v3169 c0_i32_1567
  let v3171 : Index := Scalar.indexCast v3170
  let c464_1568 : Index := 464#32
  ![v3171.toNat, 464]
def k0_off101 (c0_i32_1620 : BitVec 32) : Fin 2 → Nat :=
  let c0_i32_1618 : BitVec 32 := 0#32
  let c8_i32_1619 : BitVec 32 := 8#32
  let v3277 : BitVec 32 := Scalar.muli c0_i32_1618 c8_i32_1619
  let v3278 : BitVec 32 := Scalar.addi v3277 c0_i32_1620
  let v3279 : Index := Scalar.indexCast v3278
  let c480_1621 : Index := 480#32
  ![v3279.toNat, 480]
def k0_off102 (c0_i32_1673 : BitVec 32) : Fin 2 → Nat :=
  let c0_i32_1671 : BitVec 32 := 0#32
  let c8_i32_1672 : BitVec 32 := 8#32
  let v3385 : BitVec 32 := Scalar.muli c0_i32_1671 c8_i32_1672
  let v3386 : BitVec 32 := Scalar.addi v3385 c0_i32_1673
  let v3387 : Index := Scalar.indexCast v3386
  let c496_1674 : Index := 496#32
  ![v3387.toNat, 496]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x512 : Shape := ⟨2, ![100000, 512]⟩
abbrev S1x512 : Shape := ⟨2, ![1, 512]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1x512, .f32⟩
  | .hbm, ⟨2, _⟩ => ⟨S1x512, .f32⟩
  | .hbm, ⟨3, _⟩ => ⟨S100000x512, .f32⟩
  | .hbm, ⟨4, _⟩ => ⟨S100000x512, .f32⟩
  | .hbm, ⟨5, _⟩ => ⟨S_, .f32⟩
  | .hbm, ⟨6, _⟩ => ⟨S1x512, .f32⟩
  | .hbm, ⟨7, _⟩ => ⟨S1x512, .f32⟩
  | .hbm, ⟨8, _⟩ => ⟨S100000x512, .f32⟩
  | .hbm, ⟨9, _⟩ => ⟨S100000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Manual.lean ====
abbrev S100000x512 : Shape := ⟨2, ![100000, 512]⟩
abbrev S1x512 : Shape := ⟨2, ![1, 512]⟩
abbrev S_ : Shape := ⟨0, ![]⟩
abbrev S4000x512 : Shape := ⟨2, ![4000, 512]⟩

abbrev nBuf : Space → Nat
  | .hbm => 12
  | .vmem => 6
  | .smem => 0
  | _ => 0

abbrev bufTy : (tb : Table) → Fin (tcTables nBuf tb) → BufTy
  | .hbm, ⟨0, _⟩ => ⟨S100000x512, .f32⟩
  | .hbm, ⟨1, _⟩ => ⟨S1x512, .f32⟩
  | .hbm, ⟨2, _⟩ => ⟨S1x512, .f32⟩
  | .hbm, ⟨3, _⟩ => ⟨S_, .f32⟩
  | .hbm, ⟨4, _⟩ => ⟨S1x512, .f32⟩
  | .hbm, ⟨5, _⟩ => ⟨S1x512, .f32⟩
  | .hbm, ⟨6, _⟩ => ⟨S_, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S100000x512, .f32⟩
  | .local _ .vmem, ⟨0, _⟩ => ⟨S4000x512, .f32⟩
  | .local _ .vmem, ⟨1, _⟩ => ⟨S4000x512, .f32⟩
  | .local _ .vmem, ⟨2, _⟩ => ⟨S4000x512, .f32⟩
  | .local _ .vmem, ⟨3, _⟩ => ⟨S4000x512, .f32⟩
  | .local _ .vmem, ⟨4, _⟩ => ⟨S1x512, .f32⟩
  | .local _ .vmem, ⟨5, _⟩ => ⟨S1x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩

abbrev nD : Nat := 1
abbrev τ : Topo := Topo.v7x

variable {F : FTy → Type} [FloatOps F]

abbrev grid0 : Pipeline.Grid := .none

@[reducible] def k0_t1_loop : Scf.Loop 32 :=
  let c0_i32_4 : BitVec 32 := 0#32
  let c7_i32 : BitVec 32 := 7#32
  let v4 : BitVec 32 := Scalar.addi c0_i32_4 c7_i32
  let c1_i32 : BitVec 32 := 1#32
  ⟨c0_i32_4, v4, c1_i32⟩
def k0_cond1 (k0_t1 : Fin k0_t1_loop.trips) : BitVec 1 :=
  let c0_i32_4 : BitVec 32 := 0#32
  let c1_i32 : BitVec 32 := 1#32
  let arg18 : BitVec 32 := Scf.iv c0_i32_4 c1_i32 k0_t1
  let c4_i32 : BitVec 32 := 4#32
  let v9 : BitVec 32 := Scalar.muli arg18 c4_i32
  let c0_i32_14 : BitVec 32 := 0#32
  let v10 : BitVec 32 := Scalar.addi v9 c0_i32_14
  let c25_i32 : BitVec 32 := 25#32
  let v11 : BitVec 1 := Scalar.cmpi .slt v10 c25_i32
  let v12 : BitVec 32 := Scalar.extui v11
  let c0_i32_15 : BitVec 32 := 0#32
  let v13 : BitVec 1 := Scalar.cmpi .ne v12 c0_i32_15
  v13

def k0_off1 (k0_t1 : Fin k0_t1_loop.trips) : Fin 2 → Nat :=
  let c0_i32_4 : BitVec 32 := 0#32
  let c1_i32 : BitVec 32 := 1#32
  let arg18 : BitVec 32 := Scf.iv c0_i32_4 c1_i32 k0_t1
  let c4_i32 : BitVec 32 := 4#32
  let v9 : BitVec 32 := Scalar.muli arg18 c4_i32
  let c0_i32_14 : BitVec 32 := 0#32
  let v10 : BitVec 32 := Scalar.addi v9 c0_i32_14
  let c4000_i32_35 : BitVec 32 := 4000#32
  let v40 : BitVec 32 := Scalar.muli v10 c4000_i32_35
  let c0_i32_36 : BitVec 32 := 0#32
  ![v40.toNat, 0]
def k0_cond2 (k0_t1 : Fin k0_t1_loop.trips) : BitVec 1 :=
  let c0_i32_4 : BitVec 32 := 0#32
  let c1_i32 : BitVec 32 := 1#32
  let arg18 : BitVec 32 := Scf.iv c0_i32_4 c1_i32 k0_t1
  let c4_i32 : BitVec 32 := 4#32
  let v9 : BitVec 32 := Scalar.muli arg18 c4_i32
  let c0_i32_14 : BitVec 32 := 0#32
  let v10 : BitVec 32 := Scalar.addi v9 c0_i32_14
  let c4_i32_37 : BitVec 32 := 4#32
  let v42 : BitVec 32 := Scalar.addi v10 c4_i32_37
  let c25_i32_38 : BitVec 32 := 25#32
  let v43 : BitVec 1 := Scalar.cmpi .slt v42 c25_i32_38
  let v44 : BitVec 32 := Scalar.extui v43
  let c0_i32_39 : BitVec 32 := 0#32
  let v45 : BitVec 1 := Scalar.cmpi .ne v44 c0_i32_39
  v45

def k0_off2 (k0_t1 : Fin k0_t1_loop.trips) : Fin 2 → Nat :=
  let c0_i32_4 : BitVec 32 := 0#32
  let c1_i32 : BitVec 32 := 1#32
  let arg18 : BitVec 32 := Scf.iv c0_i32_4 c1_i32 k0_t1
  let c4_i32 : BitVec 32 := 4#32
  let v9 : BitVec 32 := Scalar.muli arg18 c4_i32
  let c0_i32_14 : BitVec 32 := 0#32
  let v10 : BitVec 32 := Scalar.addi v9 c0_i32_14
  let c4_i32_42 : BitVec 32 := 4#32
  let v47 : BitVec 32 := Scalar.addi v10 c4_i32_42
  let c4000_i32_43 : BitVec 32 := 4000#32
  let v48 : BitVec 32 := Scalar.muli v47 c4000_i32_43
  let c0_i32_44 : BitVec 32 := 0#32
  ![v48.toNat, 0]
def k0_cond3 (k0_t1 : Fin k0_t1_loop.trips) : BitVec 1 :=
  let c0_i32_4 : BitVec 32 := 0#32
  let c1_i32 : BitVec 32 := 1#32
  let arg18 : BitVec 32 := Scf.iv c0_i32_4 c1_i32 k0_t1
  let c4_i32_16 : BitVec 32 := 4#32
  let v14 : BitVec 32 := Scalar.muli arg18 c4_i32_16
  let c1_i32_17 : BitVec 32 := 1#32
  let v15 : BitVec 32 := Scalar.addi v14 c1_i32_17
  let c25_i32_18 : BitVec 32 := 25#32
  let v16 : BitVec 1 := Scalar.cmpi .slt v15 c25_i32_18
  let v17 : BitVec 32 := Scalar.extui v16
  let c0_i32_19 : BitVec 32 := 0#32
  let v18 : BitVec 1 := Scalar.cmpi .ne v17 c0_i32_19
  v18

def k0_off3 (k0_t1 : Fin k0_t1_loop.trips) : Fin 2 → Nat :=
  let c0_i32_4 : BitVec 32 := 0#32
  let c1_i32 : BitVec 32 := 1#32
  let arg18 : BitVec 32 := Scf.iv c0_i32_4 c1_i32 k0_t1
  let c4_i32_16 : BitVec 32 := 4#32
  let v14 : BitVec 32 := Scalar.muli arg18 c4_i32_16
  let c1_i32_17 : BitVec 32 := 1#32
  let v15 : BitVec 32 := Scalar.addi v14 c1_i32_17
  let c4000_i32_35 : BitVec 32 := 4000#32
  let v40 : BitVec 32 := Scalar.muli v15 c4000_i32_35
  let c0_i32_36 : BitVec 32 := 0#32
  ![v40.toNat, 0]
def k0_cond4 (k0_t1 : Fin k0_t1_loop.trips) : BitVec 1 :=
  let c0_i32_4 : BitVec 32 := 0#32
  let c1_i32 : BitVec 32 := 1#32
  let arg18 : BitVec 32 := Scf.iv c0_i32_4 c1_i32 k0_t1
  let c4_i32_16 : BitVec 32 := 4#32
  let v14 : BitVec 32 := Scalar.muli arg18 c4_i32_16
  let c1_i32_17 : BitVec 32 := 1#32
  let v15 : BitVec 32 := Scalar.addi v14 c1_i32_17
  let c4_i32_37 : BitVec 32 := 4#32
  let v42 : BitVec 32 := Scalar.addi v15 c4_i32_37
  let c25_i32_38 : BitVec 32 := 25#32
  let v43 : BitVec 1 := Scalar.cmpi .slt v42 c25_i32_38
  let v44 : BitVec 32 := Scalar.extui v43
  let c0_i32_39 : BitVec 32 := 0#32
  let v45 : BitVec 1 := Scalar.cmpi .ne v44 c0_i32_39
  v45

def k0_off4 (k0_t1 : Fin k0_t1_loop.trips) : Fin 2 → Nat :=
  let c0_i32_4 : BitVec 32 := 0#32
  let c1_i32 : BitVec 32 := 1#32
  let arg18 : BitVec 32 := Scf.iv c0_i32_4 c1_i32 k0_t1
  let c4_i32_16 : BitVec 32 := 4#32
  let v14 : BitVec 32 := Scalar.muli arg18 c4_i32_16
  let c1_i32_17 : BitVec 32 := 1#32
  let v15 : BitVec 32 := Scalar.addi v14 c1_i32_17
  let c4_i32_42 : BitVec 32 := 4#32
  let v47 : BitVec 32 := Scalar.addi v15 c4_i32_42
  let c4000_i32_43 : BitVec 32 := 4000#32
  let v48 : BitVec 32 := Scalar.muli v47 c4000_i32_43
  let c0_i32_44 : BitVec 32 := 0#32
  ![v48.toNat, 0]
def k0_cond5 (k0_t1 : Fin k0_t1_loop.trips) : BitVec 1 :=
  let c0_i32_4 : BitVec 32 := 0#32
  let c1_i32 : BitVec 32 := 1#32
  let arg18 : BitVec 32 := Scf.iv c0_i32_4 c1_i32 k0_t1
  let c4_i32_20 : BitVec 32 := 4#32
  let v19 : BitVec 32 := Scalar.muli arg18 c4_i32_20
  let c2_i32 : BitVec 32 := 2#32
  let v20 : BitVec 32 := Scalar.addi v19 c2_i32
  let c25_i32_21 : BitVec 32 := 25#32
  let v21 : BitVec 1 := Scalar.cmpi .slt v20 c25_i32_21
  let v22 : BitVec 32 := Scalar.extui v21
  let c0_i32_22 : BitVec 32 := 0#32
  let v23 : BitVec 1 := Scalar.cmpi .ne v22 c0_i32_22
  v23

def k0_off5 (k0_t1 : Fin k0_t1_loop.trips) : Fin 2 → Nat :=
  let c0_i32_4 : BitVec 32 := 0#32
  let c1_i32 : BitVec 32 := 1#32
  let arg18 : BitVec 32 := Scf.iv c0_i32_4 c1_i32 k0_t1
  let c4_i32_20 : BitVec 32 := 4#32
  let v19 : BitVec 32 := Scalar.muli arg18 c4_i32_20
  let c2_i32 : BitVec 32 := 2#32
  let v20 : BitVec 32 := Scalar.addi v19 c2_i32
  let c4000_i32_35 : BitVec 32 := 4000#32
  let v40 : BitVec 32 := Scalar.muli v20 c4000_i32_35
  let c0_i32_36 : BitVec 32 := 0#32
  ![v40.toNat, 0]
def k0_cond6 (k0_t1 : Fin k0_t1_loop.trips) : BitVec 1 :=
  let c0_i32_4 : BitVec 32 := 0#32
  let c1_i32 : BitVec 32 := 1#32
  let arg18 : BitVec 32 := Scf.iv c0_i32_4 c1_i32 k0_t1
  let c4_i32_20 : BitVec 32 := 4#32
  let v19 : BitVec 32 := Scalar.muli arg18 c4_i32_20
  let c2_i32 : BitVec 32 := 2#32
  let v20 : BitVec 32 := Scalar.addi v19 c2_i32
  let c4_i32_37 : BitVec 32 := 4#32
  let v42 : BitVec 32 := Scalar.addi v20 c4_i32_37
  let c25_i32_38 : BitVec 32 := 25#32
  let v43 : BitVec 1 := Scalar.cmpi .slt v42 c25_i32_38
  let v44 : BitVec 32 := Scalar.extui v43
  let c0_i32_39 : BitVec 32 := 0#32
  let v45 : BitVec 1 := Scalar.cmpi .ne v44 c0_i32_39
  v45

def k0_off6 (k0_t1 : Fin k0_t1_loop.trips) : Fin 2 → Nat :=
  let c0_i32_4 : BitVec 32 := 0#32
  let c1_i32 : BitVec 32 := 1#32
  let arg18 : BitVec 32 := Scf.iv c0_i32_4 c1_i32 k0_t1
  let c4_i32_20 : BitVec 32 := 4#32
  let v19 : BitVec 32 := Scalar.muli arg18 c4_i32_20
  let c2_i32 : BitVec 32 := 2#32
  let v20 : BitVec 32 := Scalar.addi v19 c2_i32
  let c4_i32_42 : BitVec 32 := 4#32
  let v47 : BitVec 32 := Scalar.addi v20 c4_i32_42
  let c4000_i32_43 : BitVec 32 := 4000#32
  let v48 : BitVec 32 := Scalar.muli v47 c4000_i32_43
  let c0_i32_44 : BitVec 32 := 0#32
  ![v48.toNat, 0]
def k0_cond7 (k0_t1 : Fin k0_t1_loop.trips) : BitVec 1 :=
  let c0_i32_4 : BitVec 32 := 0#32
  let c1_i32 : BitVec 32 := 1#32
  let arg18 : BitVec 32 := Scf.iv c0_i32_4 c1_i32 k0_t1
  let c4_i32_23 : BitVec 32 := 4#32
  let v24 : BitVec 32 := Scalar.muli arg18 c4_i32_23
  let c3_i32 : BitVec 32 := 3#32
  let v25 : BitVec 32 := Scalar.addi v24 c3_i32
  let c25_i32_24 : BitVec 32 := 25#32
  let v26 : BitVec 1 := Scalar.cmpi .slt v25 c25_i32_24
  let v27 : BitVec 32 := Scalar.extui v26
  let c0_i32_25 : BitVec 32 := 0#32
  let v28 : BitVec 1 := Scalar.cmpi .ne v27 c0_i32_25
  v28

def k0_off7 (k0_t1 : Fin k0_t1_loop.trips) : Fin 2 → Nat :=
  let c0_i32_4 : BitVec 32 := 0#32
  let c1_i32 : BitVec 32 := 1#32
  let arg18 : BitVec 32 := Scf.iv c0_i32_4 c1_i32 k0_t1
  let c4_i32_23 : BitVec 32 := 4#32
  let v24 : BitVec 32 := Scalar.muli arg18 c4_i32_23
  let c3_i32 : BitVec 32 := 3#32
  let v25 : BitVec 32 := Scalar.addi v24 c3_i32
  let c4000_i32_35 : BitVec 32 := 4000#32
  let v40 : BitVec 32 := Scalar.muli v25 c4000_i32_35
  let c0_i32_36 : BitVec 32 := 0#32
  ![v40.toNat, 0]
def k0_cond8 (k0_t1 : Fin k0_t1_loop.trips) : BitVec 1 :=
  let c0_i32_4 : BitVec 32 := 0#32
  let c1_i32 : BitVec 32 := 1#32
  let arg18 : BitVec 32 := Scf.iv c0_i32_4 c1_i32 k0_t1
  let c4_i32_23 : BitVec 32 := 4#32
  let v24 : BitVec 32 := Scalar.muli arg18 c4_i32_23
  let c3_i32 : BitVec 32 := 3#32
  let v25 : BitVec 32 := Scalar.addi v24 c3_i32
  let c4_i32_37 : BitVec 32 := 4#32
  let v42 : BitVec 32 := Scalar.addi v25 c4_i32_37
  let c25_i32_38 : BitVec 32 := 25#32
  let v43 : BitVec 1 := Scalar.cmpi .slt v42 c25_i32_38
  let v44 : BitVec 32 := Scalar.extui v43
  let c0_i32_39 : BitVec 32 := 0#32
  let v45 : BitVec 1 := Scalar.cmpi .ne v44 c0_i32_39
  v45

def k0_off8 (k0_t1 : Fin k0_t1_loop.trips) : Fin 2 → Nat :=
  let c0_i32_4 : BitVec 32 := 0#32
  let c1_i32 : BitVec 32 := 1#32
  let arg18 : BitVec 32 := Scf.iv c0_i32_4 c1_i32 k0_t1
  let c4_i32_23 : BitVec 32 := 4#32
  let v24 : BitVec 32 := Scalar.muli arg18 c4_i32_23
  let c3_i32 : BitVec 32 := 3#32
  let v25 : BitVec 32 := Scalar.addi v24 c3_i32
  let c4_i32_42 : BitVec 32 := 4#32
  let v47 : BitVec 32 := Scalar.addi v25 c4_i32_42
  let c4000_i32_43 : BitVec 32 := 4000#32
  let v48 : BitVec 32 := Scalar.muli v47 c4000_i32_43
  let c0_i32_44 : BitVec 32 := 0#32
  ![v48.toNat, 0]
-- ==== Blocks.lean ====
abbrev S100000x512 : Shape := ⟨2, ![100000, 512]⟩
abbrev S1x512 : Shape := ⟨2, ![1, 512]⟩
abbrev S7376x512 : Shape := ⟨2, ![7376, 512]⟩

abbrev nBuf : Space → Nat
  | .hbm => 4
  | .vmem => 6
  | .smem => 0
  | _ => 0

abbrev bufTy : (tb : Table) → Fin (tcTables nBuf tb) → BufTy
  | .hbm, ⟨0, _⟩ => ⟨S100000x512, .f32⟩
  | .hbm, ⟨1, _⟩ => ⟨S1x512, .f32⟩
  | .hbm, ⟨2, _⟩ => ⟨S1x512, .f32⟩
  | .hbm, ⟨3, _⟩ => ⟨S100000x512, .f32⟩
  | .local _ .vmem, ⟨0, _⟩ => ⟨S7376x512, .f32⟩
  | .local _ .vmem, ⟨1, _⟩ => ⟨S7376x512, .f32⟩
  | .local _ .vmem, ⟨2, _⟩ => ⟨S1x512, .f32⟩
  | .local _ .vmem, ⟨3, _⟩ => ⟨S1x512, .f32⟩
  | .local _ .vmem, ⟨4, _⟩ => ⟨S7376x512, .f32⟩
  | .local _ .vmem, ⟨5, _⟩ => ⟨S7376x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7376x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S7376x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Proof.Algebra.lean ====
/- The equation over the extended reals: a number scaled by `1 / y` and shifted by `(−μ) · (1 / y)` is `(x − μ) / y`. -/
module

public import Idealize.ShloMosaic.PureOps.Ideal

@[expose] public section

noncomputable section

namespace Cert.Equation

open Idealize.ShloMosaic

/-- The inverse of a nonzero extended real is a real number. -/
theorem inv_real (y : EReal) : ∃ r : ℝ, y⁻¹ = (r : EReal) := by
  induction y with
  | bot => exact ⟨0, by simp⟩
  | top => exact ⟨0, by simp⟩
  | coe v => exact ⟨v⁻¹, (EReal.coe_inv v).symm⟩

/-- Multiplication by a real distributes over taking a real away, whatever the number. -/
theorem mul_sub_real (x : EReal) (μ r : ℝ) : x * r + (-(μ : EReal)) * r = (x - μ) * r := by
  induction x with
  | coe v =>
    rw [← EReal.coe_neg, ← EReal.coe_mul, ← EReal.coe_mul, ← EReal.coe_add, ← EReal.coe_sub, ← EReal.coe_mul]
    congr 1
    ring
  | top =>
    rw [EReal.top_sub_coe, ← EReal.coe_neg, ← EReal.coe_mul]
    rcases lt_trichotomy r 0 with h | h | h
    · rw [EReal.top_mul_coe_of_neg h, EReal.bot_add]
    · subst h; simp
    · rw [EReal.top_mul_coe_of_pos h, EReal.top_add_coe]
  | bot =>
    rw [EReal.bot_sub, ← EReal.coe_neg, ← EReal.coe_mul]
    rcases lt_trichotomy r 0 with h | h | h
    · rw [EReal.bot_mul_coe_of_neg h, EReal.top_add_coe]
    · subst h; simp
    · rw [EReal.bot_mul_coe_of_pos h, EReal.bot_add]

/-- The two ways to normalise a number agree, for a divisor that is not zero and a mean that is a real. -/
theorem scale_shift (x μ y : EReal) (hy : y ≠ 0) (hμ : μ ≠ ⊤) (hμ' : μ ≠ ⊥) :
    x * Ideal.div 1 y + (-μ) * Ideal.div 1 y = Ideal.div (x - μ) y := by
  obtain ⟨r, hr⟩ := inv_real y
  lift μ to ℝ using ⟨hμ, hμ'⟩
  simp only [Ideal.div, if_neg hy, one_mul, hr]
  exact mul_sub_real x μ r

/-- The square root of the width, as the programs write it, is a positive real. -/
theorem root_real : ∃ c : ℝ, 0 < c ∧ Ideal.ofBits .f32 0x41B504F3#32 = (c : EReal) :=
  ⟨11863283 / 524288, by norm_num, by simp [Ideal.ofBits, Ideal.ieee, -EReal.coe_mul]; norm_num⟩

theorem one_eq : Ideal.ofBits .f32 0x3F800000#32 = 1 := by simp [Ideal.ofBits, Ideal.ieee, -EReal.coe_mul]; norm_num
theorem zero_eq : Ideal.ofBits .f32 0x00000000#32 = 0 := by simp [Ideal.ofBits, Ideal.ieee]
theorem top_eq : Ideal.ofBits .f32 0x7F800000#32 = ⊤ := by simp [Ideal.ofBits, Ideal.ieee]

/-- A product with it is zero only where the other factor is. -/
theorem mul_root_ne (s : EReal) (hs : s ≠ 0) : s * Ideal.ofBits .f32 0x41B504F3#32 ≠ 0 := by
  obtain ⟨c, hc, e⟩ := root_real
  rw [e]
  exact mul_ne_zero hs (by exact_mod_cast hc.ne')

/-- A left fold of the one-bit conjunction ends at one only if each bit folded is one. -/
theorem fold_andi {ι : Type} (f : ι → BitVec 1) (l : List ι) (b : BitVec 1)
    (h : l.foldl (fun r n => IntOp.andi r (f n)) b = 1#1) : b = 1#1 ∧ ∀ n ∈ l, f n = 1#1 := by
  have both : ∀ p q : BitVec 1, IntOp.andi p q = 1#1 → p = 1#1 ∧ q = 1#1 := by decide
  induction l generalizing b with
  | nil => exact ⟨h, fun n hn => absurd hn List.not_mem_nil⟩
  | cons a l ih =>
    obtain ⟨h1, h2⟩ := ih _ h
    obtain ⟨hb, ha⟩ := both _ _ h1
    exact ⟨hb, fun n hn => (List.mem_cons.mp hn).elim (fun e => e ▸ ha) (h2 n)⟩

/-- A reduction of bits by conjunction into a scalar is one only if every bit is. -/
theorem reduce_andi {s t u : Shape} {axes : List (Fin s.rank)} (x : s.Idx → BitVec 1) (v : u.Idx → BitVec 1)
    (h : s.ReducesTo axes t) (hu : 0 < u.numel) (ht : t.rank = 0) (j : t.Idx)
    (e : Host.reduce IntOp.andi x v h hu j = 1#1) (i : s.Idx) : x i = 1#1 := by
  have all := (fold_andi (fun n => x (s.rowMajor.symm n)) _ _ e).2 (s.rowMajor i)
    (List.mem_filter.mpr ⟨List.mem_finRange _, decide_eq_true (funext fun a => absurd a.isLt (by omega))⟩)
  rwa [Equiv.symm_apply_apply] at all

end Cert.Equation

end
-- ==== Proof.Reference.lean ====
/- The reference's run: host operations only. -/
module

public import proofs.«01_k».proof.Proof.Gen.ReferenceIdeal
public import Idealize.ShloMosaic.Lib.StableHlo.Run
public import Idealize.ShloMosaic.Lib.Quiescent

@[expose] public section

noncomputable section

namespace Cert.Ref

open Idealize.ShloMosaic Idealize.ShloMosaic.TcCoe Idealize.SL.Sem
open Idealize.ShloMosaic.StableHlo (seq after nullary unary binary tcRefs launchContents)
open Cert.ReferenceIdeal Cert.ReferenceIdeal.Gen

variable {F : FTy → Type} [FloatOps F]

/-- What the reference computes of its three arguments. -/
def quotient (x : FVec F S100000x512 .f32) (μ s : FVec F S1x512 .f32) : FVec F S100000x512 .f32 :=
  Host.divf (subf x (broadcastInDim S100000x512 ![0, 1] bcast_S1x512_S100000x512_0_1 μ))
    (broadcastInDim S100000x512 ![0, 1] bcast_S1x512_S100000x512_0_1
      (mulf s (broadcastInDim S1x512 ![] bcast_S_S1x512 (constant S_ .f32 0x41B504F3#32))))

/-- Its operations, in order. -/
abbrev ops : List (HloOp τ sig (Elt F)) :=
  [ unary main_arg1 main_v0 (broadcastInDim S100000x512 ![0, 1] bcast_S1x512_S100000x512_0_1 : (⟨S1x512, .f32⟩ : BufTy).Contents (Elt F) → (⟨S100000x512, .f32⟩ : BufTy).Contents (Elt F)),
    binary main_arg0 main_v0 main_v1 (subf : (⟨S100000x512, .f32⟩ : BufTy).Contents (Elt F) → (⟨S100000x512, .f32⟩ : BufTy).Contents (Elt F) → (⟨S100000x512, .f32⟩ : BufTy).Contents (Elt F)),
    nullary main_cst (constant S_ .f32 0x41B504F3#32),
    unary main_cst main_v2 (broadcastInDim S1x512 ![] bcast_S_S1x512 : (⟨S_, .f32⟩ : BufTy).Contents (Elt F) → (⟨S1x512, .f32⟩ : BufTy).Contents (Elt F)),
    binary main_arg2 main_v2 main_v3 (mulf : (⟨S1x512, .f32⟩ : BufTy).Contents (Elt F) → (⟨S1x512, .f32⟩ : BufTy).Contents (Elt F) → (⟨S1x512, .f32⟩ : BufTy).Contents (Elt F)),
    unary main_v3 main_v4 (broadcastInDim S100000x512 ![0, 1] bcast_S1x512_S100000x512_0_1 : (⟨S1x512, .f32⟩ : BufTy).Contents (Elt F) → (⟨S100000x512, .f32⟩ : BufTy).Contents (Elt F)),
    binary main_v1 main_v4 main_v5 (Host.divf : (⟨S100000x512, .f32⟩ : BufTy).Contents (Elt F) → (⟨S100000x512, .f32⟩ : BufTy).Contents (Elt F) → (⟨S100000x512, .f32⟩ : BufTy).Contents (Elt F)) ]

theorem main_eq (d : Dev nD) : main (F := F) d = seq ops := by
  simp only [main, seq]

section Contents

variable (W : Valuation τ sig (Elt F))

theorem at_out : after ops W (main_v5 : DevRef τ sig)
    = quotient (W (main_arg0 : DevRef τ sig)) (W (main_arg1 : DevRef τ sig)) (W (main_arg2 : DevRef τ sig)) := by
  simp only [StableHlo.after_cons, StableHlo.after_nil]; rfl
theorem at_arg0 : after ops W (main_arg0 : DevRef τ sig) = W (main_arg0 : DevRef τ sig) := by
  simp only [StableHlo.after_cons, StableHlo.after_nil]; rfl
theorem at_arg1 : after ops W (main_arg1 : DevRef τ sig) = W (main_arg1 : DevRef τ sig) := by
  simp only [StableHlo.after_cons, StableHlo.after_nil]; rfl
theorem at_arg2 : after ops W (main_arg2 : DevRef τ sig) = W (main_arg2 : DevRef τ sig) := by
  simp only [StableHlo.after_cons, StableHlo.after_nil]; rfl

end Contents

theorem no_scoped_refs : (Finset.univ.filter fun b : Ref sig .tc => b.isScoped) = ∅ := by decide
theorem no_scoped_sems : (Finset.univ.filter fun sm : SemLoc sig => sm.isScoped .tc) = ∅ := by decide

theorem ops_sub : (ops : List (HloOp τ sig (Elt F))).Forall fun op => op.bufs ⊆ tcRefs τ sig :=
  ⟨StableHlo.unary_bufs_sub .., StableHlo.binary_bufs_sub .., StableHlo.nullary_bufs_sub .., StableHlo.unary_bufs_sub ..,
    StableHlo.binary_bufs_sub .., StableHlo.unary_bufs_sub .., StableHlo.binary_bufs_sub ..⟩

abbrev xLoc (d : Dev nD) : Loc nD τ sig := (d.tc : Thread nD τ).loc main_arg0
abbrev mLoc (d : Dev nD) : Loc nD τ sig := (d.tc : Thread nD τ).loc main_arg1
abbrev sLoc (d : Dev nD) : Loc nD τ sig := (d.tc : Thread nD τ).loc main_arg2
abbrev oLoc (d : Dev nD) : Loc nD τ sig := (d.tc : Thread nD τ).loc main_v5

/-- Every run ends with the quotient in the result, the arguments unchanged and no counter off zero. -/
theorem run_main (m : (ℓ : Loc nD τ sig) → Buf (Elt F) ℓ) (ρ : Dev nD → PrngReg) :
    θ_run defs (onTc (τ := τ) (main (F := F))) ⟨m, fun _ => 0, ρ⟩ fun r =>
      (∀ d : Dev nD, r.2.mem (oLoc d) = quotient (m (xLoc d)) (m (mLoc d)) (m (sLoc d)) ∧ r.2.mem (xLoc d) = m (xLoc d)
        ∧ r.2.mem (mLoc d) = m (mLoc d) ∧ r.2.mem (sLoc d) = m (sLoc d)) ∧ r.2.sem = fun _ => 0 :=
  (θ_run defs _ _).mono
    (fun r h => ⟨fun d => ⟨(h d main_v5).trans (at_out _), (h d main_arg0).trans (at_arg0 _), (h d main_arg1).trans (at_arg1 _),
        (h d main_arg2).trans (at_arg2 _)⟩, sem_eq_zero_of_no_sems (by decide) r.2⟩)
    (StableHlo.run_seq no_scoped_refs no_scoped_sems defs main (fun _ => ops) main_eq (fun _ => ops_sub) m ρ)

end Cert.Ref

end
-- ==== Proof.Ideal.Compact.lean ====
/- The kernel's body in compact form: the printed text's thirty-two columns, each a loop over the rows, as one
   column repeated; `Proof/Fold.lean` proves the printed windows equal to it. -/
module

public import proofs.«01_k».proof.Proof.Gen.KernelIdeal

@[expose] public section

namespace Cert.KernelIdeal.Compact

open Idealize.ShloMosaic Idealize.SL.Sem
open Cert.KernelIdeal.Gen

variable {F : FTy → Type} [FloatOps F]

/-- A program of the tile at grid point `i`. -/
abbrev TileProg (F : FTy → Type) (i : grid0.Coords) (α : Type) : Type 1 :=
  Prog (TpuEff nD τ sig (Elt F) Λ₀ (.scVector ((i 0).castLE hcore0) ((i 1).castLE hsub0))) α

/-- Sixteen lanes of a 512-long row from column `c`. -/
noncomputable def lanes (i : grid0.Coords) (m : Memref sig .scVector .vmem S512 .f32) (c : Nat)
    (hc : ∀ a, (![c] : Fin 1 → Nat) a + S16.size a ≤ S512.size a) : TileProg F i (Vec F S16 .f32) :=
  Prog.lift (.load m (Rect.unit (s := S512) ![c] S16.size hc).toLoadRect (View.loadsAt_vmem h_S16))

/-- A row's offset: row `8 * g + u`, column `c`. -/
def rowOff (g u : BitVec 32) (c : Nat) : Fin 2 → Nat :=
  ![(Scalar.indexCast (Scalar.addi (Scalar.muli g 8#32) u)).toNat, c]

/-- What one row's store writes. -/
noncomputable def rowVal (a b : FVec F S16 .f32) (v : Vec F S1x16 .f32) : FVec F S1x16 .f32 :=
  shapeCast S1x16 (addf (mulf (shapeCast S16 v shapeCasts_S1x16_S16) a) b) shapeCasts_S16_S1x16

/-- Sixteen lanes of one row scaled and shifted in place (the kernel reads them a second time before it stores). -/
noncomputable def row (i : grid0.Coords) (m : Memref sig .scVector .vmem S120x512 .f32) (off : Fin 2 → Nat)
    (h : ∀ a, off a + S1x16.size a ≤ S120x512.size a) (a b : FVec F S16 .f32) : TileProg F i PUnit := do
  let v : Vec F S1x16 .f32 ← Prog.lift (.load m (Rect.unit (s := S120x512) off S1x16.size h).toLoadRect (View.loadsAt_vmem h_S1x16))
  let _ : Vec F S1x16 .f32 ← Prog.lift (.load m (Rect.unit (s := S120x512) off S1x16.size h).toLoadRect (View.loadsAt_vmem h_S1x16))
  Prog.lift (.store m (Rect.unit (s := S120x512) off S1x16.size h) (rowVal a b v) Finset.univ (View.stores_vmem_bits_univ h_S1x16 rfl) (.inl rfl))

/-- Eight rows, from row `8 * g`. -/
noncomputable def rows (i : grid0.Coords) (m : Memref sig .scVector .vmem S120x512 .f32) (g : BitVec 32) (c : Nat)
    (h : ∀ u : Fin 8, ∀ a, rowOff g (BitVec.ofNat 32 u.val) c a + S1x16.size a ≤ S120x512.size a)
    (a b : FVec F S16 .f32) : TileProg F i (BitVec 32) := do
  row i m (rowOff g 0#32 c) (h 0) a b
  row i m (rowOff g 1#32 c) (h 1) a b
  row i m (rowOff g 2#32 c) (h 2) a b
  row i m (rowOff g 3#32 c) (h 3) a b
  row i m (rowOff g 4#32 c) (h 4) a b
  row i m (rowOff g 5#32 c) (h 5) a b
  row i m (rowOff g 6#32 c) (h 6) a b
  row i m (rowOff g 7#32 c) (h 7) a b
  pure 0#32

theorem off2_eq (t : Fin k0_t2_loop.trips) (u : BitVec 32) : k0_off2 t u = rowOff (Scf.iv 0#32 1#32 t) u 0 := rfl

theorem rowOff_col (g u : BitVec 32) (c : Nat) : rowOff g u c = ![rowOff g u 0 0, c] := rfl

theorem rowOff_eq (t : Fin k0_t2_loop.trips) (u : Fin 8) (c : Nat) :
    rowOff (Scf.iv 0#32 1#32 t) (BitVec.ofNat 32 u.val) c = ![8 * t.val + u.val, c] := by
  rw [rowOff_col, ← off2_eq, k0_off2_eq]; rfl

theorem trips_eq : k0_t2_loop.trips = 15 := by decide

/-- A column inside the row: it starts at a multiple of sixteen. -/
theorem col_inb (j : Nat) (hj : j < 32) : ∀ a, (![16 * j] : Fin 1 → Nat) a + S16.size a ≤ S512.size a := by
  intro a; match a with | 0 => show 16 * j + 16 ≤ 512; omega

theorem rows_inb (t : Fin k0_t2_loop.trips) (j : Nat) (hj : j < 32) (u : Fin 8) :
    ∀ a, rowOff (Scf.iv 0#32 1#32 t) (BitVec.ofNat 32 u.val) (16 * j) a + S1x16.size a ≤ S120x512.size a := by
  intro a
  rw [rowOff_eq]
  have ht : t.val < 15 := Nat.lt_of_lt_of_eq t.isLt trips_eq
  match a with
  | 0 => show 8 * t.val + u.val + 1 ≤ 120; omega
  | 1 => show 16 * j + 16 ≤ 512; omega

theorem tail_inb (j : Nat) (hj : j < 32) (u : Fin 8) :
    ∀ a, rowOff 0#32 (BitVec.ofNat 32 u.val) (16 * j) a + S1x16.size a ≤ S120x512.size a :=
  rows_inb ⟨0, by decide⟩ j hj u

theorem loop_ok : k0_t2_loop.OK := k0_t2_abs.1

/-- One column of a 120-row buffer: its fifteen groups of eight rows. -/
noncomputable def colLoop (i : grid0.Coords) (m : Memref sig .scVector .vmem S120x512 .f32) (j : Nat) (hj : j < 32)
    (a b : FVec F S16 .f32) : TileProg F i (BitVec 32) :=
  Scf.Loop.for k0_t2_loop loop_ok 0#32 fun t _ => rows i m (Scf.iv 0#32 1#32 t) (16 * j) (rows_inb t j hj) a b

/-- The cast of sixteen lanes to their own shape. -/
noncomputable abbrev cast16 (v : Vec F S16 .f32) : FVec F S16 .f32 := shapeCast S16 v shapeCasts_S16_S16

/-- One column: its scale, its shift, its rows. -/
noncomputable def col (i : grid0.Coords) (m : Memref sig .scVector .vmem S120x512 .f32)
    (am bm : Memref sig .scVector .vmem S512 .f32) (j : Nat) (hj : j < 32) : TileProg F i (BitVec 32) := do
  let va : Vec F S16 .f32 ← lanes i am (16 * j) (col_inb j hj)
  let vb : Vec F S16 .f32 ← lanes i bm (16 * j) (col_inb j hj)
  colLoop i m j hj (cast16 va) (cast16 vb)

/-- The columns from `j` on, `n` of them, then `k`. -/
noncomputable def cols (i : grid0.Coords) (m : Memref sig .scVector .vmem S120x512 .f32)
    (am bm : Memref sig .scVector .vmem S512 .f32) {α : Type} : (n j : Nat) → n + j ≤ 32 → TileProg F i α → TileProg F i α
  | 0, _, _, k => k
  | n + 1, j, h, k => col i m am bm j (by omega) >>= fun _ => cols i m am bm n (j + 1) (by omega) k

/-- One column of the first eight rows. -/
noncomputable def tcol (i : grid0.Coords) (m : Memref sig .scVector .vmem S120x512 .f32)
    (am bm : Memref sig .scVector .vmem S512 .f32) (j : Nat) (hj : j < 32) : TileProg F i (BitVec 32) := do
  let va : Vec F S16 .f32 ← lanes i am (16 * j) (col_inb j hj)
  let vb : Vec F S16 .f32 ← lanes i bm (16 * j) (col_inb j hj)
  rows i m 0#32 (16 * j) (tail_inb j hj) (cast16 va) (cast16 vb)

/-- The columns of the first eight rows, from `j` on, `n` of them, then `k`. -/
noncomputable def tcols (i : grid0.Coords) (m : Memref sig .scVector .vmem S120x512 .f32)
    (am bm : Memref sig .scVector .vmem S512 .f32) {α : Type} : (n j : Nat) → n + j ≤ 32 → TileProg F i α → TileProg F i α
  | 0, _, _, k => k
  | n + 1, j, h, k => tcol i m am bm j (by omega) >>= fun _ => tcols i m am bm n (j + 1) (by omega) k

end Cert.KernelIdeal.Compact

end
-- ==== Proof.Ideal.Rows.lean ====
/- What the column loops do to a buffer of 120 rows: every number is scaled and shifted by its column's pair. -/
module

public import proofs.«01_k».proof.Proof.Ideal.Compact
public import Idealize.ShloMosaic.Lib.SparseCore.Quiescent
public import Idealize.ShloMosaic.Lib.Pipeline.Kit
public import Idealize.ShloMosaic.Lib.Pipeline.Value
public import Idealize.ShloMosaic.Lib.Tactic

@[expose] public section

set_option maxRecDepth 16384

noncomputable section

namespace Cert.KernelIdeal.Tile

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Compact

variable {F : FTy → Type}

/-- The handshakes' ghost state, and the whole of the proof's. -/
abbrev UH : Type := URounds (GSem nD τ sig) ℕ
abbrev UU : Type := UH × Counters

local notation "𝕄" => MT nD τ sig (HIx 1) (Elt F) ℕ UU ℕ

abbrev 𝒱₀ : Variants := Variants.none

/-- The tile at grid point `i` of device `d`. -/
abbrev tl (d : Dev nD) (i : grid0.Coords) : Thread nD τ := V d ((i 0).castLE hcore0) ((i 1).castLE hsub0)

variable [FloatOps F] (d : Dev nD) (i : grid0.Coords)

/-- The weakest precondition of a tile's program. -/
abbrev twp {α : Type} (p : TileProg F i α) (Q : α → sProp 𝕄) : sProp 𝕄 :=
  wp frame (wpE (defs₀ (F := F)) 𝒱₀ (tl d i) none) Set.univ p Q

/-- The tile holds the memref's elements, and they read `g`. -/
def held {sp : Space} {s : Shape} {e : EltTy} (m : Memref sig .scVector sp s e) (g : s.Idx → Elt F e) : sProp 𝕄 :=
  iprop(∃ f : Buf (Elt F) (m.view.loc (tl d i)), ⌜m.view.read (Elt F) f = g⌝ ∗ m.view.loc (tl d i) ↦[m.view.set]{fullShare} f)

variable {d i}

/-- One program after another. -/
theorem tseq {α β : Type} {A : sProp 𝕄} {B : α → sProp 𝕄} {p : TileProg F i α} {k : α → TileProg F i β} {Q : β → sProp 𝕄}
    (hp : A ⊢ twp d i p B) (hk : ∀ x, B x ⊢ twp d i (k x) Q) : A ⊢ twp d i (p >>= k) Q := by
  unfold twp
  rw [wp_bind]
  exact hp.trans (wp_mono frame _ _ hk)

theorem tpure {α : Type} {A : sProp 𝕄} {x : α} {Q : α → sProp 𝕄} (h : A ⊢ Q x) : A ⊢ twp d i (pure x) Q := by
  unfold twp
  rw [wp_pure]
  iintro HA; imodintro; iapply h; iexact HA

theorem tmono {α : Type} {A : sProp 𝕄} {B B' : α → sProp 𝕄} {p : TileProg F i α} (hp : A ⊢ twp d i p B) (h : ∀ x, B x ⊢ B' x) :
    A ⊢ twp d i p B' := hp.trans (wp_mono frame _ _ h)

theorem tframe {α : Type} {A R : sProp 𝕄} {B : α → sProp 𝕄} {p : TileProg F i α} (hp : A ⊢ twp d i p B) :
    iprop(A ∗ R) ⊢ twp d i p (fun x => iprop(B x ∗ R)) :=
  (sep_mono_left hp).trans (wp_frame_r frame _ _)

/-- A load through a rectangle. -/
theorem tload {cs : CoreSpace} {s : Shape} {e : EltTy} {m : Memref sig .scVector cs s e} {r : Rect s} {hl : m.view.LoadsAt r.toLoadRect} {g : s.Idx → Elt F e} :
    held d i m g ⊢ twp d i (Prog.lift (.load m r.toLoadRect hl)) (fun v => iprop(⌜v = fun x => g (r.emb x)⌝ ∗ held d i m g)) := by
  unfold held
  iintro ⟨%f, %hf, H⟩
  iapply (wp_load (c := tl d i) (defs := defs₀ (F := F)) 𝒱₀ none Set.univ (View.set_slice_subset m.view r |> fun h => by rwa [View.set_slice] at h)) $$ H
  iintro H
  rw [wp_ret]
  imodintro
  isplitr
  · ipureintro; subst hf; rfl
  · iexists f
    isplitr; · ipureintro; exact hf
    iexact H

/-- A store through a rectangle, nothing masked. -/
theorem tstore {cs : CoreSpace} {s : Shape} {e : EltTy} {m : Memref sig .scVector cs s e} {r : Rect s} {w : r.shape.Idx → Elt F e}
    {hx : (m.access r).Stores Finset.univ} {hm : (Finset.univ : Finset r.shape.Idx) = Finset.univ ∨ ∀ a, r.stride a = 1}
    {g g' : s.Idx → Elt F e} (hin : ∀ x, g' (r.emb x) = w x) (hout : ∀ y, y ∉ r.set → g' y = g y) :
    held d i m g ⊢ twp d i (Prog.lift (.store m r w Finset.univ hx hm)) (fun _ => held d i m g') := by
  unfold held
  iintro ⟨%f, %hf, H⟩
  iapply (wp_store (c := tl d i) (defs := defs₀ (F := F)) 𝒱₀ none Set.univ (m := m) (r := r) (w := w) (Mk := Finset.univ) (S := m.view.set) (f := f)
    (show (m.access r).setOn Finset.univ ⊆ m.view.set from View.set_slice_subset m.view r)) $$ H
  iintro H
  rw [wp_ret]
  imodintro
  iexists _
  isplitr
  rotate_left
  · iexact H
  · ipureintro
    funext y
    by_cases hy : y ∈ r.set
    · rw [← r.map_emb_univ] at hy
      obtain ⟨x, -, rfl⟩ := Finset.mem_map.mp hy
      rw [hin x]
      exact View.read_slice_write_emb (v := m.view) r f w (Finset.mem_univ x)
    · rw [hout y hy, ← hf]
      exact View.read_slice_write_of_not_mem (v := m.view) r f w Finset.univ (by rwa [r.map_emb_univ])

/-! ## The value -/

/-- A column's place in a 512-long row. -/
def at512 (k : Fin 512) : S512.Idx := fun | 0 => k | ⟨_ + 1, h⟩ => absurd h (Nat.not_lt.2 (Nat.le_add_left _ _))

/-- A number scaled and shifted by column `k`'s pair. -/
def affine (av bv : S512.Idx → Elt F .f32) (k : Fin 512) (v : Elt F .f32) : Elt F .f32 :=
  (FloatOps.addf (FloatOps.mulf v (av (at512 k))) (bv (at512 k)) : F .f32)

/-- The numbers at the places `P`, scaled and shifted. -/
def upd (P : S120x512.Idx → Prop) [DecidablePred P] (av bv : S512.Idx → Elt F .f32) (g : S120x512.Idx → Elt F .f32) :
    S120x512.Idx → Elt F .f32 :=
  fun y => if P y then affine av bv (y 1) (g y) else g y

theorem upd_congr {P P' : S120x512.Idx → Prop} [DecidablePred P] [DecidablePred P'] (h : ∀ y, P y ↔ P' y)
    (av bv : S512.Idx → Elt F .f32) (g : S120x512.Idx → Elt F .f32) : upd P av bv g = upd P' av bv g := by
  funext y; unfold upd
  by_cases hy : P y
  · rw [if_pos hy, if_pos ((h y).1 hy)]
  · rw [if_neg hy, if_neg (fun h' => hy ((h y).2 h'))]

theorem upd_none {P : S120x512.Idx → Prop} [DecidablePred P] (h : ∀ y, ¬ P y)
    (av bv : S512.Idx → Elt F .f32) (g : S120x512.Idx → Elt F .f32) : upd P av bv g = g :=
  funext fun y => if_neg (h y)

theorem upd_upd {P P' : S120x512.Idx → Prop} [DecidablePred P] [DecidablePred P'] (h : ∀ y, P y → ¬ P' y)
    (av bv : S512.Idx → Elt F .f32) (g : S120x512.Idx → Elt F .f32) :
    upd P' av bv (upd P av bv g) = upd (fun y => P y ∨ P' y) av bv g := by
  funext y; unfold upd
  by_cases hy : P y
  · rw [if_neg (h y hy), if_pos hy, if_pos (Or.inl hy)]
  · by_cases hy' : P' y
    · rw [if_pos hy', if_neg hy, if_pos (Or.inr hy')]
    · rw [if_neg hy', if_neg hy, if_neg (fun h' => h'.elim hy hy')]

/-- The sixteen lanes of column group `j`. -/
def lanesOf (j : Nat) (hj : j < 32) (av : S512.Idx → Elt F .f32) : FVec F S16 .f32 :=
  fun x => av (at512 ⟨16 * j + (x 0).val, by have : (x 0).val < 16 := (x 0).isLt; omega⟩)

theorem lanes_wp {m : Memref sig .scVector .vmem S512 .f32} {av : S512.Idx → Elt F .f32} (j : Nat) (hj : j < 32) :
    held d i m av ⊢ twp d i (lanes i m (16 * j) (col_inb j hj)) (fun v => iprop(⌜cast16 v = lanesOf j hj av⌝ ∗ held d i m av)) := by
  refine tload.trans (wp_mono frame _ _ fun v => ?_)
  iintro ⟨%hv, H⟩
  isplitr
  · ipureintro
    subst hv
    unfold cast16
    rw [shapeCast_self]
    funext x
    refine congrArg av (funext fun a => Fin.ext ?_)
    match a with
    | 0 => show 16 * j + 1 * (x 0).val = 16 * j + (x 0).val; omega
  · iexact H

/-- What a row's store writes, at one place. -/
theorem rowVal_apply (a b : FVec F S16 .f32) (v : Vec F S1x16 .f32) (x : S1x16.Idx) (k : S16.Idx) (hk : (k 0).val = (x 1).val) :
    rowVal a b v x = (FloatOps.addf (FloatOps.mulf (v x) (a k)) (b k) : F .f32) := by
  have hx : (x 0).val = 0 := by have : (x 0).val < 1 := (x 0).isLt; omega
  have h1 : (S16.rowMajor k).val = (k 0).val := Shape.rowMajor_val_one k
  have h2 : (S1x16.rowMajor x).val = (x 0).val * 16 + (x 1).val := Shape.rowMajor_val_two x
  have e : (S16.rowMajor k).val = (S1x16.rowMajor x).val := by rw [h1, h2, hx, hk]; omega
  unfold rowVal
  rw [shapeCast_apply _ shapeCasts_S16_S1x16 x k e]
  show (FloatOps.addf (FloatOps.mulf (shapeCast S16 v shapeCasts_S1x16_S16 k) (a k)) (b k) : F .f32) = _
  rw [shapeCast_apply v shapeCasts_S1x16_S16 k x e.symm]

theorem row_wp {m : Memref sig .scVector .vmem S120x512 .f32} {g : S120x512.Idx → Elt F .f32} {av bv : S512.Idx → Elt F .f32}
    (j : Nat) (hj : j < 32) (r : Nat) (off : Fin 2 → Nat) (e : off = ![r, 16 * j]) (h : ∀ a, off a + S1x16.size a ≤ S120x512.size a) :
    held d i m g ⊢ twp d i (row i m off h (lanesOf j hj av) (lanesOf j hj bv))
      (fun _ => held d i m (upd (fun y => (y 0).val = r ∧ (y 1).val / 16 = j) av bv g)) := by
  subst e
  refine tseq tload fun v => ?_
  iintro ⟨%hv, H⟩
  iapply (tseq tload fun w => ?_) $$ H
  iintro ⟨-, H⟩
  iapply (tstore ?_ ?_) $$ H
  · intro x
    have hx0 : (x 0).val = 0 := by have : (x 0).val < 1 := (x 0).isLt; omega
    have hx1 : (x 1).val < 16 := (x 1).isLt
    rw [rowVal_apply _ _ _ _ (fun | 0 => ⟨(x 1).val, hx1⟩ | ⟨_ + 1, h⟩ => absurd h (Nat.not_lt.2 (Nat.le_add_left _ _))) rfl]
    have e0 : (((Rect.unit (s := S120x512) ![r, 16 * j] S1x16.size h).emb x) 0).val = r := by
      show r + 1 * (x 0).val = r; omega
    have e1 : (((Rect.unit (s := S120x512) ![r, 16 * j] S1x16.size h).emb x) 1).val = 16 * j + (x 1).val := by
      show 16 * j + 1 * (x 1).val = _; omega
    unfold upd
    rw [if_pos ⟨e0, by rw [e1]; omega⟩, hv]
    unfold affine lanesOf
    rw [show ((Rect.unit (s := S120x512) ![r, 16 * j] S1x16.size h).emb x) 1 = (⟨16 * j + (x 1).val, by omega⟩ : Fin 512) from Fin.ext e1]
  · intro y hy
    unfold upd
    refine if_neg fun hP => hy ?_
    rw [Rect.mem_set_unit]
    intro a
    match a with
    | 0 => show r ≤ (y 0).val ∧ (y 0).val < r + 1; omega
    | 1 => show 16 * j ≤ (y 1).val ∧ (y 1).val < 16 * j + 16; omega

theorem rows_wp {m : Memref sig .scVector .vmem S120x512 .f32} {g : S120x512.Idx → Elt F .f32} {av bv : S512.Idx → Elt F .f32}
    (j : Nat) (hj : j < 32) (t : Nat) (gi : BitVec 32)
    (e : ∀ u : Fin 8, rowOff gi (BitVec.ofNat 32 u.val) (16 * j) = ![8 * t + u.val, 16 * j])
    (h : ∀ u : Fin 8, ∀ a, rowOff gi (BitVec.ofNat 32 u.val) (16 * j) a + S1x16.size a ≤ S120x512.size a) :
    held d i m g ⊢ twp d i (rows i m gi (16 * j) h (lanesOf j hj av) (lanesOf j hj bv))
      (fun _ => held d i m (upd (fun y => (y 0).val / 8 = t ∧ (y 1).val / 16 = j) av bv g)) := by
  have step : ∀ (u : Fin 8), held d i m (upd (fun y => (8 * t ≤ (y 0).val ∧ (y 0).val < 8 * t + u.val) ∧ (y 1).val / 16 = j) av bv g)
      ⊢ twp d i (row i m (rowOff gi (BitVec.ofNat 32 u.val) (16 * j)) (h u) (lanesOf j hj av) (lanesOf j hj bv))
        (fun _ => held d i m (upd (fun y => (8 * t ≤ (y 0).val ∧ (y 0).val < 8 * t + (u.val + 1)) ∧ (y 1).val / 16 = j) av bv g)) := by
    intro u
    refine (row_wp (av := av) (bv := bv) j hj (8 * t + u.val) _ (e u) (h u)).trans (wp_mono frame _ _ fun _ => ?_)
    rw [upd_upd (fun y hy hy' => by omega)]
    exact Entails.of_eq (congrArg (held d i m) (upd_congr (fun y => by omega) av bv g))
  unfold rows
  refine (Entails.of_eq (congrArg (held d i m) (upd_none (P := fun y => (8 * t ≤ (y 0).val ∧ (y 0).val < 8 * t + 0) ∧ (y 1).val / 16 = j)
    (fun y hy => by omega) av bv g).symm)).trans ?_
  refine tseq (step 0) fun _ => tseq (step 1) fun _ => tseq (step 2) fun _ => tseq (step 3) fun _ => tseq (step 4) fun _ =>
    tseq (step 5) fun _ => tseq (step 6) fun _ => tseq (step 7) fun _ => tpure ?_
  exact Entails.of_eq (congrArg (held d i m) (upd_congr (fun y => by show (_ ∧ _ < 8 * t + (7 + 1)) ∧ _ ↔ _; omega) av bv g))

theorem colLoop_wp {m : Memref sig .scVector .vmem S120x512 .f32} {g : S120x512.Idx → Elt F .f32} {av bv : S512.Idx → Elt F .f32}
    (j : Nat) (hj : j < 32) :
    held d i m g ⊢ twp d i (colLoop i m j hj (lanesOf j hj av) (lanesOf j hj bv))
      (fun _ => held d i m (upd (fun y => (y 1).val / 16 = j) av bv g)) := by
  have hl := Scf.wp_for frame (wpE (defs₀ (F := F)) 𝒱₀ (tl d i) none) Set.univ k0_t2_loop.lb k0_t2_loop.ub k0_t2_loop.st loop_ok 0#32
    (fun t _ => rows i m (Scf.iv 0#32 1#32 t) (16 * j) (rows_inb t j hj) (lanesOf j hj av) (lanesOf j hj bv))
    (fun n _ => held d i m (upd (fun y => (y 0).val < 8 * n ∧ (y 1).val / 16 = j) av bv g))
    (fun t _ => by
      refine (rows_wp (av := av) (bv := bv) j hj t.val _ (fun u => rowOff_eq t u (16 * j)) (rows_inb t j hj)).trans (wp_mono frame _ _ fun _ => ?_)
      rw [upd_upd (fun y hy hy' => by omega)]
      exact Entails.of_eq (congrArg (held d i m) (upd_congr (fun y => by omega) av bv g)))
    (Q := fun _ => held d i m (upd (fun y => (y 1).val / 16 = j) av bv g))
  refine (show held d i m g ⊢ _ from ?_).trans hl
  have h15 : Scf.trips k0_t2_loop.lb k0_t2_loop.ub k0_t2_loop.st = 15 := trips_eq
  iintro H
  isplitl [H]
  · iapply (Entails.of_eq (congrArg (held d i m) (upd_none (P := fun y => (y 0).val < 8 * 0 ∧ (y 1).val / 16 = j)
      (fun y hy => by omega) av bv g).symm)); iexact H
  · iintro %_ H
    iapply (Entails.of_eq (congrArg (held d i m) (upd_congr (P := fun y => (y 0).val < 8 * Scf.trips k0_t2_loop.lb k0_t2_loop.ub k0_t2_loop.st ∧ (y 1).val / 16 = j)
      (fun y => by have : (y 0).val < 120 := (y 0).isLt; rw [h15]; omega) av bv g))); iexact H

theorem col_wp {m : Memref sig .scVector .vmem S120x512 .f32} {am bm : Memref sig .scVector .vmem S512 .f32}
    {g : S120x512.Idx → Elt F .f32} {av bv : S512.Idx → Elt F .f32} (j : Nat) (hj : j < 32) :
    iprop(held d i m g ∗ held d i am av ∗ held d i bm bv) ⊢ twp d i (col i m am bm j hj)
      (fun _ => iprop(held d i m (upd (fun y => (y 1).val / 16 = j) av bv g) ∗ held d i am av ∗ held d i bm bv)) := by
  unfold col
  iintro ⟨H, Ha, Hb⟩
  iapply (tseq (tframe (R := iprop(held d i m g ∗ held d i bm bv)) (lanes_wp (av := av) j hj)) fun va => ?_) $$ [H Ha Hb]
  rotate_left
  · isplitl [Ha]; · iexact Ha
    isplitl [H] <;> iassumption
  iintro ⟨⟨%ha, Ha⟩, H, Hb⟩
  iapply (tseq (tframe (R := iprop(held d i m g ∗ held d i am av)) (lanes_wp (av := bv) j hj)) fun vb => ?_) $$ [H Ha Hb]
  rotate_left
  · isplitl [Hb]; · iexact Hb
    isplitl [H] <;> iassumption
  iintro ⟨⟨%hb, Hb⟩, H, Ha⟩
  rw [ha, hb]
  iapply (tframe (R := iprop(held d i am av ∗ held d i bm bv)) (colLoop_wp (av := av) (bv := bv) j hj)) $$ [H Ha Hb]
  isplitl [H]; · iexact H
  isplitl [Ha] <;> iassumption

theorem cols_wp {m : Memref sig .scVector .vmem S120x512 .f32} {am bm : Memref sig .scVector .vmem S512 .f32}
    {g : S120x512.Idx → Elt F .f32} {av bv : S512.Idx → Elt F .f32} {α : Type} {k : TileProg F i α} {R : sProp 𝕄} {Q : α → sProp 𝕄}
    (hk : iprop((held d i m (fun y => affine av bv (y 1) (g y)) ∗ held d i am av ∗ held d i bm bv) ∗ R) ⊢ twp d i k Q) :
    ∀ (n j : Nat) (h : n + j ≤ 32), n + j = 32 →
    iprop((held d i m (upd (fun y => (y 1).val / 16 < j) av bv g) ∗ held d i am av ∗ held d i bm bv) ∗ R) ⊢ twp d i (cols i m am bm n j h k) Q
  | 0, j, h, e => by
    have e' : upd (fun y => (y 1).val / 16 < j) av bv g = fun y => affine av bv (y 1) (g y) :=
      funext fun y => if_pos (by have : (y 1).val < 512 := (y 1).isLt; omega)
    rw [e']; exact hk
  | n + 1, j, h, e => by
    refine tseq (tframe (col_wp (av := av) (bv := bv) j (by omega))) fun _ => ?_
    rw [upd_upd (fun y hy hy' => by omega), upd_congr (P' := fun y => (y 1).val / 16 < j + 1) (fun y => by omega)]
    exact cols_wp hk n (j + 1) _ (by omega)

theorem tcol_wp {m : Memref sig .scVector .vmem S120x512 .f32} {am bm : Memref sig .scVector .vmem S512 .f32}
    {g : S120x512.Idx → Elt F .f32} {av bv : S512.Idx → Elt F .f32} (j : Nat) (hj : j < 32) :
    iprop(held d i m g ∗ held d i am av ∗ held d i bm bv) ⊢ twp d i (tcol i m am bm j hj)
      (fun _ => iprop(held d i m (upd (fun y => (y 0).val / 8 = 0 ∧ (y 1).val / 16 = j) av bv g) ∗ held d i am av ∗ held d i bm bv)) := by
  unfold tcol
  iintro ⟨H, Ha, Hb⟩
  iapply (tseq (tframe (R := iprop(held d i m g ∗ held d i bm bv)) (lanes_wp (av := av) j hj)) fun va => ?_) $$ [H Ha Hb]
  rotate_left
  · isplitl [Ha]; · iexact Ha
    isplitl [H] <;> iassumption
  iintro ⟨⟨%ha, Ha⟩, H, Hb⟩
  iapply (tseq (tframe (R := iprop(held d i m g ∗ held d i am av)) (lanes_wp (av := bv) j hj)) fun vb => ?_) $$ [H Ha Hb]
  rotate_left
  · isplitl [Hb]; · iexact Hb
    isplitl [H] <;> iassumption
  iintro ⟨⟨%hb, Hb⟩, H, Ha⟩
  rw [ha, hb]
  iapply (tframe (R := iprop(held d i am av ∗ held d i bm bv)) (rows_wp (av := av) (bv := bv) j hj 0 0#32
    (fun u => rowOff_eq ⟨0, by decide⟩ u (16 * j)) (tail_inb j hj))) $$ [H Ha Hb]
  isplitl [H]; · iexact H
  isplitl [Ha] <;> iassumption

theorem tcols_wp {m : Memref sig .scVector .vmem S120x512 .f32} {am bm : Memref sig .scVector .vmem S512 .f32}
    {g : S120x512.Idx → Elt F .f32} {av bv : S512.Idx → Elt F .f32} {α : Type} {k : TileProg F i α} {R : sProp 𝕄} {Q : α → sProp 𝕄}
    (hk : iprop((held d i m (upd (fun y => (y 0).val / 8 = 0) av bv g) ∗ held d i am av ∗ held d i bm bv) ∗ R) ⊢ twp d i k Q) :
    ∀ (n j : Nat) (h : n + j ≤ 32), n + j = 32 →
    iprop((held d i m (upd (fun y => (y 0).val / 8 = 0 ∧ (y 1).val / 16 < j) av bv g) ∗ held d i am av ∗ held d i bm bv) ∗ R)
      ⊢ twp d i (tcols i m am bm n j h k) Q
  | 0, j, h, e => by
    rw [upd_congr (P' := fun y => (y 0).val / 8 = 0) (fun y => by have : (y 1).val < 512 := (y 1).isLt; omega)]; exact hk
  | n + 1, j, h, e => by
    refine tseq (tframe (tcol_wp (av := av) (bv := bv) j (by omega))) fun _ => ?_
    rw [upd_upd (fun y hy hy' => by omega), upd_congr (P' := fun y => (y 0).val / 8 = 0 ∧ (y 1).val / 16 < j + 1) (fun y => by omega)]
    exact tcols_wp hk n (j + 1) _ (by omega)

end Cert.KernelIdeal.Tile

end
-- ==== Proof.Ideal.Fold.lean ====
module

public import proofs.«01_k».proof.Proof.Ideal.Compact

@[expose] public section

namespace Cert.KernelIdeal.Compact

open Idealize.ShloMosaic Idealize.SL.Sem
open Cert.KernelIdeal.Gen

variable {F : FTy → Type} [FloatOps F]

variable (i : grid0.Coords) (arg2 : Memref sig .scVector .hbm S100000x512 .f32) (harg2 : arg2.IsWhole) (arg3 : Memref sig .scVector .hbm S512 .f32) (harg3 : arg3.IsWhole) (arg4 : Memref sig .scVector .hbm S512 .f32) (harg4 : arg4.IsWhole) (arg5 : Memref sig .scVector .hbm S100000x512 .f32) (harg5 : arg5.IsWhole) (arg6 : Memref sig .scVector .vmem S120x512 .f32) (harg6 : arg6.IsWhole) (arg7 : Memref sig .scVector .vmem S120x512 .f32) (harg7 : arg7.IsWhole) (arg8 : Memref sig .scVector .vmem S512 .f32) (harg8 : arg8.IsWhole) (arg9 : Memref sig .scVector .vmem S512 .f32) (harg9 : arg9.IsWhole) (arg10 : DmaSems sig S_) (arg11 : DmaSems sig S_) (arg12 : DmaSems sig S_) (arg13 : DmaSems sig S_) (arg14 : DmaSems sig S_) (arg15 : DmaSems sig S_) (v23_r0 : DmaSems sig S_) (v23_r1 : DmaSems sig S_) (t : Fin k0_t1_loop.trips)

theorem part65_eq (h : k0_cond1 t = 1#1) :
    (k0_part65 (F := F) i arg2 harg2 arg3 harg3 arg4 harg4 arg5 harg5 arg6 harg6 arg7 harg7 arg8 harg8 arg9 harg9 arg10 arg11 arg12 arg13 arg14 arg15 v23_r0 v23_r1 t h) = (do
      Prog.lift (.waitDma2 arg10.sem (arg2.slice (Rect.unit (s := S100000x512) ![0, 0] S120x512.size inb_S100000x512_S120x512_0_0) (fun _ => rfl)) arg6 (View.wordExact_bits rfl) harg6.wordExact)
      cols i arg6 arg8 arg9 4 0 (by decide) (pure ⟨⟩)) := rfl

theorem part66_eq (h : k0_cond1 t = 1#1) :
    (k0_part66 (F := F) i arg2 harg2 arg3 harg3 arg4 harg4 arg5 harg5 arg6 harg6 arg7 harg7 arg8 harg8 arg9 harg9 arg10 arg11 arg12 arg13 arg14 arg15 v23_r0 v23_r1 t h) = cols i arg6 arg8 arg9 4 4 (by decide) (do
      let va ← lanes i arg8 (16 * 8) (col_inb 8 (by decide))
      let vb ← lanes i arg9 (16 * 8) (col_inb 8 (by decide))
      pure ⟨cast16 va, cast16 vb, 0#32, 0#32, 15#32⟩) := rfl

theorem part67_eq (h : k0_cond1 t = 1#1) (a b : FVec F S16 .f32) :
    (k0_part67 (F := F) i arg2 harg2 arg3 harg3 arg4 harg4 arg5 harg5 arg6 harg6 arg7 harg7 arg8 harg8 arg9 harg9 arg10 arg11 arg12 arg13 arg14 arg15 v23_r0 v23_r1 t h a b 0#32 0#32 15#32) = (do
      let _ ← colLoop i arg6 8 (by decide) a b
      cols i arg6 arg8 arg9 4 9 (by decide) (do
        let va ← lanes i arg8 (16 * 13) (col_inb 13 (by decide))
        pure (cast16 va))) := rfl

theorem part68_eq (h : k0_cond1 t = 1#1) (a : FVec F S16 .f32) :
    (k0_part68 (F := F) i arg2 harg2 arg3 harg3 arg4 harg4 arg5 harg5 arg6 harg6 arg7 harg7 arg8 harg8 arg9 harg9 arg10 arg11 arg12 arg13 arg14 arg15 v23_r0 v23_r1 t h a) = (do
      let vb ← lanes i arg9 (16 * 13) (col_inb 13 (by decide))
      let _ ← colLoop i arg6 13 (by decide) a (cast16 vb)
      cols i arg6 arg8 arg9 4 14 (by decide) (pure ⟨⟩)) := rfl

theorem part69_eq (h : k0_cond1 t = 1#1) :
    (k0_part69 (F := F) i arg2 harg2 arg3 harg3 arg4 harg4 arg5 harg5 arg6 harg6 arg7 harg7 arg8 harg8 arg9 harg9 arg10 arg11 arg12 arg13 arg14 arg15 v23_r0 v23_r1 t h) = cols i arg6 arg8 arg9 4 18 (by decide) (do
      let va ← lanes i arg8 (16 * 22) (col_inb 22 (by decide))
      let vb ← lanes i arg9 (16 * 22) (col_inb 22 (by decide))
      pure ⟨cast16 va, cast16 vb, 0#32⟩) := rfl

theorem part70_eq (h : k0_cond1 t = 1#1) (a b : FVec F S16 .f32) :
    (k0_part70 (F := F) i arg2 harg2 arg3 harg3 arg4 harg4 arg5 harg5 arg6 harg6 arg7 harg7 arg8 harg8 arg9 harg9 arg10 arg11 arg12 arg13 arg14 arg15 v23_r0 v23_r1 t h a b 0#32) = (do
      let _ ← colLoop i arg6 22 (by decide) a b
      cols i arg6 arg8 arg9 4 23 (by decide) (lanes i arg8 (16 * 27) (col_inb 27 (by decide)))) := rfl

theorem part71_eq (h : k0_cond1 t = 1#1) (va : Vec F S16 .f32) :
    (k0_part71 (F := F) i arg2 harg2 arg3 harg3 arg4 harg4 arg5 harg5 arg6 harg6 arg7 harg7 arg8 harg8 arg9 harg9 arg10 arg11 arg12 arg13 arg14 arg15 v23_r0 v23_r1 t h va) = (do
      let vb ← lanes i arg9 (16 * 27) (col_inb 27 (by decide))
      let _ ← colLoop i arg6 27 (by decide) (cast16 va) (cast16 vb)
      cols i arg6 arg8 arg9 3 28 (by decide) (do
        let va ← lanes i arg8 (16 * 31) (col_inb 31 (by decide))
        let vb ← lanes i arg9 (16 * 31) (col_inb 31 (by decide))
        pure ⟨cast16 va, cast16 vb, 0#32, 0#32⟩)) := rfl

theorem part136_eq (h : k0_cond3 t = 1#1) :
    (k0_part136 (F := F) i arg2 harg2 arg3 harg3 arg4 harg4 arg5 harg5 arg6 harg6 arg7 harg7 arg8 harg8 arg9 harg9 arg10 arg11 arg12 arg13 arg14 arg15 v23_r0 v23_r1 t h) = (do
      Prog.lift (.waitDma2 arg11.sem (arg2.slice (Rect.unit (s := S100000x512) ![0, 0] S120x512.size inb_S100000x512_S120x512_0_0) (fun _ => rfl)) arg7 (View.wordExact_bits rfl) harg7.wordExact)
      cols i arg7 arg8 arg9 4 0 (by decide) (pure ⟨⟩)) := rfl

theorem part137_eq (h : k0_cond3 t = 1#1) :
    (k0_part137 (F := F) i arg2 harg2 arg3 harg3 arg4 harg4 arg5 harg5 arg6 harg6 arg7 harg7 arg8 harg8 arg9 harg9 arg10 arg11 arg12 arg13 arg14 arg15 v23_r0 v23_r1 t h) = cols i arg7 arg8 arg9 4 4 (by decide) (do
      let va ← lanes i arg8 (16 * 8) (col_inb 8 (by decide))
      let vb ← lanes i arg9 (16 * 8) (col_inb 8 (by decide))
      pure ⟨cast16 va, cast16 vb, 0#32, 0#32, 15#32⟩) := rfl

theorem part138_eq (h : k0_cond3 t = 1#1) (a b : FVec F S16 .f32) :
    (k0_part138 (F := F) i arg2 harg2 arg3 harg3 arg4 harg4 arg5 harg5 arg6 harg6 arg7 harg7 arg8 harg8 arg9 harg9 arg10 arg11 arg12 arg13 arg14 arg15 v23_r0 v23_r1 t h a b 0#32 0#32 15#32) = (do
      let _ ← colLoop i arg7 8 (by decide) a b
      cols i arg7 arg8 arg9 4 9 (by decide) (do
        let va ← lanes i arg8 (16 * 13) (col_inb 13 (by decide))
        pure (cast16 va))) := rfl

theorem part139_eq (h : k0_cond3 t = 1#1) (a : FVec F S16 .f32) :
    (k0_part139 (F := F) i arg2 harg2 arg3 harg3 arg4 harg4 arg5 harg5 arg6 harg6 arg7 harg7 arg8 harg8 arg9 harg9 arg10 arg11 arg12 arg13 arg14 arg15 v23_r0 v23_r1 t h a) = (do
      let vb ← lanes i arg9 (16 * 13) (col_inb 13 (by decide))
      let _ ← colLoop i arg7 13 (by decide) a (cast16 vb)
      cols i arg7 arg8 arg9 4 14 (by decide) (pure ⟨⟩)) := rfl

theorem part140_eq (h : k0_cond3 t = 1#1) :
    (k0_part140 (F := F) i arg2 harg2 arg3 harg3 arg4 harg4 arg5 harg5 arg6 harg6 arg7 harg7 arg8 harg8 arg9 harg9 arg10 arg11 arg12 arg13 arg14 arg15 v23_r0 v23_r1 t h) = cols i arg7 arg8 arg9 4 18 (by decide) (do
      let va ← lanes i arg8 (16 * 22) (col_inb 22 (by decide))
      let vb ← lanes i arg9 (16 * 22) (col_inb 22 (by decide))
      pure ⟨cast16 va, cast16 vb, 0#32⟩) := rfl

theorem part141_eq (h : k0_cond3 t = 1#1) (a b : FVec F S16 .f32) :
    (k0_part141 (F := F) i arg2 harg2 arg3 harg3 arg4 harg4 arg5 harg5 arg6 harg6 arg7 harg7 arg8 harg8 arg9 harg9 arg10 arg11 arg12 arg13 arg14 arg15 v23_r0 v23_r1 t h a b 0#32) = (do
      let _ ← colLoop i arg7 22 (by decide) a b
      cols i arg7 arg8 arg9 4 23 (by decide) (lanes i arg8 (16 * 27) (col_inb 27 (by decide)))) := rfl

theorem part142_eq (h : k0_cond3 t = 1#1) (va : Vec F S16 .f32) :
    (k0_part142 (F := F) i arg2 harg2 arg3 harg3 arg4 harg4 arg5 harg5 arg6 harg6 arg7 harg7 arg8 harg8 arg9 harg9 arg10 arg11 arg12 arg13 arg14 arg15 v23_r0 v23_r1 t h va) = (do
      let vb ← lanes i arg9 (16 * 27) (col_inb 27 (by decide))
      let _ ← colLoop i arg7 27 (by decide) (cast16 va) (cast16 vb)
      cols i arg7 arg8 arg9 3 28 (by decide) (do
        let va ← lanes i arg8 (16 * 31) (col_inb 31 (by decide))
        let vb ← lanes i arg9 (16 * 31) (col_inb 31 (by decide))
        pure ⟨cast16 va, cast16 vb, 0#32, 0#32⟩)) := rfl

/-- The first part of the tail: its copy in, its columns up to the twentieth, the scale of the next. -/
theorem part234_eq (v5 : BitVec 32) (h : k0_cond5 i = 1#1) :
    (k0_part234 (F := F) i arg2 harg2 arg3 harg3 arg4 harg4 arg5 harg5 arg6 harg6 arg7 harg7 arg8 harg8 arg9 harg9 arg10 arg11 arg12 arg13 arg14 arg15 v23_r0 v23_r1 v5 h) = (do
      Prog.lift (.enqueueDma (arg2.slice (Rect.unit (s := S100000x512) (k0_off70 i) S8x512.size (k0_off70_inb i h)) (fun _ => rfl)) (.here (arg6.slice (Rect.unit (s := S120x512) ![0, 0] S8x512.size inb_S120x512_S8x512_0_0) (fun _ => rfl))) (.dma arg14.sem) (View.wordExact_bits rfl) (View.wordExact_bits rfl) ⟨Or.inl rfl, trivial⟩)
      Prog.lift (.waitDma2 arg14.sem (arg2.slice (Rect.unit (s := S100000x512) ![0, 0] S8x512.size inb_S100000x512_S8x512_0_0) (fun _ => rfl)) (arg6.slice (Rect.unit (s := S120x512) ![0, 0] S8x512.size inb_S120x512_S8x512_0_0) (fun _ => rfl)) (View.wordExact_bits rfl) (View.wordExact_bits rfl))
      tcols i arg6 arg8 arg9 21 0 (by decide) (do
        let va ← lanes i arg8 (16 * 21) (col_inb 21 (by decide))
        pure (cast16 va))) := rfl

/-- The rows of an array of 100000 rows that a copy of 120 rows takes. -/
abbrev chunk (m : Memref sig .scVector .hbm S100000x512 .f32) (off : Fin 2 → Nat)
    (h : ∀ a, off a + S120x512.size a ≤ S100000x512.size a) : Memref sig .scVector .hbm S120x512 .f32 :=
  m.slice (Rect.unit (s := S100000x512) off S120x512.size h) (fun _ => rfl)

/-- The same for eight rows. -/
abbrev octet (m : Memref sig .scVector .hbm S100000x512 .f32) (off : Fin 2 → Nat)
    (h : ∀ a, off a + S8x512.size a ≤ S100000x512.size a) : Memref sig .scVector .hbm S8x512 .f32 :=
  m.slice (Rect.unit (s := S100000x512) off S8x512.size h) (fun _ => rfl)

/-- A buffer's first eight rows. -/
abbrev head8 (m : Memref sig .scVector .vmem S120x512 .f32) : Memref sig .scVector .vmem S8x512 .f32 :=
  m.slice (Rect.unit (s := S120x512) ![0, 0] S8x512.size inb_S120x512_S8x512_0_0) (fun _ => rfl)

/-- A slot's second half at one turn: the chunk goes out; if a chunk two further on is left, the sending is waited
    for and that chunk brought in. -/
noncomputable def send (i : grid0.Coords) (x o : Memref sig .scVector .hbm S100000x512 .f32)
    (m : Memref sig .scVector .vmem S120x512 .f32) (hm : m.IsWhole)
    (si so : DmaSems sig S_) (offO : Fin 2 → Nat) (hO : ∀ a, offO a + S120x512.size a ≤ S100000x512.size a)
    (more : BitVec 1) (offI : Fin 2 → Nat)
    (hI : more = 1#1 → ∀ a, offI a + S120x512.size a ≤ S100000x512.size a) : TileProg F i PUnit :=
  Prog.lift (.enqueueDma m (.here (chunk o offO hO)) (.dma so.sem) hm.wordExact (View.wordExact_bits rfl) ⟨Or.inl rfl, trivial⟩) >>= fun _ =>
    if h : more = 1#1 then
      Prog.lift (.waitDma2 so.sem m (chunk o ![0, 0] inb_S100000x512_S120x512_0_0) hm.wordExact (View.wordExact_bits rfl)) >>= fun _ =>
        Prog.lift (.enqueueDma (chunk x offI (hI h)) (.here m) (.dma si.sem) (View.wordExact_bits rfl) hm.wordExact ⟨Or.inl rfl, trivial⟩)
    else pure ⟨⟩

/-- One slot of the ring at one turn: wait for the chunk, scale and shift it, then `send`. -/
noncomputable def slot (i : grid0.Coords) (x o : Memref sig .scVector .hbm S100000x512 .f32)
    (am bm : Memref sig .scVector .vmem S512 .f32) (m : Memref sig .scVector .vmem S120x512 .f32) (hm : m.IsWhole)
    (si so : DmaSems sig S_) (offO : Fin 2 → Nat) (hO : ∀ a, offO a + S120x512.size a ≤ S100000x512.size a)
    (more : BitVec 1) (offI : Fin 2 → Nat)
    (hI : more = 1#1 → ∀ a, offI a + S120x512.size a ≤ S100000x512.size a) : TileProg F i PUnit :=
  Prog.lift (.waitDma2 si.sem (chunk x ![0, 0] inb_S100000x512_S120x512_0_0) m (View.wordExact_bits rfl) hm.wordExact) >>= fun _ =>
    cols i m am bm 32 0 (by decide) (send i x o m hm si so offO hO more offI hI)

/-- The rows beyond the ring's, eight of them: in, scaled and shifted, out. -/
noncomputable def tail (i : grid0.Coords) (x o : Memref sig .scVector .hbm S100000x512 .f32)
    (am bm : Memref sig .scVector .vmem S512 .f32) (m : Memref sig .scVector .vmem S120x512 .f32)
    (si so : DmaSems sig S_) (off : Fin 2 → Nat) (h : ∀ a, off a + S8x512.size a ≤ S100000x512.size a) : TileProg F i PUnit := do
  Prog.lift (.enqueueDma (octet x off h) (.here (head8 m)) (.dma si.sem) (View.wordExact_bits rfl) (View.wordExact_bits rfl) ⟨Or.inl rfl, trivial⟩)
  Prog.lift (.waitDma2 si.sem (octet x ![0, 0] inb_S100000x512_S8x512_0_0) (head8 m) (View.wordExact_bits rfl) (View.wordExact_bits rfl))
  tcols i m am bm 32 0 (by decide) (do
    Prog.lift (.enqueueDma (head8 m) (.here (octet o off h)) (.dma so.sem) (View.wordExact_bits rfl) (View.wordExact_bits rfl) ⟨Or.inl rfl, trivial⟩)
    Prog.lift (.waitDma2 so.sem (head8 m) (octet o ![0, 0] inb_S100000x512_S8x512_0_0) (View.wordExact_bits rfl) (View.wordExact_bits rfl))
    pure ⟨⟩)

/-- One turn of the ring: both slots. -/
noncomputable def turn (t : Fin k0_t1_loop.trips) : TileProg F i (BitVec 32) :=
  (if h : k0_cond1 t = 1#1 then
    slot i arg2 arg5 arg8 arg9 arg6 harg6 arg10 arg12 (k0_off34 i t) (k0_off34_inb i t h) (k0_cond2 t) (k0_off35 i t) (k0_off35_inb i t h)
  else pure ⟨⟩) >>= fun _ =>
  (if h : k0_cond3 t = 1#1 then
    slot i arg2 arg5 arg8 arg9 arg7 harg7 arg11 arg13 (k0_off68 i t) (k0_off68_inb i t h) (k0_cond4 t) (k0_off69 i t) (k0_off69_inb i t h)
  else pure ⟨⟩) >>= fun _ =>
  pure 0#32

/-- The whole body. -/
noncomputable def body : TileProg F i PUnit := do
  Prog.lift (.enqueueDma arg3 (.here arg8) (.dma v23_r0.sem) harg3.wordExact harg8.wordExact ⟨Or.inl rfl, trivial⟩)
  Prog.lift (.waitDma2 v23_r0.sem arg3 arg8 harg3.wordExact harg8.wordExact)
  Prog.lift (.enqueueDma arg4 (.here arg9) (.dma v23_r1.sem) harg4.wordExact harg9.wordExact ⟨Or.inl rfl, trivial⟩)
  Prog.lift (.waitDma2 v23_r1.sem arg4 arg9 harg4.wordExact harg9.wordExact)
  Prog.lift (.enqueueDma (chunk arg2 (k0_off1 i 0#32) (k0_off1_inb i 0)) (.here arg6) (.dma arg10.sem) (View.wordExact_bits rfl) harg6.wordExact ⟨Or.inl rfl, trivial⟩)
  Prog.lift (.enqueueDma (chunk arg2 (k0_off1 i 120#32) (k0_off1_inb i 1)) (.here arg7) (.dma arg11.sem) (View.wordExact_bits rfl) harg7.wordExact ⟨Or.inl rfl, trivial⟩)
  let _ : BitVec 32 ← Scf.Loop.for k0_t1_loop k0_t1_ok 0#32 fun t _ => turn i arg2 arg5 arg6 harg6 arg7 harg7 arg8 arg9 arg10 arg11 arg12 arg13 t
  Prog.lift (.waitDma2 arg12.sem arg6 (chunk arg5 ![0, 0] inb_S100000x512_S120x512_0_0) harg6.wordExact (View.wordExact_bits rfl))
  Prog.lift (.waitDma2 arg13.sem arg7 (chunk arg5 ![0, 0] inb_S100000x512_S120x512_0_0) harg7.wordExact (View.wordExact_bits rfl))
  if h : k0_cond5 i = 1#1 then
    tail i arg2 arg5 arg8 arg9 arg6 arg14 arg15 (k0_off70 i) (k0_off70_inb i h)
  else pure ⟨⟩

theorem dite_bind {α β : Type} {c : Prop} [Decidable c] (p : c → TileProg F i α) (q : ¬ c → TileProg F i α) (f : α → TileProg F i β) :
    (dite c p q >>= f) = dite c (fun h => p h >>= f) (fun h => q h >>= f) := by
  split <;> rfl

theorem cols_bind (m : Memref sig .scVector .vmem S120x512 .f32) (am bm : Memref sig .scVector .vmem S512 .f32)
    {α β : Type} (f : α → TileProg F i β) (n : Nat) : ∀ (j : Nat) (h : n + j ≤ 32) (k : TileProg F i α),
    (cols i m am bm n j h k >>= f) = cols i m am bm n j h (k >>= f) := by
  induction n with
  | zero => intro j h k; rfl
  | succ n ih => intro j h k; simp only [cols, bind_assoc, ih]

/-- The columns of first slot, as the printed windows cut them. -/
noncomputable def firstWindows (h : k0_cond1 t = 1#1) {α : Type} (k : TileProg F i α) : TileProg F i α := do
  k0_part65 i arg2 harg2 arg3 harg3 arg4 harg4 arg5 harg5 arg6 harg6 arg7 harg7 arg8 harg8 arg9 harg9 arg10 arg11 arg12 arg13 arg14 arg15 v23_r0 v23_r1 t h
  let ⟨a, b, z, z', n⟩ ← k0_part66 i arg2 harg2 arg3 harg3 arg4 harg4 arg5 harg5 arg6 harg6 arg7 harg7 arg8 harg8 arg9 harg9 arg10 arg11 arg12 arg13 arg14 arg15 v23_r0 v23_r1 t h
  let a ← k0_part67 i arg2 harg2 arg3 harg3 arg4 harg4 arg5 harg5 arg6 harg6 arg7 harg7 arg8 harg8 arg9 harg9 arg10 arg11 arg12 arg13 arg14 arg15 v23_r0 v23_r1 t h a b z z' n
  k0_part68 i arg2 harg2 arg3 harg3 arg4 harg4 arg5 harg5 arg6 harg6 arg7 harg7 arg8 harg8 arg9 harg9 arg10 arg11 arg12 arg13 arg14 arg15 v23_r0 v23_r1 t h a
  let ⟨a, b, z⟩ ← k0_part69 i arg2 harg2 arg3 harg3 arg4 harg4 arg5 harg5 arg6 harg6 arg7 harg7 arg8 harg8 arg9 harg9 arg10 arg11 arg12 arg13 arg14 arg15 v23_r0 v23_r1 t h
  let v ← k0_part70 i arg2 harg2 arg3 harg3 arg4 harg4 arg5 harg5 arg6 harg6 arg7 harg7 arg8 harg8 arg9 harg9 arg10 arg11 arg12 arg13 arg14 arg15 v23_r0 v23_r1 t h a b z
  let ⟨a, b, z, z'⟩ ← k0_part71 i arg2 harg2 arg3 harg3 arg4 harg4 arg5 harg5 arg6 harg6 arg7 harg7 arg8 harg8 arg9 harg9 arg10 arg11 arg12 arg13 arg14 arg15 v23_r0 v23_r1 t h v
  let _ ← Scf.Loop.for k0_t2_loop loop_ok z fun t' _ => rows i arg6 (Scf.iv 0#32 1#32 t') (16 * 31) (rows_inb t' 31 (by decide)) a b
  k

theorem firstWindows_eq (h : k0_cond1 t = 1#1) {α : Type} (k : TileProg F i α) :
    firstWindows i arg2 harg2 arg3 harg3 arg4 harg4 arg5 harg5 arg6 harg6 arg7 harg7 arg8 harg8 arg9 harg9 arg10 arg11 arg12 arg13 arg14 arg15 v23_r0 v23_r1 t h k = (do
      Prog.lift (.waitDma2 arg10.sem (chunk arg2 ![0, 0] inb_S100000x512_S120x512_0_0) arg6 (View.wordExact_bits rfl) harg6.wordExact)
      cols i arg6 arg8 arg9 32 0 (by decide) k) := by
  unfold firstWindows
  simp only [part65_eq, part66_eq, part67_eq, part68_eq, part69_eq, part70_eq, part71_eq, bind_assoc, cols_bind, pure_bind]
  rfl

/-- The columns of second slot, as the printed windows cut them. -/
noncomputable def secondWindows (h : k0_cond3 t = 1#1) {α : Type} (k : TileProg F i α) : TileProg F i α := do
  k0_part136 i arg2 harg2 arg3 harg3 arg4 harg4 arg5 harg5 arg6 harg6 arg7 harg7 arg8 harg8 arg9 harg9 arg10 arg11 arg12 arg13 arg14 arg15 v23_r0 v23_r1 t h
  let ⟨a, b, z, z', n⟩ ← k0_part137 i arg2 harg2 arg3 harg3 arg4 harg4 arg5 harg5 arg6 harg6 arg7 harg7 arg8 harg8 arg9 harg9 arg10 arg11 arg12 arg13 arg14 arg15 v23_r0 v23_r1 t h
  let a ← k0_part138 i arg2 harg2 arg3 harg3 arg4 harg4 arg5 harg5 arg6 harg6 arg7 harg7 arg8 harg8 arg9 harg9 arg10 arg11 arg12 arg13 arg14 arg15 v23_r0 v23_r1 t h a b z z' n
  k0_part139 i arg2 harg2 arg3 harg3 arg4 harg4 arg5 harg5 arg6 harg6 arg7 harg7 arg8 harg8 arg9 harg9 arg10 arg11 arg12 arg13 arg14 arg15 v23_r0 v23_r1 t h a
  let ⟨a, b, z⟩ ← k0_part140 i arg2 harg2 arg3 harg3 arg4 harg4 arg5 harg5 arg6 harg6 arg7 harg7 arg8 harg8 arg9 harg9 arg10 arg11 arg12 arg13 arg14 arg15 v23_r0 v23_r1 t h
  let v ← k0_part141 i arg2 harg2 arg3 harg3 arg4 harg4 arg5 harg5 arg6 harg6 arg7 harg7 arg8 harg8 arg9 harg9 arg10 arg11 arg12 arg13 arg14 arg15 v23_r0 v23_r1 t h a b z
  let ⟨a, b, z, z'⟩ ← k0_part142 i arg2 harg2 arg3 harg3 arg4 harg4 arg5 harg5 arg6 harg6 arg7 harg7 arg8 harg8 arg9 harg9 arg10 arg11 arg12 arg13 arg14 arg15 v23_r0 v23_r1 t h v
  let _ ← Scf.Loop.for k0_t2_loop loop_ok z fun t' _ => rows i arg7 (Scf.iv 0#32 1#32 t') (16 * 31) (rows_inb t' 31 (by decide)) a b
  k

theorem secondWindows_eq (h : k0_cond3 t = 1#1) {α : Type} (k : TileProg F i α) :
    secondWindows i arg2 harg2 arg3 harg3 arg4 harg4 arg5 harg5 arg6 harg6 arg7 harg7 arg8 harg8 arg9 harg9 arg10 arg11 arg12 arg13 arg14 arg15 v23_r0 v23_r1 t h k = (do
      Prog.lift (.waitDma2 arg11.sem (chunk arg2 ![0, 0] inb_S100000x512_S120x512_0_0) arg7 (View.wordExact_bits rfl) harg7.wordExact)
      cols i arg7 arg8 arg9 32 0 (by decide) k) := by
  unfold secondWindows
  simp only [part136_eq, part137_eq, part138_eq, part139_eq, part140_eq, part141_eq, part142_eq, bind_assoc, cols_bind, pure_bind]
  rfl

theorem part235_eq (h : k0_cond5 i = 1#1) (a : FVec F S16 .f32) :
    (k0_part235 (F := F) i arg2 harg2 arg3 harg3 arg4 harg4 arg5 harg5 arg6 harg6 arg7 harg7 arg8 harg8 arg9 harg9 arg10 arg11 arg12 arg13 arg14 arg15 v23_r0 v23_r1 h a) = (do
      let vb ← lanes i arg9 (16 * 21) (col_inb 21 (by decide))
      let _ ← rows i arg6 0#32 (16 * 21) (tail_inb 21 (by decide)) a (cast16 vb)
      tcols i arg6 arg8 arg9 10 22 (by decide) (Prog.lift (.enqueueDma (head8 arg6) (.here (octet arg5 (k0_off70 i) (k0_off70_inb i h))) (.dma arg15.sem) (View.wordExact_bits rfl) (View.wordExact_bits rfl) ⟨Or.inl rfl, trivial⟩))) := rfl

theorem tcols_bind (m : Memref sig .scVector .vmem S120x512 .f32) (am bm : Memref sig .scVector .vmem S512 .f32)
    {α β : Type} (f : α → TileProg F i β) (n : Nat) : ∀ (j : Nat) (h : n + j ≤ 32) (k : TileProg F i α),
    (tcols i m am bm n j h k >>= f) = tcols i m am bm n j h (k >>= f) := by
  induction n with
  | zero => intro j h k; rfl
  | succ n ih => intro j h k; simp only [tcols, bind_assoc, ih]

theorem tcols_add (m : Memref sig .scVector .vmem S120x512 .f32) (am bm : Memref sig .scVector .vmem S512 .f32)
    {α : Type} (n' : Nat) (k : TileProg F i α) (n : Nat) : ∀ (j : Nat) (h : n + n' + j ≤ 32),
    tcols i m am bm (n + n') j h k = tcols i m am bm n j (by omega) (tcols i m am bm n' (j + n) (by omega) k) := by
  induction n with
  | zero => intro j h; simp only [Nat.zero_add]; rfl
  | succ n ih =>
    intro j h
    have e : n + 1 + n' = (n + n') + 1 := by omega
    have e' : j + (n + 1) = j + 1 + n := by omega
    simp only [e, e', tcols, ih (j + 1) (by omega)]

theorem tail_eq (v5 : BitVec 32) (h : k0_cond5 i = 1#1) :
    (do let v ← k0_part234 (F := F) i arg2 harg2 arg3 harg3 arg4 harg4 arg5 harg5 arg6 harg6 arg7 harg7 arg8 harg8 arg9 harg9 arg10 arg11 arg12 arg13 arg14 arg15 v23_r0 v23_r1 v5 h
        k0_part235 i arg2 harg2 arg3 harg3 arg4 harg4 arg5 harg5 arg6 harg6 arg7 harg7 arg8 harg8 arg9 harg9 arg10 arg11 arg12 arg13 arg14 arg15 v23_r0 v23_r1 h v
        Prog.lift (.waitDma2 arg15.sem (head8 arg6) (octet arg5 ![0, 0] inb_S100000x512_S8x512_0_0) (View.wordExact_bits rfl) (View.wordExact_bits rfl))
        pure ⟨⟩) = tail i arg2 arg5 arg8 arg9 arg6 arg14 arg15 (k0_off70 i) (k0_off70_inb i h) := by
  unfold tail
  rw [tcols_add i arg6 arg8 arg9 11 _ 21 0 (by decide)]
  simp only [part234_eq, part235_eq, tcols_bind, bind_assoc, pure_bind]
  rfl

/-- One turn's second slot with the printed windows in the columns' place. -/
noncomputable def secondTurn (t : Fin k0_t1_loop.trips) : TileProg F i (BitVec 32) :=
  if h : k0_cond3 t = 1#1 then
    secondWindows i arg2 harg2 arg3 harg3 arg4 harg4 arg5 harg5 arg6 harg6 arg7 harg7 arg8 harg8 arg9 harg9 arg10 arg11 arg12 arg13 arg14 arg15 v23_r0 v23_r1 t h (do
      Prog.lift (.enqueueDma arg7 (.here (chunk arg5 (k0_off68 i t) (k0_off68_inb i t h))) (.dma arg13.sem) harg7.wordExact (View.wordExact_bits rfl) ⟨Or.inl rfl, trivial⟩)
      if h' : k0_cond4 t = 1#1 then do
        Prog.lift (.waitDma2 arg13.sem arg7 (chunk arg5 ![0, 0] inb_S100000x512_S120x512_0_0) harg7.wordExact (View.wordExact_bits rfl))
        Prog.lift (.enqueueDma (chunk arg2 (k0_off69 i t) (k0_off69_inb i t h h')) (.here arg7) (.dma arg11.sem) (View.wordExact_bits rfl) harg7.wordExact ⟨Or.inl rfl, trivial⟩)
        pure ⟨⟩
      else do
        pure ⟨⟩
      pure ⟨⟩
      pure 0#32)
  else pure 0#32

/-- One turn with the printed windows in the columns' place. -/
noncomputable def firstTurn (t : Fin k0_t1_loop.trips) : TileProg F i (BitVec 32) :=
  if h : k0_cond1 t = 1#1 then
    firstWindows i arg2 harg2 arg3 harg3 arg4 harg4 arg5 harg5 arg6 harg6 arg7 harg7 arg8 harg8 arg9 harg9 arg10 arg11 arg12 arg13 arg14 arg15 v23_r0 v23_r1 t h (do
      Prog.lift (.enqueueDma arg6 (.here (chunk arg5 (k0_off34 i t) (k0_off34_inb i t h))) (.dma arg12.sem) harg6.wordExact (View.wordExact_bits rfl) ⟨Or.inl rfl, trivial⟩)
      if h' : k0_cond2 t = 1#1 then do
        Prog.lift (.waitDma2 arg12.sem arg6 (chunk arg5 ![0, 0] inb_S100000x512_S120x512_0_0) harg6.wordExact (View.wordExact_bits rfl))
        Prog.lift (.enqueueDma (chunk arg2 (k0_off35 i t) (k0_off35_inb i t h h')) (.here arg6) (.dma arg10.sem) (View.wordExact_bits rfl) harg6.wordExact ⟨Or.inl rfl, trivial⟩)
        pure ⟨⟩
      else do
        pure ⟨⟩
      pure ⟨⟩
      secondTurn i arg2 harg2 arg3 harg3 arg4 harg4 arg5 harg5 arg6 harg6 arg7 harg7 arg8 harg8 arg9 harg9 arg10 arg11 arg12 arg13 arg14 arg15 v23_r0 v23_r1 t)
  else secondTurn i arg2 harg2 arg3 harg3 arg4 harg4 arg5 harg5 arg6 harg6 arg7 harg7 arg8 harg8 arg9 harg9 arg10 arg11 arg12 arg13 arg14 arg15 v23_r0 v23_r1 t

/-- The body with the printed windows in the columns' place. -/
noncomputable def bodyWindows : TileProg F i PUnit := do
  Prog.lift (.enqueueDma arg3 (.here arg8) (.dma v23_r0.sem) harg3.wordExact harg8.wordExact ⟨Or.inl rfl, trivial⟩)
  Prog.lift (.waitDma2 v23_r0.sem arg3 arg8 harg3.wordExact harg8.wordExact)
  Prog.lift (.enqueueDma arg4 (.here arg9) (.dma v23_r1.sem) harg4.wordExact harg9.wordExact ⟨Or.inl rfl, trivial⟩)
  Prog.lift (.waitDma2 v23_r1.sem arg4 arg9 harg4.wordExact harg9.wordExact)
  Prog.lift (.enqueueDma (chunk arg2 (k0_off1 i 0#32) (k0_off1_inb i 0)) (.here arg6) (.dma arg10.sem) (View.wordExact_bits rfl) harg6.wordExact ⟨Or.inl rfl, trivial⟩)
  Prog.lift (.enqueueDma (chunk arg2 (k0_off1 i 120#32) (k0_off1_inb i 1)) (.here arg7) (.dma arg11.sem) (View.wordExact_bits rfl) harg7.wordExact ⟨Or.inl rfl, trivial⟩)
  let _ : BitVec 32 ← Scf.Loop.for k0_t1_loop k0_t1_ok 0#32 fun t _ => firstTurn i arg2 harg2 arg3 harg3 arg4 harg4 arg5 harg5 arg6 harg6 arg7 harg7 arg8 harg8 arg9 harg9 arg10 arg11 arg12 arg13 arg14 arg15 v23_r0 v23_r1 t
  Prog.lift (.waitDma2 arg12.sem arg6 (chunk arg5 ![0, 0] inb_S100000x512_S120x512_0_0) harg6.wordExact (View.wordExact_bits rfl))
  Prog.lift (.waitDma2 arg13.sem arg7 (chunk arg5 ![0, 0] inb_S100000x512_S120x512_0_0) harg7.wordExact (View.wordExact_bits rfl))
  if h : k0_cond5 i = 1#1 then do
    let v ← k0_part234 i arg2 harg2 arg3 harg3 arg4 harg4 arg5 harg5 arg6 harg6 arg7 harg7 arg8 harg8 arg9 harg9 arg10 arg11 arg12 arg13 arg14 arg15 v23_r0 v23_r1 (Scalar.muli (Scalar.addi (Scalar.muli (Scalar.addi (Scalar.muli (BitVec.ofNat 32 (i 1).val) 2#32) (BitVec.ofNat 32 (i 0).val)) 390#32) (Scalar.minsi (Scalar.addi (Scalar.muli (BitVec.ofNat 32 (i 1).val) 2#32) (BitVec.ofNat 32 (i 0).val)) 20#32)) 8#32) h
    k0_part235 i arg2 harg2 arg3 harg3 arg4 harg4 arg5 harg5 arg6 harg6 arg7 harg7 arg8 harg8 arg9 harg9 arg10 arg11 arg12 arg13 arg14 arg15 v23_r0 v23_r1 h v
    Prog.lift (.waitDma2 arg15.sem (head8 arg6) (octet arg5 ![0, 0] inb_S100000x512_S8x512_0_0) (View.wordExact_bits rfl) (View.wordExact_bits rfl))
    pure ⟨⟩
  else pure ⟨⟩

theorem firstTurn_eq (t : Fin k0_t1_loop.trips) :
    firstTurn (F := F) i arg2 harg2 arg3 harg3 arg4 harg4 arg5 harg5 arg6 harg6 arg7 harg7 arg8 harg8 arg9 harg9 arg10 arg11 arg12 arg13 arg14 arg15 v23_r0 v23_r1 t = turn i arg2 arg5 arg6 harg6 arg7 harg7 arg8 arg9 arg10 arg11 arg12 arg13 t := by
  unfold firstTurn secondTurn turn slot send
  simp only [firstWindows_eq, secondWindows_eq, cols_bind, bind_assoc, dite_bind, pure_bind]

theorem cc0_k_windows : cc0_k (F := F) i arg2 harg2 arg3 harg3 arg4 harg4 arg5 harg5 arg6 harg6 arg7 harg7 arg8 harg8 arg9 harg9 arg10 arg11 arg12 arg13 arg14 arg15 v23_r0 v23_r1 = bodyWindows i arg2 harg2 arg3 harg3 arg4 harg4 arg5 harg5 arg6 harg6 arg7 harg7 arg8 harg8 arg9 harg9 arg10 arg11 arg12 arg13 arg14 arg15 v23_r0 v23_r1 := rfl

theorem cc0_k_eq : cc0_k (F := F) i arg2 harg2 arg3 harg3 arg4 harg4 arg5 harg5 arg6 harg6 arg7 harg7 arg8 harg8 arg9 harg9 arg10 arg11 arg12 arg13 arg14 arg15 v23_r0 v23_r1 = body i arg2 arg3 harg3 arg4 harg4 arg5 arg6 harg6 arg7 harg7 arg8 harg8 arg9 harg9 arg10 arg11 arg12 arg13 arg14 arg15 v23_r0 v23_r1 := by
  rw [cc0_k_windows]
  unfold bodyWindows body
  simp only [firstTurn_eq, tail_eq]

end Cert.KernelIdeal.Compact

end
-- ==== Proof.Ideal.Dma.lean ====
/- The copies of a tile, issued and waited for, as they read and write what the tile holds. -/
module

public import proofs.«01_k».proof.Proof.Ideal.Rows
public import proofs.«01_k».proof.Proof.Ideal.Fold
public import Idealize.ShloMosaic.Lib.ViewIndex

@[expose] public section

set_option maxRecDepth 16384

noncomputable section

namespace Cert.KernelIdeal.Tile

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Compact

variable {F : FTy → Type}

local notation "𝕄" => MT nD τ sig (HIx 1) (Elt F) ℕ UU ℕ

variable [FloatOps F] (d : Dev nD) (i : grid0.Coords)

/-- A copy of the tile in flight on its cell `sem`, delivering `D`. -/
abbrev flight (sem : DmaSem sig) (N : ℕ) (D : sProp 𝕄) : sProp 𝕄 :=
  Transfers.Flight countersEmb (tl d i) (.dma sem) (default : HIx 1) N D

/-- The cell `sem` of the tile at zero. -/
abbrev quiet (sem : DmaSem sig) : sProp 𝕄 := semVal (tl d i, .dma sem) 0

/-- What the tile owes, and that it may wait meanwhile. -/
def debt (O : CellTallies nD τ sig (HIx 1)) (W : Waits sig (HIx 1)) : sProp 𝕄 :=
  iprop(Transfers.MayWaits (tl d i) (default : HIx 1) O ∗ ∃ W', ⌜∀ p ∈ W', p ∈ W ∨ p.2 = none⌝ ∗ owes (tl d i) O W')

variable {d i}

/-- What lies beside a flight may be handed back with its delivery. -/
theorem flight_frame {sem : DmaSem sig} {N : ℕ} {D X : sProp 𝕄} :
    iprop(flight d i sem N D ∗ X) ⊢ flight d i sem N iprop(D ∗ X) := by
  unfold flight Transfers.Flight
  iintro ⟨⟨⟨%R, HR, %hcap, %hpeek⟩, Hcred⟩, HX⟩
  isplitr [Hcred]
  · iexists iprop(R ∗ X)
    isplitl [HR HX]; · isplitl [HR] <;> iassumption
    isplit
    · ipureintro
      intro K
      iintro ⟨⟨HR, HX⟩, HK⟩
      iapply (hcap K)
      isplitl [HR]; · iexact HR
      iintro ⟨Hv, HD⟩
      iapply HK
      isplitl [Hv]; · iexact Hv
      isplitl [HD] <;> iassumption
    · ipureintro
      intro K
      iintro ⟨⟨HR, HX⟩, HK⟩
      iapply (hpeek K)
      isplitl [HR]; · iexact HR
      iintro HR
      iapply HK
      isplitl [HR] <;> iassumption
  · iexact Hcred

theorem tdma {sp sp' : Space} {s : Shape} {e : EltTy} {src : Memref sig .scVector sp s e} {dst : Memref sig .scVector sp' s e} {sem : DmaSem sig}
    {h1 : src.view.WordExact} {h2 : dst.view.WordExact} {h3 : DmaTarget.Typed (nD := nD) (p := (tl d i).2) sp (.dma sem) (.here dst)}
    {q : PosShare TreeShare} {fs : Buf (Elt F) (src.view.loc (tl d i))} {g : s.Idx → Elt F e} (hN : 0 < s.numel) :
    iprop((src.view.loc (tl d i) ↦[src.view.set]{q} fs) ∗ held d i dst g ∗ quiet d i sem)
      ⊢ twp d i (Prog.lift (.enqueueDma src (.here dst) (.dma sem) h1 h2 h3))
        (fun _ => flight d i sem dst.view.dmaCredit iprop(held d i dst (src.view.read (Elt F) fs) ∗ (src.view.loc (tl d i) ↦[src.view.set]{q} fs))) := by
  unfold held
  iintro ⟨Hs, ⟨%f, -, Hd⟩, Hv⟩
  iapply (Transfers.wp_dmaLocal countersEmb 𝒱₀ (tl d i) none (src := src) (dst := dst) (via := .same) (sm := .dma sem) (q := q) (fs := fs)
    (Sd := dst.view.set) (fd := f) (default : HIx 1) dst.view.dmaCredit rfl (View.dmaCredit_pos _ hN) (Finset.Subset.refl _)) $$ [Hs Hd Hv]
  · isplitl [Hs]; · iexact Hs
    isplitl [Hd] <;> iassumption
  iintro Hf
  rw [wp_ret]
  imodintro
  iapply (Transfers.Flight_mono countersEmb (tl d i) ?_) $$ Hf
  iintro ⟨Hd, Hs⟩
  isplitl [Hd]
  · iexists _
    isplitr
    rotate_left
    · iexact Hd
    · ipureintro; exact View.read_write_univ (v := dst.view) f _
  · iexact Hs

theorem twait {sp sp' : Space} {s s' : Shape} {e e' : EltTy} {src : Memref sig .scVector sp' s' e'} {dst : Memref sig .scVector sp s e} {sem : DmaSem sig}
    {h1 : src.view.WordExact} {h2 : dst.view.WordExact} {N : ℕ} (hN : dst.view.dmaCredit = N) {D : sProp 𝕄}
    {O : CellTallies nD τ sig (HIx 1)} {W : Waits sig (HIx 1)} :
    iprop(flight d i sem N D ∗ debt d i O W)
      ⊢ twp d i (Prog.lift (.waitDma2 sem src dst h1 h2)) (fun _ => iprop(D ∗ quiet d i sem ∗ debt d i O W)) := by
  unfold debt
  iintro ⟨Hf, #Hmw, %W', %hW', HO⟩
  iapply (Transfers.wp_waitLocalO countersEmb 𝒱₀ (tl d i) none (srcw := src) (dstw := dst) (default : HIx 1) hN) $$ [Hf HO]
  · isplitl [Hf]; · iexact Hf
    isplitl [HO]; · iexact HO
    iapply (Transfers.MayWaits.elim (SemLoc.dma sem)) $$ Hmw
  iintro ⟨HD, Hv, HO⟩
  rw [wp_ret]
  imodintro
  isplitl [HD]; · iexact HD
  isplitl [Hv]; · iexact Hv
  isplitr; · iexact Hmw
  iexists _
  isplitr
  rotate_left
  · iexact HO
  · ipureintro
    intro p hp
    rcases Finset.mem_insert.mp hp with hp | hp
    · exact .inr (hp ▸ rfl)
    · exact hW' p hp

/-- What a memref holds, when it reads what an array holding `G` reads there. -/
theorem held_elim {sp : Space} {s : Shape} {e : EltTy} {m : Memref sig .scVector sp s e} (G : Buf (Elt F) (m.view.loc (tl d i))) {g : s.Idx → Elt F e}
    (h : m.view.read (Elt F) G = g) : held d i m g ⊢ (m.view.loc (tl d i) ↦[m.view.set]{fullShare} G) := by
  unfold held
  iintro ⟨%f, %hf, H⟩
  iapply (Entails.of_eq (pointsTo_congr (f := f) (g := G) ?_)) $$ H
  intro k hk
  obtain ⟨x, -, rfl⟩ := Finset.mem_map.mp hk
  exact View.eq_of_read_eq (v := m.view) (congrFun (hf.trans h.symm) x)

theorem held_intro {sp : Space} {s : Shape} {e : EltTy} {m : Memref sig .scVector sp s e} (f : Buf (Elt F) (m.view.loc (tl d i))) :
    (m.view.loc (tl d i) ↦[m.view.set]{fullShare} f) ⊢ held d i m (m.view.read (Elt F) f) := by
  unfold held
  iintro H
  iexists f
  isplitr; · ipureintro; rfl
  iexact H

/-- A copy out of a slice of an array held whole: the array comes back whole. -/
theorem tdma_sub {sp sp' : Space} {s s₀ : Shape} {e : EltTy} {x : Memref sig .scVector sp s₀ e} {r : Rect s₀} {hr : ∀ a, r.stride a = 1}
    {dst : Memref sig .scVector sp' r.shape e} {sem : DmaSem sig}
    {h1 : (x.slice r hr).view.WordExact} {h2 : dst.view.WordExact} {h3 : DmaTarget.Typed (nD := nD) (p := (tl d i).2) sp (.dma sem) (.here dst)}
    {q : PosShare TreeShare} {X : Buf (Elt F) (x.view.loc (tl d i))} {g : r.shape.Idx → Elt F e} (hN : 0 < r.shape.numel) :
    iprop((x.view.loc (tl d i) ↦{q} X) ∗ held d i dst g ∗ quiet d i sem)
      ⊢ twp d i (Prog.lift (.enqueueDma (x.slice r hr) (.here dst) (.dma sem) h1 h2 h3))
        (fun _ => flight d i sem dst.view.dmaCredit iprop(held d i dst ((x.slice r hr).view.read (Elt F) X) ∗ (x.view.loc (tl d i) ↦{q} X))) := by
  iintro ⟨Hx, Hd, Hv⟩
  ihave Hxs := (pointsTo_split_subset (q := q) (f := X) (S := Finset.univ) (Finset.subset_univ (x.slice r hr).view.set)).1 $$ Hx
  icases Hxs with ⟨Hxs, Hxr⟩
  have back : iprop((held d i dst ((x.slice r hr).view.read (Elt F) X) ∗ (x.view.loc (tl d i) ↦[(x.slice r hr).view.set]{q} X))
        ∗ (x.view.loc (tl d i) ↦[Finset.univ \ (x.slice r hr).view.set]{q} X))
      ⊢ (iprop(held d i dst ((x.slice r hr).view.read (Elt F) X) ∗ (x.view.loc (tl d i) ↦{q} X)) : sProp 𝕄) := by
    iintro ⟨⟨Hd, Hxs⟩, Hxr⟩
    isplitl [Hd]; · iexact Hd
    iapply (pointsTo_split_subset (q := q) (f := X) (S := Finset.univ) (Finset.subset_univ (x.slice r hr).view.set)).2
    isplitl [Hxs] <;> iassumption
  iapply (tmono (tframe (tdma (src := x.slice r hr) (dst := dst) (q := q) (fs := X) (g := g) hN)) fun _ =>
    flight_frame.trans (Transfers.Flight_mono countersEmb (tl d i) back)) $$ [Hxs Hxr Hd Hv]
  isplitr [Hxr]
  rotate_left
  · iexact Hxr
  isplitl [Hxs]; · iexact Hxs
  isplitl [Hd] <;> iassumption

/-- A copy out of a buffer into a slice of an array. -/
theorem tdma_out {sp sp' : Space} {s : Shape} {e : EltTy} {src : Memref sig .scVector sp s e} {dst : Memref sig .scVector sp' s e} {sem : DmaSem sig}
    {h1 : src.view.WordExact} {h2 : dst.view.WordExact} {h3 : DmaTarget.Typed (nD := nD) (p := (tl d i).2) sp (.dma sem) (.here dst)}
    {g : s.Idx → Elt F e} {f : Buf (Elt F) (dst.view.loc (tl d i))} (G : Buf (Elt F) (dst.view.loc (tl d i)))
    (hG : dst.view.read (Elt F) G = g) (hN : 0 < s.numel) :
    iprop(held d i src g ∗ (dst.view.loc (tl d i) ↦[dst.view.set]{fullShare} f) ∗ quiet d i sem)
      ⊢ twp d i (Prog.lift (.enqueueDma src (.here dst) (.dma sem) h1 h2 h3))
        (fun _ => flight d i sem dst.view.dmaCredit iprop((dst.view.loc (tl d i) ↦[dst.view.set]{fullShare} G) ∗ held d i src g)) := by
  iintro ⟨Hs, Hd, Hv⟩
  ihave Hd' := (held_intro (d := d) (i := i) (m := dst) f) $$ Hd
  ihave Hs' := (show held d i src g ⊢ iprop(∃ f : Buf (Elt F) (src.view.loc (tl d i)), ⌜src.view.read (Elt F) f = g⌝ ∗ src.view.loc (tl d i) ↦[src.view.set]{fullShare} f) from Entails.of_eq rfl) $$ Hs
  icases Hs' with ⟨%fs, %hfs, Hs⟩
  have back : iprop(held d i dst (src.view.read (Elt F) fs) ∗ (src.view.loc (tl d i) ↦[src.view.set]{fullShare} fs))
      ⊢ (iprop((dst.view.loc (tl d i) ↦[dst.view.set]{fullShare} G) ∗ held d i src g) : sProp 𝕄) := by
    iintro ⟨Hd, Hs⟩
    isplitl [Hd]
    · iapply (held_elim G (hG.trans hfs.symm)) $$ Hd
    · unfold held
      iexists fs
      isplitr; · ipureintro; exact hfs
      iexact Hs
  iapply (tmono (tdma (src := src) (dst := dst) (q := fullShare) (fs := fs) (g := dst.view.read (Elt F) f) hN) fun _ =>
    Transfers.Flight_mono countersEmb (tl d i) back) $$ [Hs Hd' Hv]
  isplitl [Hs]; · iexact Hs
  isplitl [Hd'] <;> iassumption

end Cert.KernelIdeal.Tile

end
-- ==== Proof.Ideal.Ring.lean ====
/- A tile's ring of two buffers over its twenty-six chunks of rows, its last eight rows, and its whole body. -/
module

public import proofs.«01_k».proof.Proof.Ideal.Dma

@[expose] public section

set_option maxRecDepth 16384

noncomputable section

namespace Cert.KernelIdeal.Tile

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Compact

variable {F : FTy → Type}

local notation "𝕄" => MT nD τ sig (HIx 1) (Elt F) ℕ UU ℕ

/-! ## The rows of a tile -/

/-- The first row of the tile's chunk `n` of slot `s`. -/
def rowAt (i : grid0.Coords) (s n : Nat) : Nat :=
  6240 * (i 1).val + 3120 * (i 0).val + 8 * (min (2 * (i 1).val + (i 0).val) 20) + 240 * n + 120 * s

theorem i0_lt (i : grid0.Coords) : (i 0).val < 2 := (i 0).isLt
theorem i1_lt (i : grid0.Coords) : (i 1).val < 16 := (i 1).isLt

theorem chunk_inb (i : grid0.Coords) (s n : Nat) (hs : s < 2) (hn : n < 13) :
    ∀ a, (![rowAt i s n, 0] : Fin 2 → Nat) a + S120x512.size a ≤ S100000x512.size a := by
  intro a
  have h0 := i0_lt i
  have h1 := i1_lt i
  match a with
  | 0 => show rowAt i s n + 120 ≤ 100000; unfold rowAt; omega
  | 1 => show 0 + 512 ≤ 512; omega

theorem octet_inb (i : grid0.Coords) (h : 2 * (i 1).val + (i 0).val < 20) :
    ∀ a, (![rowAt i 0 13, 0] : Fin 2 → Nat) a + S8x512.size a ≤ S100000x512.size a := by
  intro a
  have h0 := i0_lt i
  have h1 := i1_lt i
  match a with
  | 0 => show rowAt i 0 13 + 8 ≤ 100000; unfold rowAt; omega
  | 1 => show 0 + 512 ≤ 512; omega

theorem trips1_eq : k0_t1_loop.trips = 13 := by decide
theorem cond1_true : ∀ t : Fin k0_t1_loop.trips, k0_cond1 t = 1#1 := by decide +kernel
theorem cond3_true : ∀ t : Fin k0_t1_loop.trips, k0_cond3 t = 1#1 := by decide +kernel
theorem cond2_iff : ∀ t : Fin k0_t1_loop.trips, k0_cond2 t = 1#1 ↔ t.val < 12 := by decide +kernel
theorem cond4_iff : ∀ t : Fin k0_t1_loop.trips, k0_cond4 t = 1#1 ↔ t.val < 12 := by decide +kernel
theorem cond5_iff : ∀ i : grid0.Coords, k0_cond5 i = 1#1 ↔ 2 * (i 1).val + (i 0).val < 20 := by decide +kernel

theorem off1_eq (i : grid0.Coords) : k0_off1 i 0#32 = ![rowAt i 0 0, 0] := by
  rw [show (0#32 : BitVec 32) = BitVec.ofNat 32 (120 * (0 : Fin 2).val) from rfl, k0_off1_eq]; rfl
theorem off1'_eq (i : grid0.Coords) : k0_off1 i 120#32 = ![rowAt i 1 0, 0] := by
  rw [show (120#32 : BitVec 32) = BitVec.ofNat 32 (120 * (1 : Fin 2).val) from rfl, k0_off1_eq]; rfl
theorem off34_eq (i : grid0.Coords) (t : Fin k0_t1_loop.trips) : k0_off34 i t = ![rowAt i 0 t.val, 0] := k0_off34_eq i t
theorem off35_eq (i : grid0.Coords) (t : Fin k0_t1_loop.trips) : k0_off35 i t = ![rowAt i 0 (t.val + 1), 0] := by
  rw [k0_off35_eq]; refine congrArg (fun n : Nat => (![n, 0] : Fin 2 → Nat)) ?_; unfold rowAt; omega
theorem off68_eq (i : grid0.Coords) (t : Fin k0_t1_loop.trips) : k0_off68 i t = ![rowAt i 1 t.val, 0] := k0_off68_eq i t
theorem off69_eq (i : grid0.Coords) (t : Fin k0_t1_loop.trips) : k0_off69 i t = ![rowAt i 1 (t.val + 1), 0] := by
  rw [k0_off69_eq]; refine congrArg (fun n : Nat => (![n, 0] : Fin 2 → Nat)) ?_; unfold rowAt; omega
theorem off70_eq (i : grid0.Coords) : k0_off70 i = ![rowAt i 0 13, 0] := k0_off70_eq i

variable [FloatOps F] {d : Dev nD} {i : grid0.Coords}

theorem numel_pos : 0 < S120x512.numel := by decide

/-- A step that uses part of what is at hand. -/
theorem tstep {α β : Type} {A P R : sProp 𝕄} {B : α → sProp 𝕄} {p : TileProg F i α} {k : α → TileProg F i β} {Q : β → sProp 𝕄}
    (hp : A ⊢ twp d i p B) (h : P ⊢ iprop(A ∗ R)) (hk : ∀ y, iprop(B y ∗ R) ⊢ twp d i (k y) Q) : P ⊢ twp d i (p >>= k) Q :=
  h.trans (tseq (tframe hp) hk)

section Slot

variable {x o : Memref sig .scVector .hbm S100000x512 .f32} {am bm : Memref sig .scVector .vmem S512 .f32}
  (X : Buf (Elt F) (x.view.loc (tl d i))) (G : Buf (Elt F) (o.view.loc (tl d i))) (av bv : S512.Idx → Elt F .f32)

/-- The result array's rows from a place on, a number of them, at `f`. -/
abbrev outAt (off : Fin 2 → Nat) (h : ∀ a, off a + S120x512.size a ≤ S100000x512.size a) (f : Buf (Elt F) (o.view.loc (tl d i))) : sProp 𝕄 :=
  o.view.loc (tl d i) ↦[(chunk o off h).view.set]{fullShare} f

/-- `G` is `X` scaled and shifted, wherever the tile looks. -/
def Scaled : Prop :=
  (∀ off h (p : S120x512.Idx), (chunk o off h).view.read (Elt F) G p = affine av bv (p 1) ((chunk x off h).view.read (Elt F) X p))
  ∧ ∀ off h (p : S8x512.Idx), (octet o off h).view.read (Elt F) G p = affine av bv (p 1) ((octet x off h).view.read (Elt F) X p)

variable (s : Nat) (hs : s < 2) (q : PosShare TreeShare) (m : Memref sig .scVector .vmem S120x512 .f32) (si so : DmaSems sig S_)

/-- What chunk `n` of the input reads. -/
abbrev chunkIn (n : Nat) (hn : n < 13) : S120x512.Idx → Elt F .f32 := (chunk x ![rowAt i s n, 0] (chunk_inb i s n hs hn)).view.read (Elt F) X

/-- The slot's chunk `k` of the result: written if `k` is below `t`. -/
def cell (t : Nat) (k : Fin 13) : sProp 𝕄 :=
  if k.val < t then outAt (d := d) (i := i) (o := o) ![rowAt i s k.val, 0] (chunk_inb i s k.val hs k.isLt) G
  else iprop(∃ f : Buf (Elt F) (o.view.loc (tl d i)), outAt (d := d) (i := i) (o := o) ![rowAt i s k.val, 0] (chunk_inb i s k.val hs k.isLt) f)

theorem cells_take (t : Nat) (ht : t < 13) :
    (bigSep Finset.univ (cell (o := o) G s hs t) : sProp 𝕄)
      = iprop((∃ f : Buf (Elt F) (o.view.loc (tl d i)), outAt (d := d) (i := i) (o := o) ![rowAt i s t, 0] (chunk_inb i s t hs ht) f)
        ∗ bigSep (Finset.univ.erase ⟨t, ht⟩) (cell (o := o) G s hs t)) := by
  rw [SparseCore.bigSep_erase' (Finset.mem_univ (⟨t, ht⟩ : Fin 13))]
  congr 1
  exact if_neg (Nat.lt_irrefl t)

theorem cells_put (t : Nat) (ht : t < 13) :
    iprop(outAt (d := d) (i := i) (o := o) ![rowAt i s t, 0] (chunk_inb i s t hs ht) G
        ∗ bigSep (Finset.univ.erase ⟨t, ht⟩) (cell (o := o) G s hs t))
      = (bigSep Finset.univ (cell (o := o) G s hs (t + 1)) : sProp 𝕄) := by
  rw [SparseCore.bigSep_erase' (Finset.mem_univ (⟨t, ht⟩ : Fin 13)) (Φ := cell (o := o) G s hs (t + 1))]
  congr 1
  · exact (if_pos (Nat.lt_succ_self t)).symm
  · refine bigSep_congr fun k hk => ?_
    have hne : k.val ≠ t := fun e => (Finset.mem_erase.mp hk).1 (Fin.ext e)
    unfold cell
    by_cases h : k.val < t
    · rw [if_pos h, if_pos (by omega)]
    · rw [if_neg h, if_neg (by omega)]

/-- The slot before turn `t`: its chunk on the way in, or, after the last turn, its last chunk on the way out. -/
def slotSt (t : Nat) : sProp 𝕄 :=
  if h : t < 13 then
    iprop(flight d i si.sem m.view.dmaCredit iprop(held d i m (chunkIn X s hs t h) ∗ (x.view.loc (tl d i) ↦{q} X))
      ∗ quiet d i so.sem ∗ bigSep Finset.univ (cell G s hs t))
  else
    iprop(flight d i so.sem (chunk o ![0, 0] inb_S100000x512_S120x512_0_0).view.dmaCredit
        iprop(outAt ![rowAt i s 12, 0] (chunk_inb i s 12 hs (by decide)) G ∗ ∃ g, held d i m g)
      ∗ quiet d i si.sem ∗ (x.view.loc (tl d i) ↦{q} X) ∗ bigSep (Finset.univ.erase (12 : Fin 13)) (cell G s hs 12))

theorem send_wp (hG : Scaled (x := x) (o := o) X G av bv) {hm : m.IsWhole} {O : CellTallies nD τ sig (HIx 1)} {W : Waits sig (HIx 1)} (t : Nat) (ht : t < 13)
    {hO : ∀ a, (![rowAt i s t, 0] : Fin 2 → Nat) a + S120x512.size a ≤ S100000x512.size a}
    {more : BitVec 1} (hmore : more = 1#1 ↔ t < 12)
    {hI : more = 1#1 → ∀ a, (![rowAt i s (t + 1), 0] : Fin 2 → Nat) a + S120x512.size a ≤ S100000x512.size a} (f : Buf (Elt F) (o.view.loc (tl d i))) :
    iprop(held d i m (fun p => affine av bv (p 1) (chunkIn (d := d) X s hs t ht p)) ∗ outAt (d := d) (i := i) (o := o) ![rowAt i s t, 0] (chunk_inb i s t hs ht) f
        ∗ quiet d i so.sem ∗ (x.view.loc (tl d i) ↦{q} X) ∗ quiet d i si.sem ∗ debt d i O W
        ∗ bigSep (Finset.univ.erase ⟨t, ht⟩) (cell (o := o) G s hs t) ∗ (held d i am av ∗ held d i bm bv))
      ⊢ twp d i (send i x o m hm si so ![rowAt i s t, 0] hO more ![rowAt i s (t + 1), 0] hI)
        (fun _ => iprop(slotSt (x := x) (o := o) X G s hs q m si so (t + 1) ∗ (held d i am av ∗ held d i bm bv) ∗ debt d i O W)) := by
  have scaled : (chunk o ![rowAt i s t, 0] hO).view.read (Elt F) G = fun p => affine av bv (p 1) (chunkIn (d := d) X s hs t ht p) :=
    funext fun p => hG.1 _ _ p
  unfold send
  refine tstep (tdma_out (dst := chunk o ![rowAt i s t, 0] hO) (f := f) G scaled (by decide))
    (R := iprop((x.view.loc (tl d i) ↦{q} X) ∗ quiet d i si.sem ∗ debt d i O W
        ∗ bigSep (Finset.univ.erase ⟨t, ht⟩) (cell (o := o) G s hs t) ∗ (held d i am av ∗ held d i bm bv))) ?_ fun _ => ?_
  · iintro ⟨Hm, Ho, Hso, HR⟩
    iframe
  split
  · rename_i hm1
    have ht' : t < 12 := hmore.mp hm1
    rw [show slotSt (x := x) (o := o) X G s hs q m si so (t + 1) = _ from dif_pos (by omega), ← cells_put G s hs t ht]
    refine tstep (twait (D := iprop(outAt (d := d) (i := i) (o := o) ![rowAt i s t, 0] (chunk_inb i s t hs ht) G
          ∗ held d i m (fun p => affine av bv (p 1) (chunkIn (d := d) X s hs t ht p)))) (O := O) (W := W) rfl)
      (R := iprop((x.view.loc (tl d i) ↦{q} X) ∗ quiet d i si.sem
        ∗ bigSep (Finset.univ.erase ⟨t, ht⟩) (cell (o := o) G s hs t) ∗ (held d i am av ∗ held d i bm bv))) ?_ fun _ => ?_
    · iintro ⟨Hf, Hx, Hsi, Hd, Hc, Hab⟩
      iframe
    refine (show _ ⊢ iprop(((x.view.loc (tl d i) ↦{q} X) ∗ held d i m (fun p => affine av bv (p 1) (chunkIn (d := d) X s hs t ht p)) ∗ quiet d i si.sem)
        ∗ (outAt (d := d) (i := i) (o := o) ![rowAt i s t, 0] (chunk_inb i s t hs ht) G ∗ quiet d i so.sem ∗ debt d i O W
          ∗ bigSep (Finset.univ.erase ⟨t, ht⟩) (cell (o := o) G s hs t) ∗ (held d i am av ∗ held d i bm bv))) from ?_).trans
      (tmono (tframe (tdma_sub (s := S120x512) (x := x) (r := Rect.unit (s := S100000x512) ![rowAt i s (t + 1), 0] S120x512.size (hI hm1)) (hr := fun _ => rfl)
        (dst := m) (X := X) (q := q) numel_pos)) fun _ => ?_)
    · iintro ⟨⟨⟨Ho, Hm⟩, Hso, Hd⟩, Hx, Hsi, Hc, Hab⟩
      iframe
    · iintro ⟨Hf, Ho, Hso, Hd, Hc, Hab⟩
      iframe
      iexact Hf
  · rename_i hm1
    obtain rfl : t = 12 := by have := mt hmore.mpr hm1; omega
    rw [show slotSt (x := x) (o := o) X G s hs q m si so (12 + 1) = _ from dif_neg (by decide)]
    have back : iprop(outAt (d := d) (i := i) (o := o) ![rowAt i s 12, 0] (chunk_inb i s 12 hs ht) G
          ∗ held d i m (fun p => affine av bv (p 1) (chunkIn (d := d) X s hs 12 ht p)))
        ⊢ (iprop(outAt (d := d) (i := i) (o := o) ![rowAt i s 12, 0] (chunk_inb i s 12 hs (by decide)) G ∗ ∃ g, held d i m g) : sProp 𝕄) := by
      iintro ⟨Ho, Hm⟩
      isplitl [Ho]; · iexact Ho
      iexists _
      iexact Hm
    have flown := Transfers.Flight_mono (N := (chunk o ![0, 0] inb_S100000x512_S120x512_0_0).view.dmaCredit) (sm := SemLoc.dma so.sem) (ι := (default : HIx 1)) countersEmb (tl d i) back
    refine tpure ((sep_mono_left flown).trans ?_)
    iintro ⟨Hf, Hx, Hsi, Hd, Hc, Hab⟩
    iframe
    iexact Hc

theorem slot_wp (hG : Scaled (x := x) (o := o) X G av bv) {hm : m.IsWhole} {O : CellTallies nD τ sig (HIx 1)} {W : Waits sig (HIx 1)} (t : Nat) (ht : t < 13)
    {offO : Fin 2 → Nat} {hO : ∀ a, offO a + S120x512.size a ≤ S100000x512.size a} (eO : offO = ![rowAt i s t, 0])
    {more : BitVec 1} (hmore : more = 1#1 ↔ t < 12) {offI : Fin 2 → Nat}
    {hI : more = 1#1 → ∀ a, offI a + S120x512.size a ≤ S100000x512.size a} (eI : offI = ![rowAt i s (t + 1), 0]) :
    iprop(slotSt (x := x) (o := o) X G s hs q m si so t ∗ (held d i am av ∗ held d i bm bv) ∗ debt d i O W)
      ⊢ twp d i (slot i x o am bm m hm si so offO hO more offI hI)
        (fun _ => iprop(slotSt (x := x) (o := o) X G s hs q m si so (t + 1) ∗ (held d i am av ∗ held d i bm bv) ∗ debt d i O W)) := by
  subst eO eI
  have scaled : (chunk o ![rowAt i s t, 0] hO).view.read (Elt F) G = fun p => affine av bv (p 1) (chunkIn (d := d) X s hs t ht p) :=
    funext fun p => hG.1 _ _ p
  unfold slot
  rw [show slotSt (x := x) (o := o) X G s hs q m si so t = _ from dif_pos ht, cells_take G s hs t ht]
  refine tstep (twait (D := iprop(held d i m (chunkIn X s hs t ht) ∗ (x.view.loc (tl d i) ↦{q} X))) (O := O) (W := W) rfl)
    (R := iprop(quiet d i so.sem ∗ ((∃ f : Buf (Elt F) (o.view.loc (tl d i)), outAt (d := d) (i := i) (o := o) ![rowAt i s t, 0] (chunk_inb i s t hs ht) f)
        ∗ bigSep (Finset.univ.erase ⟨t, ht⟩) (cell (o := o) G s hs t)) ∗ held d i am av ∗ held d i bm bv)) ?_ fun _ => ?_
  · iintro ⟨⟨Hf, Hso, Hcells⟩, ⟨Ha, Hb⟩, Hd⟩
    iframe
  refine (show _ ⊢ iprop((held d i m (upd (fun y => (y 1).val / 16 < 0) av bv (chunkIn X s hs t ht)) ∗ held d i am av ∗ held d i bm bv)
      ∗ ((x.view.loc (tl d i) ↦{q} X) ∗ quiet d i si.sem ∗ debt d i O W ∗ quiet d i so.sem
        ∗ (∃ f : Buf (Elt F) (o.view.loc (tl d i)), outAt (d := d) (i := i) (o := o) ![rowAt i s t, 0] (chunk_inb i s t hs ht) f)
        ∗ bigSep (Finset.univ.erase ⟨t, ht⟩) (cell (o := o) G s hs t))) from ?_).trans (cols_wp ?_ 32 0 _ rfl)
  · rw [upd_none (fun y => Nat.not_lt_zero _)]
    iintro ⟨⟨⟨Hm, Hx⟩, Hsi, Hd⟩, Hso, ⟨Ho, Hcells⟩, Ha, Hb⟩
    iframe
  iintro ⟨⟨Hm, Ha, Hb⟩, Hx, Hsi, Hd, Hso, ⟨%f, Ho⟩, Hcells⟩
  iapply (send_wp X G av bv s hs q m si so hG t ht hmore f) $$ [Hm Ha Hb Hx Hsi Hd Hso Ho Hcells]
  iframe

end Slot

end Cert.KernelIdeal.Tile

end
-- ==== Proof.Ideal.Tail.lean ====
/- A tile's last eight rows, its loop, and its whole body. -/
module

public import proofs.«01_k».proof.Proof.Ideal.Ring

@[expose] public section

set_option maxRecDepth 16384

noncomputable section

namespace Cert.KernelIdeal.Tile

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Compact

variable {F : FTy → Type}

local notation "𝕄" => MT nD τ sig (HIx 1) (Elt F) ℕ UU ℕ

variable [FloatOps F] {d : Dev nD} {i : grid0.Coords}

/-! ## The first eight rows of a buffer -/

/-- The first eight rows of a buffer's indices. -/
abbrev r8 : Rect S120x512 := Rect.unit (s := S120x512) ![0, 0] S8x512.size inb_S120x512_S8x512_0_0

theorem head_split {m : Memref sig .scVector .vmem S120x512 .f32} {g : S120x512.Idx → Elt F .f32} :
    held d i m g ⊢ iprop(held d i (head8 m) (fun p => g (r8.emb p))
      ∗ ∃ f : Buf (Elt F) (m.view.loc (tl d i)), m.view.loc (tl d i) ↦[m.view.set \ (head8 m).view.set]{fullShare} f) := by
  unfold held
  iintro ⟨%f, %hf, H⟩
  ihave H' := (pointsTo_split_subset (q := fullShare) (f := f) (View.set_slice_subset m.view r8)).1 $$ H
  icases H' with ⟨H1, H2⟩
  isplitl [H1]
  · iexists f
    isplitr
    rotate_left
    · iexact H1
    · ipureintro; subst hf; rfl
  · iexists f
    iexact H2

theorem head_join {m : Memref sig .scVector .vmem S120x512 .f32} {h : S8x512.Idx → Elt F .f32} :
    iprop(held d i (head8 m) h ∗ ∃ f : Buf (Elt F) (m.view.loc (tl d i)), m.view.loc (tl d i) ↦[m.view.set \ (head8 m).view.set]{fullShare} f)
      ⊢ (iprop(∃ g : S120x512.Idx → Elt F .f32, ⌜∀ p : S8x512.Idx, g (r8.emb p) = h p⌝ ∗ held d i m g) : sProp 𝕄) := by
  classical
  unfold held
  iintro ⟨⟨%f, %hf, H1⟩, %f', H2⟩
  let fj : Buf (Elt F) (m.view.loc (tl d i)) := fun k => if k ∈ (head8 m).view.set then f k else f' k
  ihave H1' := (Entails.of_eq (pointsTo_congr (ℓ := m.view.loc (tl d i)) (q := fullShare) (I := (head8 m).view.set) (f := f) (g := fj) (fun k hk => (if_pos hk).symm))) $$ H1
  ihave H2' := (Entails.of_eq (pointsTo_congr (ℓ := m.view.loc (tl d i)) (q := fullShare) (I := m.view.set \ (head8 m).view.set) (f := f') (g := fj)
    (fun k hk => (if_neg (Finset.mem_sdiff.mp hk).2).symm))) $$ H2
  iexists m.view.read (Elt F) fj
  isplitr
  · ipureintro
    intro p
    subst hf
    show (head8 m).view.read (Elt F) fj p = (head8 m).view.read (Elt F) f p
    exact congrFun (View.read_congr (v := (head8 m).view) (f := fj) (g := f) fun k hk => if_pos hk) p
  iexists fj
  isplitr; · ipureintro; rfl
  iapply (pointsTo_split_subset (q := fullShare) (f := fj) (View.set_slice_subset m.view r8)).2
  isplitl [H1'] <;> iassumption

theorem numel8_pos : 0 < S8x512.numel := by decide

section Tail

variable {x o : Memref sig .scVector .hbm S100000x512 .f32} {am bm : Memref sig .scVector .vmem S512 .f32}
  (X : Buf (Elt F) (x.view.loc (tl d i))) (G : Buf (Elt F) (o.view.loc (tl d i))) (av bv : S512.Idx → Elt F .f32)

/-- Eight rows of the result array, at `f`. -/
abbrev outAt8 (off : Fin 2 → Nat) (h : ∀ a, off a + S8x512.size a ≤ S100000x512.size a) (f : Buf (Elt F) (o.view.loc (tl d i))) : sProp 𝕄 :=
  o.view.loc (tl d i) ↦[(octet o off h).view.set]{fullShare} f

theorem tail_wp (hG : Scaled (x := x) (o := o) X G av bv) {m : Memref sig .scVector .vmem S120x512 .f32} {si so : DmaSems sig S_} {q : PosShare TreeShare}
    {O : CellTallies nD τ sig (HIx 1)} {W : Waits sig (HIx 1)} {off : Fin 2 → Nat} {h : ∀ a, off a + S8x512.size a ≤ S100000x512.size a}
    {g : S120x512.Idx → Elt F .f32} {f : Buf (Elt F) (o.view.loc (tl d i))} :
    iprop(held d i m g ∗ (x.view.loc (tl d i) ↦{q} X) ∗ outAt8 (o := o) off h f ∗ quiet d i si.sem ∗ quiet d i so.sem ∗ (held d i am av ∗ held d i bm bv) ∗ debt d i O W)
      ⊢ twp d i (tail i x o am bm m si so off h)
        (fun _ => iprop((∃ g, held d i m g) ∗ (x.view.loc (tl d i) ↦{q} X) ∗ outAt8 (o := o) off h G ∗ quiet d i si.sem ∗ quiet d i so.sem
          ∗ (held d i am av ∗ held d i bm bv) ∗ debt d i O W)) := by
  let rest : sProp 𝕄 := iprop(∃ f : Buf (Elt F) (m.view.loc (tl d i)), m.view.loc (tl d i) ↦[m.view.set \ (head8 m).view.set]{fullShare} f)
  let xin : S8x512.Idx → Elt F .f32 := (octet x off h).view.read (Elt F) X
  have rowsOk : ∀ p : S8x512.Idx, ((r8.emb p) 0).val / 8 = 0 ∧ (r8.emb p) 1 = p 1 := by
    intro p
    have h8 : (p 0).val < 8 := (p 0).isLt
    have e0 : ((r8.emb p) 0).val = (p 0).val := (Nat.zero_add _).trans (Nat.one_mul _)
    refine ⟨by omega, Fin.ext ?_⟩
    exact (Nat.zero_add _).trans (Nat.one_mul _)
  unfold tail
  refine tstep (tdma_sub (s := S8x512) (x := x) (r := Rect.unit (s := S100000x512) off S8x512.size h) (hr := fun _ => rfl)
      (dst := head8 m) (X := X) (q := q) (g := fun p => g (r8.emb p)) numel8_pos)
    (R := iprop(rest ∗ outAt8 (o := o) off h f ∗ quiet d i so.sem ∗ (held d i am av ∗ held d i bm bv) ∗ debt d i O W)) ?_ fun _ => ?_
  · iintro ⟨Hm, Hx, Ho, Hsi, Hso, Hab, Hd⟩
    ihave Hm' := head_split $$ Hm
    icases Hm' with ⟨Hm, Hr⟩
    iframe
    iexact Hm
  refine tstep (twait (D := iprop(held d i (head8 m) xin ∗ (x.view.loc (tl d i) ↦{q} X))) (O := O) (W := W) rfl)
    (R := iprop(rest ∗ outAt8 (o := o) off h f ∗ quiet d i so.sem ∗ (held d i am av ∗ held d i bm bv))) ?_ fun _ => ?_
  · iintro ⟨Hf, Hr, Ho, Hso, Hab, Hd⟩
    iframe
    iexact Hf
  iintro ⟨⟨⟨Hm, Hx⟩, Hsi, Hd⟩, Hr, Ho, Hso, Ha, Hb⟩
  ihave Hm' := head_join $$ [Hm Hr]
  · isplitl [Hm] <;> iassumption
  icases Hm' with ⟨%g', %hg', Hm⟩
  have scaled : (octet o off h).view.read (Elt F) G = fun p => upd (fun y => (y 0).val / 8 = 0) av bv g' (r8.emb p) := by
    funext p
    rw [hG.2]
    unfold upd
    rw [if_pos (rowsOk p).1, (rowsOk p).2, hg']
  iapply (show iprop((held d i m g' ∗ held d i am av ∗ held d i bm bv)
      ∗ ((x.view.loc (tl d i) ↦{q} X) ∗ quiet d i si.sem ∗ debt d i O W ∗ outAt8 (o := o) off h f ∗ quiet d i so.sem)) ⊢ _ from ?_) $$ [Hm Hx Hsi Hd Ho Hso Ha Hb]
  rotate_left
  · iframe
  have e0 : g' = upd (fun y => (y 0).val / 8 = 0 ∧ (y 1).val / 16 < 0) av bv g' := (upd_none (fun y hy => Nat.not_lt_zero _ hy.2) av bv g').symm
  refine (Entails.of_eq (congrArg (fun z => iprop((held d i m z ∗ held d i am av ∗ held d i bm bv)
      ∗ ((x.view.loc (tl d i) ↦{q} X) ∗ quiet d i si.sem ∗ debt d i O W ∗ outAt8 (o := o) off h f ∗ quiet d i so.sem))) e0)).trans (tcols_wp ?_ 32 0 _ rfl)
  refine tstep (tdma_out (dst := octet o off h) (f := f) (g := fun p => upd (fun y => (y 0).val / 8 = 0) av bv g' (r8.emb p)) G scaled numel8_pos)
    (R := iprop(rest ∗ (x.view.loc (tl d i) ↦{q} X) ∗ quiet d i si.sem ∗ debt d i O W ∗ (held d i am av ∗ held d i bm bv))) ?_ fun _ => ?_
  · iintro ⟨⟨Hm, Ha, Hb⟩, Hx, Hsi, Hd, Ho, Hso⟩
    ihave Hm' := head_split $$ Hm
    icases Hm' with ⟨Hm, Hr⟩
    iframe
  refine tstep (twait (D := iprop(outAt8 (o := o) off h G ∗ held d i (head8 m) (fun p => upd (fun y => (y 0).val / 8 = 0) av bv g' (r8.emb p)))) (O := O) (W := W) rfl)
    (R := iprop(rest ∗ (x.view.loc (tl d i) ↦{q} X) ∗ quiet d i si.sem ∗ (held d i am av ∗ held d i bm bv))) ?_ fun _ => ?_
  · iintro ⟨Hf, Hr, Hx, Hsi, Hd, Hab⟩
    iframe
  refine tpure ?_
  iintro ⟨⟨⟨Ho, Hm⟩, Hso, Hd⟩, Hr, Hx, Hsi, Hab⟩
  ihave Hm' := head_join $$ [Hm Hr]
  · isplitl [Hm]; · iexact Hm
    iexact Hr
  icases Hm' with ⟨%g'', -, Hm⟩
  iframe
  iexists g''
  iexact Hm

end Tail

section Body

variable {arg2 : Memref sig .scVector .hbm S100000x512 .f32} {arg3 : Memref sig .scVector .hbm S512 .f32} {harg3 : arg3.IsWhole}
  {arg4 : Memref sig .scVector .hbm S512 .f32} {harg4 : arg4.IsWhole} {arg5 : Memref sig .scVector .hbm S100000x512 .f32}
  {arg6 : Memref sig .scVector .vmem S120x512 .f32} {harg6 : arg6.IsWhole} {arg7 : Memref sig .scVector .vmem S120x512 .f32} {harg7 : arg7.IsWhole}
  {arg8 : Memref sig .scVector .vmem S512 .f32} {harg8 : arg8.IsWhole} {arg9 : Memref sig .scVector .vmem S512 .f32} {harg9 : arg9.IsWhole}
  {arg10 arg11 arg12 arg13 arg14 arg15 v23_r0 v23_r1 : DmaSems sig S_}
  (X : Buf (Elt F) (arg2.view.loc (tl d i))) (G : Buf (Elt F) (arg5.view.loc (tl d i))) (av bv : S512.Idx → Elt F .f32)

/-- The ring before turn `t`. -/
def ringSt (q q' : PosShare TreeShare) (arg6 arg7 : Memref sig .scVector .vmem S120x512 .f32) (arg8 arg9 : Memref sig .scVector .vmem S512 .f32)
    (arg10 arg11 arg12 arg13 : DmaSems sig S_) (O : CellTallies nD τ sig (HIx 1)) (W : Waits sig (HIx 1)) (t : Nat) : sProp 𝕄 :=
  iprop(slotSt (d := d) (i := i) (x := arg2) (o := arg5) X G 0 (by decide) q arg6 arg10 arg12 t
    ∗ slotSt (d := d) (i := i) (x := arg2) (o := arg5) X G 1 (by decide) q' arg7 arg11 arg13 t
    ∗ (held d i arg8 av ∗ held d i arg9 bv) ∗ debt d i O W)

theorem turn_wp (hG : Scaled (x := arg2) (o := arg5) X G av bv) {q q' : PosShare TreeShare} {O : CellTallies nD τ sig (HIx 1)} {W : Waits sig (HIx 1)}
    (t : Fin k0_t1_loop.trips) :
    ringSt (d := d) (i := i) X G av bv q q' arg6 arg7 arg8 arg9 arg10 arg11 arg12 arg13 O W t.val
      ⊢ twp d i (turn i arg2 arg5 arg6 harg6 arg7 harg7 arg8 arg9 arg10 arg11 arg12 arg13 t)
        (fun _ => ringSt (d := d) (i := i) X G av bv q q' arg6 arg7 arg8 arg9 arg10 arg11 arg12 arg13 O W (t.val + 1)) := by
  have ht : t.val < 13 := Nat.lt_of_lt_of_eq t.isLt trips1_eq
  unfold turn ringSt
  rw [dif_pos (cond1_true t), dif_pos (cond3_true t)]
  refine tstep (slot_wp X G av bv 0 (by decide) q arg6 arg10 arg12 hG (O := O) (W := W) t.val ht (off34_eq i t) (cond2_iff t) (off35_eq i t))
    (R := slotSt (d := d) (i := i) (x := arg2) (o := arg5) X G 1 (by decide) q' arg7 arg11 arg13 t.val) ?_ fun _ => ?_
  · iintro ⟨H0, H1, Hab, Hd⟩
    iframe
  refine tstep (slot_wp X G av bv 1 (by decide) q' arg7 arg11 arg13 hG (O := O) (W := W) t.val ht (off68_eq i t) (cond4_iff t) (off69_eq i t))
    (R := slotSt (d := d) (i := i) (x := arg2) (o := arg5) X G 0 (by decide) q arg6 arg10 arg12 (t.val + 1)) ?_ fun _ => ?_
  · iintro ⟨⟨H0, Hab, Hd⟩, H1⟩
    iframe
  refine tpure ?_
  iintro ⟨⟨H1, Hab, Hd⟩, H0⟩
  iframe

theorem loop_wp (hG : Scaled (x := arg2) (o := arg5) X G av bv) {q q' : PosShare TreeShare} {O : CellTallies nD τ sig (HIx 1)} {W : Waits sig (HIx 1)} :
    ringSt (d := d) (i := i) X G av bv q q' arg6 arg7 arg8 arg9 arg10 arg11 arg12 arg13 O W 0
      ⊢ twp d i (Scf.Loop.for k0_t1_loop k0_t1_ok 0#32 fun t _ => turn i arg2 arg5 arg6 harg6 arg7 harg7 arg8 arg9 arg10 arg11 arg12 arg13 t)
        (fun _ => ringSt (d := d) (i := i) X G av bv q q' arg6 arg7 arg8 arg9 arg10 arg11 arg12 arg13 O W 13) := by
  have hl := Scf.wp_for frame (wpE (defs₀ (F := F)) 𝒱₀ (tl d i) none) Set.univ k0_t1_loop.lb k0_t1_loop.ub k0_t1_loop.st k0_t1_ok 0#32
    (fun t _ => turn i arg2 arg5 arg6 harg6 arg7 harg7 arg8 arg9 arg10 arg11 arg12 arg13 t)
    (fun n _ => ringSt (d := d) (i := i) X G av bv q q' arg6 arg7 arg8 arg9 arg10 arg11 arg12 arg13 O W n)
    (fun t _ => turn_wp X G av bv hG t)
    (Q := fun _ => ringSt (d := d) (i := i) X G av bv q q' arg6 arg7 arg8 arg9 arg10 arg11 arg12 arg13 O W 13)
  refine (show ringSt (d := d) (i := i) X G av bv q q' arg6 arg7 arg8 arg9 arg10 arg11 arg12 arg13 O W 0 ⊢ _ from ?_).trans hl
  have h13 : Scf.trips k0_t1_loop.lb k0_t1_loop.ub k0_t1_loop.st = 13 := trips1_eq
  iintro H
  isplitl [H]; · iexact H
  iintro %_ H
  rw [h13]
  iexact H

/-- The rows the tile writes beyond its ring, if it has any. -/
def tailOut (f : Buf (Elt F) (arg5.view.loc (tl d i))) : sProp 𝕄 :=
  if h : 2 * (i 1).val + (i 0).val < 20 then outAt8 (d := d) (i := i) (o := arg5) ![rowAt i 0 13, 0] (octet_inb i h) f else iprop(emp)

/-- What the tile is given of the result array. -/
def outIn : sProp 𝕄 :=
  iprop(bigSep Finset.univ (cell (d := d) (i := i) (o := arg5) G 0 (by decide) 0) ∗ bigSep Finset.univ (cell (d := d) (i := i) (o := arg5) G 1 (by decide) 0)
    ∗ ∃ f, tailOut (d := d) (i := i) (arg5 := arg5) f)

/-- What it gives back: all of it at `G`. -/
def outDone : sProp 𝕄 :=
  iprop(bigSep Finset.univ (cell (d := d) (i := i) (o := arg5) G 0 (by decide) 13) ∗ bigSep Finset.univ (cell (d := d) (i := i) (o := arg5) G 1 (by decide) 13)
    ∗ tailOut (d := d) (i := i) (arg5 := arg5) G)

/-- The tile's buffers and its DMA cells, at rest. -/
def atRest (d : Dev nD) (i : grid0.Coords) (arg6 arg7 : Memref sig .scVector .vmem S120x512 .f32) (arg8 arg9 : Memref sig .scVector .vmem S512 .f32)
    (arg10 arg11 arg12 arg13 arg14 arg15 v23_r0 v23_r1 : DmaSems sig S_) : sProp 𝕄 :=
  iprop((∃ g, held (F := F) d i arg6 g) ∗ (∃ g, held (F := F) d i arg7 g) ∗ (∃ g, held (F := F) d i arg8 g) ∗ (∃ g, held (F := F) d i arg9 g)
    ∗ quiet d i arg10.sem ∗ quiet d i arg11.sem ∗ quiet d i arg12.sem ∗ quiet d i arg13.sem ∗ quiet d i arg14.sem ∗ quiet d i arg15.sem
    ∗ quiet d i v23_r0.sem ∗ quiet d i v23_r1.sem)

theorem slotSt_done {x o : Memref sig .scVector .hbm S100000x512 .f32} (X : Buf (Elt F) (x.view.loc (tl d i))) (G : Buf (Elt F) (o.view.loc (tl d i)))
    (s : Nat) (hs : s < 2) (q : PosShare TreeShare) (m : Memref sig .scVector .vmem S120x512 .f32) (si so : DmaSems sig S_) :
    slotSt (x := x) (o := o) X G s hs q m si so 13
      = iprop(flight d i so.sem (chunk o ![0, 0] inb_S100000x512_S120x512_0_0).view.dmaCredit
        iprop(outAt (d := d) (i := i) (o := o) ![rowAt i s 12, 0] (chunk_inb i s 12 hs (by decide)) G ∗ ∃ g, held d i m g)
      ∗ quiet d i si.sem ∗ (x.view.loc (tl d i) ↦{q} X) ∗ bigSep (Finset.univ.erase (12 : Fin 13)) (cell (o := o) G s hs 12)) := dif_neg (by decide)

theorem slotSt_start {x o : Memref sig .scVector .hbm S100000x512 .f32} (X : Buf (Elt F) (x.view.loc (tl d i))) (G : Buf (Elt F) (o.view.loc (tl d i)))
    (s : Nat) (hs : s < 2) (q : PosShare TreeShare) (m : Memref sig .scVector .vmem S120x512 .f32) (si so : DmaSems sig S_) :
    slotSt (x := x) (o := o) X G s hs q m si so 0
      = iprop(flight d i si.sem m.view.dmaCredit iprop(held d i m (chunkIn (d := d) X s hs 0 (by decide)) ∗ (x.view.loc (tl d i) ↦{q} X))
      ∗ quiet d i so.sem ∗ bigSep Finset.univ (cell (o := o) G s hs 0)) := dif_pos (by decide)

/-- The wait for a slot's last chunk. -/
theorem last_wp {x o : Memref sig .scVector .hbm S100000x512 .f32} (X : Buf (Elt F) (x.view.loc (tl d i))) (G : Buf (Elt F) (o.view.loc (tl d i)))
    (s : Nat) (hs : s < 2) (q : PosShare TreeShare) (m : Memref sig .scVector .vmem S120x512 .f32) (hm : m.IsWhole) (si so : DmaSems sig S_)
    {O : CellTallies nD τ sig (HIx 1)} {W : Waits sig (HIx 1)} :
    iprop(slotSt (x := x) (o := o) X G s hs q m si so 13 ∗ debt d i O W)
      ⊢ twp d i (Prog.lift (.waitDma2 so.sem m (chunk o ![0, 0] inb_S100000x512_S120x512_0_0) hm.wordExact (View.wordExact_bits rfl)))
        (fun _ => iprop(((∃ g, held d i m g) ∗ bigSep Finset.univ (cell (o := o) G s hs 13) ∗ (x.view.loc (tl d i) ↦{q} X) ∗ quiet d i si.sem ∗ quiet d i so.sem)
          ∗ debt d i O W)) := by
  rw [slotSt_done, ← cells_put G s hs 12 (by decide)]
  refine (show _ ⊢ iprop((flight d i so.sem (chunk o ![0, 0] inb_S100000x512_S120x512_0_0).view.dmaCredit
        iprop(outAt (d := d) (i := i) (o := o) ![rowAt i s 12, 0] (chunk_inb i s 12 hs (by decide)) G ∗ ∃ g, held d i m g) ∗ debt d i O W)
      ∗ (quiet d i si.sem ∗ (x.view.loc (tl d i) ↦{q} X) ∗ bigSep (Finset.univ.erase (12 : Fin 13)) (cell (o := o) G s hs 12))) from ?_).trans
    (tmono (tframe (twait rfl)) fun _ => ?_)
  · iintro ⟨⟨Hf, Hsi, Hx, Hc⟩, Hd⟩
    iframe
  · iintro ⟨⟨⟨Ho, Hm⟩, Hso, Hd⟩, Hsi, Hx, Hc⟩
    iframe
    iexact Hc

/-- The copy of a slot's first chunk. -/
theorem first_wp {x o : Memref sig .scVector .hbm S100000x512 .f32} (X : Buf (Elt F) (x.view.loc (tl d i))) (G : Buf (Elt F) (o.view.loc (tl d i)))
    (s : Nat) (hs : s < 2) (q : PosShare TreeShare) (m : Memref sig .scVector .vmem S120x512 .f32) (hm : m.IsWhole) (si so : DmaSems sig S_)
    {off : Fin 2 → Nat} {h : ∀ a, off a + S120x512.size a ≤ S100000x512.size a} (e : off = ![rowAt i s 0, 0]) :
    iprop((x.view.loc (tl d i) ↦{q} X) ∗ (∃ g, held d i m g) ∗ quiet d i si.sem ∗ quiet d i so.sem ∗ bigSep Finset.univ (cell (o := o) G s hs 0))
      ⊢ twp d i (Prog.lift (.enqueueDma (chunk x off h) (.here m) (.dma si.sem) (View.wordExact_bits rfl) hm.wordExact ⟨Or.inl rfl, trivial⟩))
        (fun _ => slotSt (x := x) (o := o) X G s hs q m si so 0) := by
  subst e
  rw [slotSt_start]
  iintro ⟨Hx, ⟨%g, Hm⟩, Hsi, Hso, Hc⟩
  iapply (show iprop(((x.view.loc (tl d i) ↦{q} X) ∗ held d i m g ∗ quiet d i si.sem) ∗ (quiet d i so.sem ∗ bigSep Finset.univ (cell (o := o) G s hs 0))) ⊢ _ from
    (tframe (tdma_sub (s := S120x512) (x := x) (r := Rect.unit (s := S100000x512) ![rowAt i s 0, 0] S120x512.size h) (hr := fun _ => rfl)
        (dst := m) (X := X) (q := q) (g := g) numel_pos))) $$ [Hx Hm Hsi Hso Hc]
  iframe

/-- A copy of a whole array into a buffer, and the wait for it. -/
theorem fetch_wp {α : Type} {Q : α → sProp 𝕄} {src : Memref sig .scVector .hbm S512 .f32} {hs : src.IsWhole} {dst : Memref sig .scVector .vmem S512 .f32} {hd : dst.IsWhole} {sm : DmaSems sig S_}
    {q : PosShare TreeShare} {A : Buf (Elt F) (src.view.loc (tl d i))} {O : CellTallies nD τ sig (HIx 1)} {W : Waits sig (HIx 1)} {R : sProp 𝕄} {k : TileProg F i α}
    (hk : iprop(held d i dst (src.view.read (Elt F) A) ∗ (src.view.loc (tl d i) ↦[src.view.set]{q} A) ∗ quiet d i sm.sem ∗ debt d i O W ∗ R) ⊢ twp d i k Q) :
    iprop((∃ g, held d i dst g) ∗ (src.view.loc (tl d i) ↦[src.view.set]{q} A) ∗ quiet d i sm.sem ∗ debt d i O W ∗ R)
      ⊢ twp d i (Prog.lift (.enqueueDma src (.here dst) (.dma sm.sem) hs.wordExact hd.wordExact ⟨Or.inl rfl, trivial⟩) >>= fun _ =>
          Prog.lift (.waitDma2 sm.sem src dst hs.wordExact hd.wordExact) >>= fun _ => k) Q := by
  iintro ⟨⟨%g, Hm⟩, Hs, Hv, Hd, HR⟩
  iapply (show iprop(((src.view.loc (tl d i) ↦[src.view.set]{q} A) ∗ held d i dst g ∗ quiet d i sm.sem) ∗ (debt d i O W ∗ R)) ⊢ _ from
    tseq (tframe (tdma (by decide))) fun _ => tstep (twait (D := iprop(held d i dst (src.view.read (Elt F) A) ∗ (src.view.loc (tl d i) ↦[src.view.set]{q} A))) (O := O) (W := W) rfl) (R := R) (by
      iintro ⟨Hf, Hd, HR⟩
      iframe) fun _ => (show _ ⊢ _ from by
        iintro ⟨⟨⟨Hm, Hs⟩, Hv, Hd⟩, HR⟩
        iframe : _ ⊢ iprop(held d i dst (src.view.read (Elt F) A) ∗ (src.view.loc (tl d i) ↦[src.view.set]{q} A) ∗ quiet d i sm.sem ∗ debt d i O W ∗ R)).trans hk) $$ [Hm Hs Hv Hd HR]
  iframe

theorem body_wp (hG : Scaled (x := arg2) (o := arg5) X G av bv) {q q' qa qb : PosShare TreeShare} {O : CellTallies nD τ sig (HIx 1)} {W : Waits sig (HIx 1)}
    {A : Buf (Elt F) (arg3.view.loc (tl d i))} {B : Buf (Elt F) (arg4.view.loc (tl d i))}
    (hA : arg3.view.read (Elt F) A = av) (hB : arg4.view.read (Elt F) B = bv) :
    iprop((arg2.view.loc (tl d i) ↦{q} X) ∗ (arg2.view.loc (tl d i) ↦{q'} X)
        ∗ (arg3.view.loc (tl d i) ↦[arg3.view.set]{qa} A) ∗ (arg4.view.loc (tl d i) ↦[arg4.view.set]{qb} B)
        ∗ outIn (arg5 := arg5) G ∗ atRest (F := F) d i arg6 arg7 arg8 arg9 arg10 arg11 arg12 arg13 arg14 arg15 v23_r0 v23_r1 ∗ debt d i O W)
      ⊢ twp d i (body i arg2 arg3 harg3 arg4 harg4 arg5 arg6 harg6 arg7 harg7 arg8 harg8 arg9 harg9 arg10 arg11 arg12 arg13 arg14 arg15 v23_r0 v23_r1)
        (fun _ => iprop((arg2.view.loc (tl d i) ↦{q} X) ∗ (arg2.view.loc (tl d i) ↦{q'} X)
          ∗ (arg3.view.loc (tl d i) ↦[arg3.view.set]{qa} A) ∗ (arg4.view.loc (tl d i) ↦[arg4.view.set]{qb} B)
          ∗ outDone (arg5 := arg5) G ∗ atRest (F := F) d i arg6 arg7 arg8 arg9 arg10 arg11 arg12 arg13 arg14 arg15 v23_r0 v23_r1 ∗ debt d i O W)) := by
  subst hA hB
  unfold Compact.body
  refine (show _ ⊢ iprop((∃ g, held d i arg8 g) ∗ (arg3.view.loc (tl d i) ↦[arg3.view.set]{qa} A) ∗ quiet d i v23_r0.sem ∗ debt d i O W ∗
    ((∃ g, held d i arg9 g) ∗ (arg4.view.loc (tl d i) ↦[arg4.view.set]{qb} B) ∗ quiet d i v23_r1.sem ∗
      ((arg2.view.loc (tl d i) ↦{q} X) ∗ (∃ g, held d i arg6 g) ∗ quiet d i arg10.sem ∗ quiet d i arg12.sem ∗ bigSep Finset.univ (cell (d := d) (i := i) (o := arg5) G 0 (by decide) 0)) ∗
      ((arg2.view.loc (tl d i) ↦{q'} X) ∗ (∃ g, held d i arg7 g) ∗ quiet d i arg11.sem ∗ quiet d i arg13.sem ∗ bigSep Finset.univ (cell (d := d) (i := i) (o := arg5) G 1 (by decide) 0)) ∗
      quiet d i arg14.sem ∗ quiet d i arg15.sem ∗ ∃ f, tailOut (d := d) (i := i) (arg5 := arg5) f)) from ?_).trans (fetch_wp (hs := harg3) (hd := harg8) ?_)
  · unfold outIn atRest
    iintro ⟨Hx, Hx', HA, HB, ⟨Hc0, Hc1, Ht⟩, ⟨H6, H7, H8, H9, H10, H11, H12, H13, H14, H15, Hr0, Hr1⟩, Hd⟩
    iframe
  let slot0 : sProp 𝕄 := iprop((arg2.view.loc (tl d i) ↦{q} X) ∗ (∃ g, held d i arg6 g) ∗ quiet d i arg10.sem ∗ quiet d i arg12.sem
    ∗ bigSep Finset.univ (cell (d := d) (i := i) (o := arg5) G 0 (by decide) 0))
  let slot1 : sProp 𝕄 := iprop((arg2.view.loc (tl d i) ↦{q'} X) ∗ (∃ g, held d i arg7 g) ∗ quiet d i arg11.sem ∗ quiet d i arg13.sem
    ∗ bigSep Finset.univ (cell (d := d) (i := i) (o := arg5) G 1 (by decide) 0))
  let tails : sProp 𝕄 := iprop(quiet d i arg14.sem ∗ quiet d i arg15.sem ∗ ∃ f, tailOut (d := d) (i := i) (arg5 := arg5) f)
  let aside : sProp 𝕄 := iprop((arg3.view.loc (tl d i) ↦[arg3.view.set]{qa} A) ∗ quiet d i v23_r0.sem
    ∗ (arg4.view.loc (tl d i) ↦[arg4.view.set]{qb} B) ∗ quiet d i v23_r1.sem)
  refine (show _ ⊢ iprop((∃ g, held d i arg9 g) ∗ (arg4.view.loc (tl d i) ↦[arg4.view.set]{qb} B) ∗ quiet d i v23_r1.sem ∗ debt d i O W ∗
    (held d i arg8 (arg3.view.read (Elt F) A) ∗ (arg3.view.loc (tl d i) ↦[arg3.view.set]{qa} A) ∗ quiet d i v23_r0.sem ∗ slot0 ∗ slot1 ∗ tails)) from ?_).trans (fetch_wp (hs := harg4) (hd := harg9) ?_)
  · iintro ⟨H8, HA, Hr0, Hd, H9, HB, Hr1, H0, H1, Ht⟩
    iframe
  refine tstep (first_wp X G 0 (by decide) q arg6 harg6 arg10 arg12 (off1_eq i))
    (R := iprop(slot1 ∗ (held d i arg8 (arg3.view.read (Elt F) A) ∗ held d i arg9 (arg4.view.read (Elt F) B)) ∗ debt d i O W ∗ tails ∗ aside)) ?_ fun _ => ?_
  · iintro ⟨H9, HB, Hr1, Hd, H8, HA, Hr0, H0, H1, Ht⟩
    isplitl [H0]; · iexact H0
    isplitl [H1]; · iexact H1
    isplitl [H8 H9]; · isplitl [H8] <;> iassumption
    isplitl [Hd]; · iexact Hd
    isplitl [Ht]; · iexact Ht
    isplitl [HA]; · iexact HA
    isplitl [Hr0]; · iexact Hr0
    isplitl [HB] <;> iassumption
  refine tstep (first_wp X G 1 (by decide) q' arg7 harg7 arg11 arg13 (off1'_eq i))
    (R := iprop(slotSt (d := d) (i := i) (x := arg2) (o := arg5) X G 0 (by decide) q arg6 arg10 arg12 0
      ∗ (held d i arg8 (arg3.view.read (Elt F) A) ∗ held d i arg9 (arg4.view.read (Elt F) B)) ∗ debt d i O W ∗ tails ∗ aside)) ?_ fun _ => ?_
  · iintro ⟨H0, H1, HR⟩
    isplitl [H1]; · iexact H1
    isplitl [H0] <;> iassumption
  refine tstep (loop_wp X G (arg3.view.read (Elt F) A) (arg4.view.read (Elt F) B) hG (q := q) (q' := q') (O := O) (W := W)) (R := iprop(tails ∗ aside)) ?_ fun _ => ?_
  · unfold ringSt
    iintro ⟨H1, H0, Hab, Hd, Ht, Hs⟩
    iframe
  refine tstep (last_wp X G 0 (by decide) q arg6 harg6 arg10 arg12 (O := O) (W := W))
    (R := iprop(slotSt (d := d) (i := i) (x := arg2) (o := arg5) X G 1 (by decide) q' arg7 arg11 arg13 13
      ∗ (held d i arg8 (arg3.view.read (Elt F) A) ∗ held d i arg9 (arg4.view.read (Elt F) B)) ∗ tails ∗ aside)) ?_ fun _ => ?_
  · unfold ringSt
    iintro ⟨⟨H0, H1, Hab, Hd⟩, Ht, Hs⟩
    iframe
  let done0 : sProp 𝕄 := iprop((arg2.view.loc (tl d i) ↦{q} X) ∗ quiet d i arg10.sem ∗ quiet d i arg12.sem
    ∗ bigSep Finset.univ (cell (d := d) (i := i) (o := arg5) G 0 (by decide) 13))
  refine tstep (last_wp X G 1 (by decide) q' arg7 harg7 arg11 arg13 (O := O) (W := W))
    (R := iprop((∃ g, held d i arg6 g) ∗ done0
      ∗ (held d i arg8 (arg3.view.read (Elt F) A) ∗ held d i arg9 (arg4.view.read (Elt F) B)) ∗ tails ∗ aside)) ?_ fun _ => ?_
  · iintro ⟨⟨⟨H6, Hc, Hx, Hsi, Hso⟩, Hd⟩, H1, Hab, Ht, Hs⟩
    isplitl [H1 Hd]; · isplitl [H1] <;> iassumption
    isplitl [H6]; · iexact H6
    isplitl [Hc Hx Hsi Hso]
    · isplitl [Hx]; · iexact Hx
      isplitl [Hsi]; · iexact Hsi
      isplitl [Hso] <;> iassumption
    isplitl [Hab]; · iexact Hab
    isplitl [Ht] <;> iassumption
  unfold outDone tailOut
  split
  · rename_i h5
    have hw : 2 * (i 1).val + (i 0).val < 20 := (cond5_iff i).mp h5
    rw [dif_pos hw]
    have e70 : ∀ (off : Fin 2 → Nat) (hoff : ∀ a, off a + S8x512.size a ≤ S100000x512.size a) (f : Buf (Elt F) (arg5.view.loc (tl d i))), off = ![rowAt i 0 13, 0] →
        outAt8 (d := d) (i := i) (o := arg5) ![rowAt i 0 13, 0] (octet_inb i hw) f = outAt8 (d := d) (i := i) (o := arg5) off hoff f := by
      rintro _ hoff f rfl; rfl
    iintro ⟨⟨⟨H7, Hc1, Hx1, Hsi1, Hso1⟩, Hd⟩, ⟨%g, H6⟩, ⟨Hx0, Hsi0, Hso0, Hc0⟩, Hab, ⟨H14, H15, %f, Ht⟩, HA, Hr0, HB, Hr1⟩
    ihave Ht' := (Entails.of_eq ((show tailOut (d := d) (i := i) (arg5 := arg5) f = _ from dif_pos hw).trans
      (e70 (k0_off70 i) (k0_off70_inb i h5) f (off70_eq i)))) $$ Ht
    let aside' : sProp 𝕄 := iprop((∃ g, held d i arg7 g) ∗ bigSep Finset.univ (cell (d := d) (i := i) (o := arg5) G 1 (by decide) 13)
      ∗ (arg2.view.loc (tl d i) ↦{q'} X) ∗ quiet d i arg11.sem ∗ quiet d i arg13.sem ∗ quiet d i arg10.sem ∗ quiet d i arg12.sem
      ∗ bigSep Finset.univ (cell (d := d) (i := i) (o := arg5) G 0 (by decide) 13) ∗ aside)
    have back : iprop(((∃ g, held d i arg6 g) ∗ (arg2.view.loc (tl d i) ↦{q} X) ∗ outAt8 (o := arg5) (k0_off70 i) (k0_off70_inb i h5) G ∗ quiet d i arg14.sem ∗ quiet d i arg15.sem
          ∗ (held d i arg8 (arg3.view.read (Elt F) A) ∗ held d i arg9 (arg4.view.read (Elt F) B)) ∗ debt d i O W) ∗ aside')
        ⊢ iprop((arg2.view.loc (tl d i) ↦{q} X) ∗ (arg2.view.loc (tl d i) ↦{q'} X)
          ∗ (arg3.view.loc (tl d i) ↦[arg3.view.set]{qa} A) ∗ (arg4.view.loc (tl d i) ↦[arg4.view.set]{qb} B)
          ∗ (bigSep Finset.univ (cell (d := d) (i := i) (o := arg5) G 0 (by decide) 13) ∗ bigSep Finset.univ (cell (d := d) (i := i) (o := arg5) G 1 (by decide) 13)
            ∗ outAt8 (d := d) (i := i) (o := arg5) ![rowAt i 0 13, 0] (octet_inb i hw) G)
          ∗ atRest (F := F) d i arg6 arg7 arg8 arg9 arg10 arg11 arg12 arg13 arg14 arg15 v23_r0 v23_r1 ∗ debt d i O W) := by
      rw [e70 (k0_off70 i) (k0_off70_inb i h5) G (off70_eq i)]
      unfold atRest
      iintro ⟨⟨H6, Hx0, Ht, H14, H15, ⟨H8, H9⟩, Hd⟩, H7, Hc1, Hx1, Hsi1, Hso1, Hsi0, Hso0, Hc0, HA, Hr0, HB, Hr1⟩
      iframe
      isplitl [H8]
      · iexists _
        iexact H8
      · iexists _
        iexact H9
    have fin : iprop((held d i arg6 g ∗ (arg2.view.loc (tl d i) ↦{q} X) ∗ outAt8 (o := arg5) (k0_off70 i) (k0_off70_inb i h5) f ∗ quiet d i arg14.sem ∗ quiet d i arg15.sem
          ∗ (held d i arg8 (arg3.view.read (Elt F) A) ∗ held d i arg9 (arg4.view.read (Elt F) B)) ∗ debt d i O W) ∗ aside')
        ⊢ twp d i (tail i arg2 arg5 arg8 arg9 arg6 arg14 arg15 (k0_off70 i) (k0_off70_inb i h5)) (fun _ => _) :=
      tmono (tframe (tail_wp X G (arg3.view.read (Elt F) A) (arg4.view.read (Elt F) B) hG)) fun _ => back
    iapply fin $$ [H6 Hx0 Ht' H14 H15 Hab Hd H7 Hc1 Hx1 Hsi1 Hso1 Hsi0 Hso0 Hc0 HA Hr0 HB Hr1]
    isplitl [H6 Hx0 Ht' H14 H15 Hab Hd]
    · iframe
    · isplitl [H7]; · iexact H7
      isplitl [Hc1]; · iexact Hc1
      isplitl [Hx1]; · iexact Hx1
      isplitl [Hsi1]; · iexact Hsi1
      isplitl [Hso1]; · iexact Hso1
      isplitl [Hsi0]; · iexact Hsi0
      isplitl [Hso0]; · iexact Hso0
      isplitl [Hc0]; · iexact Hc0
      isplitl [HA]; · iexact HA
      isplitl [Hr0]; · iexact Hr0
      isplitl [HB] <;> iassumption
  · rename_i h5
    have hw : ¬ 2 * (i 1).val + (i 0).val < 20 := fun h => h5 ((cond5_iff i).mpr h)
    refine tpure ?_
    rw [dif_neg hw]
    unfold atRest
    iintro ⟨⟨⟨H7, Hc1, Hx1, Hsi1, Hso1⟩, Hd⟩, H6, ⟨Hx0, Hsi0, Hso0, Hc0⟩, ⟨H8, H9⟩, ⟨H14, H15, Ht⟩, HA, Hr0, HB, Hr1⟩
    iframe
    isplitl [H8]
    · iexists _
      iexact H8
    · iexists _
      iexact H9

end Body

end Cert.KernelIdeal.Tile

end
-- ==== Proof.Ideal.Share.lean ====
/- How the arrays are shared out among the thirty-two tiles. -/
module

public import proofs.«01_k».proof.Proof.Ideal.Tail
public import Idealize.ShloMosaic.Lib.SparseCore.Ops

@[expose] public section

set_option maxRecDepth 16384

noncomputable section

namespace Cert.KernelIdeal.Tile

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Compact

variable {F : FTy → Type}

local notation "𝕄" => MT nD τ sig (HIx 1) (Elt F) ℕ UU ℕ

abbrev xRef : Memref sig .scVector .hbm S100000x512 .f32 := Memref.whole main_arg0_scv
abbrev aRef : Memref sig .scVector .hbm S512 .f32 := Memref.whole main_v6_scv
abbrev bRef : Memref sig .scVector .hbm S512 .f32 := Memref.whole main_v7_scv
abbrev oRef : Memref sig .scVector .hbm S100000x512 .f32 := Memref.whole main_v8_scv

abbrev xLoc (d : Dev nD) : Loc nD τ sig := (SparseCore.T d).loc main_arg0
abbrev aLoc (d : Dev nD) : Loc nD τ sig := (SparseCore.T d).loc main_v6
abbrev bLoc (d : Dev nD) : Loc nD τ sig := (SparseCore.T d).loc main_v7
abbrev oLoc (d : Dev nD) : Loc nD τ sig := (SparseCore.T d).loc main_v8

/-! ## The pieces of the result array -/

/-- The pieces of one tile: its first slot's chunks, its second's, its last eight rows. -/
abbrev Piece : Type := Fin 13 ⊕ Fin 13 ⊕ Unit

/-- The place of a piece among the tile's. -/
def place : Piece → Nat
  | .inl n => 2 * n.val
  | .inr (.inl n) => 2 * n.val + 1
  | .inr (.inr _) => 26

/-- How many rows the piece at a place has. -/
def height (i : grid0.Coords) (u : Nat) : Nat :=
  if u < 26 then 120 else if 2 * (i 1).val + (i 0).val < 20 then 8 else 0

/-- The piece's elements. -/
def pieceSet (i : grid0.Coords) (k : Piece) : Finset S100000x512.Idx :=
  Finset.univ.filter fun j => rowAt i 0 0 + 120 * place k ≤ (j 0).val ∧ (j 0).val < rowAt i 0 0 + 120 * place k + height i (place k)

theorem mem_pieceSet {i : grid0.Coords} {k : Piece} {j : S100000x512.Idx} :
    j ∈ pieceSet i k ↔ rowAt i 0 0 + 120 * place k ≤ (j 0).val ∧ (j 0).val < rowAt i 0 0 + 120 * place k + height i (place k) := by
  simp [pieceSet]

theorem place_le (k : Piece) : place k ≤ 26 := by
  rcases k with n | n | n <;> simp only [place] <;> omega

theorem place_inj {k k' : Piece} (h : place k = place k') : k = k' := by
  rcases k with n | n | n <;> rcases k' with n' | n' | n' <;> simp only [place] at h
  · exact congrArg Sum.inl (Fin.ext (by omega))
  · omega
  · omega
  · omega
  · exact congrArg (Sum.inr ∘ Sum.inl) (Fin.ext (by omega))
  · omega
  · omega
  · omega
  · rfl

theorem place_surj (u : Nat) (h : u ≤ 26) : ∃ k, place k = u := by
  by_cases h26 : u = 26
  · exact ⟨.inr (.inr ()), h26.symm⟩
  · rcases Nat.even_or_odd' u with ⟨n, e | e⟩
    · exact ⟨.inl ⟨n, by omega⟩, e.symm⟩
    · exact ⟨.inr (.inl ⟨n, by omega⟩), e.symm⟩

/-- The tile at a core and a subcore. -/
def coordsV (c : Fin (grid0.bound 0)) (s : Fin (grid0.bound 1)) : grid0.Coords :=
  fun | 0 => c | 1 => s | ⟨_ + 2, h⟩ => absurd h (Nat.not_lt.2 (Nat.le_add_left _ _))

theorem rowAt_coordsV (c : Fin 2) (s : Fin 16) : rowAt (coordsV c s) 0 0 = 3120 * (2 * s.val + c.val) + 8 * min (2 * s.val + c.val) 20 := by
  show 6240 * s.val + 3120 * c.val + 8 * min (2 * s.val + c.val) 20 + 240 * 0 + 120 * 0 = _
  omega

theorem height_coordsV (c : Fin 2) (s : Fin 16) (u : Nat) :
    height (coordsV c s) u = if u < 26 then 120 else if 2 * s.val + c.val < 20 then 8 else 0 := rfl

theorem pieces_disjoint : ∀ t ∈ (Finset.univ : Finset (Fin 2 × Fin 16 × Piece)), ∀ t' ∈ (Finset.univ : Finset (Fin 2 × Fin 16 × Piece)), t ≠ t' →
    Disjoint (pieceSet (coordsV t.1 t.2.1) t.2.2) (pieceSet (coordsV t'.1 t'.2.1) t'.2.2) := by
  rintro ⟨c, s, k⟩ - ⟨c', s', k'⟩ - hne
  refine Finset.disjoint_left.mpr fun j h h' => hne ?_
  rw [mem_pieceSet] at h h'
  have hk := place_le k
  have hk' := place_le k'
  have hc := c.isLt
  have hc' := c'.isLt
  simp only [rowAt_coordsV, height_coordsV] at h h'
  have hw : 2 * s.val + c.val = 2 * s'.val + c'.val := by
    split at h <;> split at h' <;> try split at h
    all_goals (try split at h') <;> omega
  have es : s = s' := Fin.ext (by omega)
  have ec : c = c' := Fin.ext (by omega)
  subst es ec
  have ek : place k = place k' := by
    split at h <;> split at h' <;> try split at h
    all_goals (try split at h') <;> omega
  rw [place_inj ek]

theorem pieces_cover : (Finset.univ : Finset (Fin 2 × Fin 16 × Piece)).biUnion (fun t => pieceSet (coordsV t.1 t.2.1) t.2.2) = Finset.univ := by
  refine Finset.eq_univ_of_forall fun j => ?_
  have hj : (j 0).val < 100000 := (j 0).isLt
  -- the tile by octets of rows: the first twenty have 391 of them, the rest 390
  obtain ⟨w, hw, hlo, hhi⟩ : ∃ w, w < 32 ∧ 3120 * w + 8 * min w 20 ≤ (j 0).val ∧ (j 0).val < 3120 * w + 8 * min w 20 + 3120 + if w < 20 then 8 else 0 := by
    by_cases h : (j 0).val / 8 < 7820
    · refine ⟨(j 0).val / 8 / 391, by omega, by omega, ?_⟩
      rw [if_pos (by omega)]; omega
    · refine ⟨((j 0).val / 8 - 7820) / 390 + 20, by omega, by omega, ?_⟩
      rw [if_neg (by omega)]; omega
  let u := min (((j 0).val - (3120 * w + 8 * min w 20)) / 120) 26
  obtain ⟨k, hk⟩ := place_surj u (by omega)
  refine Finset.mem_biUnion.mpr ⟨(⟨w % 2, by omega⟩, ⟨w / 2, by omega⟩, k), Finset.mem_univ _, mem_pieceSet.mpr ?_⟩
  rw [hk]
  simp only [rowAt_coordsV, height_coordsV, show 2 * (w / 2) + w % 2 = w by omega]
  split at hhi <;> (split <;> first | omega | (split <;> omega))

/-! ## Shares of the arrays every tile reads -/

/-- A tile's share. -/
def tq (c : Fin 2) (s : Fin 16) : PosShare TreeShare :=
  Transfers.dealOf (Transfers.dealOf fullShare Finset.univ c) Finset.univ s

theorem pointsTo_tiles {ℓ : Loc nD τ sig} (f : Buf (Elt F) ℓ) :
    (ℓ ↦{fullShare} f : sProp 𝕄) = bigSep Finset.univ fun c : Fin 2 => bigSep Finset.univ fun s : Fin 16 => ℓ ↦{tq c s} f := by
  rw [Transfers.pointsTo_deal (Finset.univ : Finset (Fin 2)) Finset.univ_nonempty fullShare]
  exact bigSep_congr fun c _ => Transfers.pointsTo_deal (Finset.univ : Finset (Fin 16)) Finset.univ_nonempty _

theorem pointsTo_pieces {d : Dev nD} (f : Buf (Elt F) (oLoc d)) :
    (oLoc d ↦{fullShare} f : sProp 𝕄) = bigSep Finset.univ fun c : Fin 2 => bigSep Finset.univ fun s : Fin 16 =>
      bigSep Finset.univ fun k : Piece => oLoc d ↦[pieceSet (coordsV c s) k]{fullShare} f := by
  refine Eq.trans (b := bigSep Finset.univ fun t : Fin 2 × Fin 16 × Piece => (oLoc d ↦[pieceSet (coordsV t.1 t.2.1) t.2.2]{fullShare} f : sProp 𝕄)) ?_ ?_
  · rw [← pointsTo_biUnion Finset.univ (ℓ := oLoc d) (fun t : Fin 2 × Fin 16 × Piece => pieceSet (coordsV t.1 t.2.1) t.2.2) pieces_disjoint, pieces_cover]; try rfl
  · rw [bigSep_univ_prod]
    exact bigSep_congr fun c _ => bigSep_univ_prod _

/-- What a tile is handed and hands back: its share of the three arrays it reads and its pieces of the result. -/
def tileRes (d : Dev nD) (X : Buf (Elt F) (xLoc d)) (A : Buf (Elt F) (aLoc d)) (B : Buf (Elt F) (bLoc d)) (f : Buf (Elt F) (oLoc d)) (c : Fin 2) (s : Fin 16) : sProp 𝕄 :=
  iprop((xLoc d ↦{tq c s} X) ∗ (aLoc d ↦{tq c s} A) ∗ (bLoc d ↦{tq c s} B)
    ∗ bigSep Finset.univ fun k : Piece => oLoc d ↦[pieceSet (coordsV c s) k]{fullShare} f)

theorem tileRes_all (d : Dev nD) (X : Buf (Elt F) (xLoc d)) (A : Buf (Elt F) (aLoc d)) (B : Buf (Elt F) (bLoc d)) (f : Buf (Elt F) (oLoc d)) :
    (bigSep Finset.univ fun c : Fin 2 => bigSep Finset.univ fun s : Fin 16 => tileRes d X A B f c s)
      = (iprop((xLoc d ↦{fullShare} X) ∗ (aLoc d ↦{fullShare} A) ∗ (bLoc d ↦{fullShare} B) ∗ (oLoc d ↦{fullShare} f)) : sProp 𝕄) := by
  unfold tileRes
  simp only [bigSep_sep']
  rw [← pointsTo_tiles, ← pointsTo_tiles, ← pointsTo_tiles, ← pointsTo_pieces]

/-! ## A tile's pieces, as its copies address them -/

theorem chunk_set (r : Nat) (h : ∀ a, (![r, 0] : Fin 2 → Nat) a + S120x512.size a ≤ S100000x512.size a) :
    (chunk oRef ![r, 0] h).view.set = Finset.univ.filter fun j : S100000x512.Idx => r ≤ (j 0).val ∧ (j 0).val < r + 120 := by
  have e : (chunk oRef ![r, 0] h).view.set = (Rect.unit (s := S100000x512) ![r, 0] S120x512.size h).set := by
    show ((View.whole (main_v8_scv : Ref sig .scVector)).slice _).set = _
    rw [View.set_slice]; exact Finset.map_refl
  rw [e]
  ext j
  have h1 : (j 1).val < 512 := (j 1).isLt
  rw [Rect.mem_set_unit, Finset.mem_filter, Fin.forall_fin_two]
  exact ⟨fun h => ⟨Finset.mem_univ _, h.1⟩, fun h => ⟨h.2, Nat.zero_le _, by show (j 1).val < 0 + 512; omega⟩⟩

theorem octet_set (r : Nat) (h : ∀ a, (![r, 0] : Fin 2 → Nat) a + S8x512.size a ≤ S100000x512.size a) :
    (octet oRef ![r, 0] h).view.set = Finset.univ.filter fun j : S100000x512.Idx => r ≤ (j 0).val ∧ (j 0).val < r + 8 := by
  have e : (octet oRef ![r, 0] h).view.set = (Rect.unit (s := S100000x512) ![r, 0] S8x512.size h).set := by
    show ((View.whole (main_v8_scv : Ref sig .scVector)).slice _).set = _
    rw [View.set_slice]; exact Finset.map_refl
  rw [e]
  ext j
  have h1 : (j 1).val < 512 := (j 1).isLt
  rw [Rect.mem_set_unit, Finset.mem_filter, Fin.forall_fin_two]
  exact ⟨fun h => ⟨Finset.mem_univ _, h.1⟩, fun h => ⟨h.2, Nat.zero_le _, by show (j 1).val < 0 + 512; omega⟩⟩

theorem slotPiece (i : grid0.Coords) (s : Nat) (hs : s < 2) (n : Fin 13) (k : Piece) (hk : place k = 2 * n.val + s) :
    (chunk oRef ![rowAt i s n.val, 0] (chunk_inb i s n.val hs n.isLt)).view.set = pieceSet i k := by
  have hn := n.isLt
  rw [chunk_set]
  ext j
  rw [mem_pieceSet, hk, height, if_pos (by omega)]
  refine Finset.mem_filter.trans ((and_iff_right (Finset.mem_univ _)).trans ?_)
  simp only [rowAt]
  omega

theorem tailPiece (i : grid0.Coords) (h : 2 * (i 1).val + (i 0).val < 20) :
    (octet oRef ![rowAt i 0 13, 0] (octet_inb i h)).view.set = pieceSet i (.inr (.inr ())) := by
  rw [octet_set]
  ext j
  rw [mem_pieceSet, show place (.inr (.inr ())) = 26 from rfl, height, if_neg (by decide), if_pos h]
  refine Finset.mem_filter.trans ((and_iff_right (Finset.mem_univ _)).trans ?_)
  simp only [rowAt]

theorem noTail (i : grid0.Coords) (h : ¬ 2 * (i 1).val + (i 0).val < 20) : pieceSet i (.inr (.inr ())) = ∅ := by
  refine Finset.eq_empty_of_forall_notMem fun j hj => ?_
  rw [mem_pieceSet, show place (.inr (.inr ())) = 26 from rfl, height, if_neg (by decide), if_neg h] at hj
  omega

end Cert.KernelIdeal.Tile

end
-- ==== Proof.Ideal.Launch.lean ====
/- The call: what it hands each tile, and that each tile meets its obligation. -/
module

public import proofs.«01_k».proof.Proof.Ideal.Share
public import proofs.«01_k».proof.Proof.Ideal.Fold
public import Idealize.ShloMosaic.Lib.SparseCore.Stream
public import Idealize.ShloMosaic.Lib.StableHlo.Run

@[expose] public section

set_option maxRecDepth 16384

noncomputable section

namespace Cert.KernelIdeal.Tile

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Compact

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

theorem nCore_zero : (K (F := F)).nCore 0 = 2 := rfl
theorem nSub_zero : (K (F := F)).nSub 0 = 16 := rfl

/-! ## A tile's own buffers and cells -/

/-- The DMA cells the task uses. -/
def sems : Finset (SemLoc sig) :=
  {.dma cc0_scratch4.sem, .dma cc0_scratch5.sem, .dma cc0_scratch6.sem, .dma cc0_scratch7.sem, .dma cc0_scratch8.sem, .dma cc0_scratch9.sem,
    .dma cc0_scoped0.sem, .dma cc0_scoped1.sem}

theorem sems_scoped : ∀ s ∈ sems, s.isScoped .scVector = true := by decide

/-- The buffers the task uses. -/
def bufs : Finset (Ref sig .scVector) := {cc0_scratch0, cc0_scratch1, cc0_scratch2, cc0_scratch3}

section Own

variable (d : Dev nD) (i : grid0.Coords)

def cells : Finset (GSem nD τ sig) := sems.map ⟨fun s => (tl d i, s), Prod.mk_right_injective _⟩

def devBufs (i : grid0.Coords) : Finset (DevRef τ sig) :=
  bufs.map ⟨fun b => (Proc.scVector ((i 0).castLE hcore0) ((i 1).castLE hsub0)).devRef b, Proc.devRef_injective _⟩

theorem ownSems_eq : (ownSems0 (tl d i) : sProp 𝕄)
    = iprop((bigSep sems fun s => semVal (tl d i, s) 0) ∗ bigSep (ownCells (tl d i) \ cells d i) fun g => semVal g 0) := by
  unfold SparseCore.Cfg.ownSems0
  rw [SparseCore.bigSep_sdiff_split' (t := cells d i)]
  · rw [cells, bigSep_map]; rfl
  · intro g hg
    obtain ⟨s, hs, rfl⟩ := Finset.mem_map.mp hg
    exact mem_ownCells.mpr ⟨rfl, sems_scoped s hs⟩

theorem ownBufs_eq : (ownBufs (tl d i) : sProp 𝕄)
    = iprop((bigSep bufs fun b => iprop(∃ f, (tl d i).loc b ↦{fullShare} f))
        ∗ bigSep (ownRefs (tl d i).2 \ devBufs i) fun b => iprop(∃ f, ((d, b) : Loc nD τ sig) ↦{fullShare} f)) := by
  unfold SparseCore.Cfg.ownBufs
  rw [SparseCore.bigSep_sdiff_split' (t := devBufs i)]
  · rw [devBufs, bigSep_map]; rfl
  · intro b hb
    obtain ⟨r, hr, rfl⟩ := Finset.mem_map.mp hb
    have : ∀ r ∈ bufs, ((Proc.scVector ((i 0).castLE hcore0) ((i 1).castLE hsub0)).devRef r).owner = .proc (Proc.scVector ((i 0).castLE hcore0) ((i 1).castLE hsub0)) := by
      intro r hr
      simp only [bufs, Finset.mem_insert, Finset.mem_singleton] at hr
      rcases hr with rfl | rfl | rfl | rfl <;> rfl
    exact SparseCore.Cfg.mem_ownRefs_of_owner (this r hr)

theorem sems_list : (bigSep sems fun s => semVal (tl d i, s) 0 : sProp 𝕄)
    = iprop(semVal (tl d i, .dma cc0_scratch4.sem) 0 ∗ semVal (tl d i, .dma cc0_scratch5.sem) 0 ∗ semVal (tl d i, .dma cc0_scratch6.sem) 0
      ∗ semVal (tl d i, .dma cc0_scratch7.sem) 0 ∗ semVal (tl d i, .dma cc0_scratch8.sem) 0 ∗ semVal (tl d i, .dma cc0_scratch9.sem) 0
      ∗ semVal (tl d i, .dma cc0_scoped0.sem) 0 ∗ semVal (tl d i, .dma cc0_scoped1.sem) 0) := by
  unfold sems
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem bufs_list : (bigSep bufs fun b => iprop(∃ f, (tl d i).loc b ↦{fullShare} f) : sProp 𝕄)
    = iprop((∃ f, (tl d i).loc cc0_scratch0 ↦{fullShare} f) ∗ (∃ f, (tl d i).loc cc0_scratch1 ↦{fullShare} f)
      ∗ (∃ f, (tl d i).loc cc0_scratch2 ↦{fullShare} f) ∗ (∃ f, (tl d i).loc cc0_scratch3 ↦{fullShare} f)) := by
  unfold bufs
  rw [SparseCore.bigSep_insert' (by decide), SparseCore.bigSep_insert' (by decide), SparseCore.bigSep_insert' (by decide), bigSep_singleton]

variable [FloatOps F]

/-- A whole buffer at some contents is its memref held at some reading. -/
theorem held_whole (b : Ref sig .scVector) :
    (iprop(∃ g, held (F := F) d i (Memref.whole b) g) : sProp 𝕄) = iprop(∃ f, (tl d i).loc b ↦{fullShare} f) := by
  refine BI.Entails.antisymm ?_ ?_
  · show _ ⊢ (_ : sProp 𝕄)
    unfold held
    iintro ⟨%g, %f, -, H⟩
    rw [show (Memref.whole b).view.set = Finset.univ from View.set_whole b]
    iexists f
    iexact H
  · show _ ⊢ (_ : sProp 𝕄)
    iintro ⟨%f, H⟩
    iexists _
    iapply (held_intro (m := Memref.whole b) f)
    rw [show (Memref.whole b).view.set = Finset.univ from View.set_whole b]
    iexact H

/-- The task's own buffers and cells, at rest, and the rest of the tile's. -/
theorem own_eq : iprop(ownBufs (tl d i) ∗ ownSems0 (tl d i))
    = (iprop(atRest (F := F) d i (Memref.whole cc0_scratch0) (Memref.whole cc0_scratch1) (Memref.whole cc0_scratch2) (Memref.whole cc0_scratch3)
        cc0_scratch4 cc0_scratch5 cc0_scratch6 cc0_scratch7 cc0_scratch8 cc0_scratch9 cc0_scoped0 cc0_scoped1
      ∗ (bigSep (ownRefs (tl d i).2 \ devBufs i) fun b => iprop(∃ f, ((d, b) : Loc nD τ sig) ↦{fullShare} f))
      ∗ bigSep (ownCells (tl d i) \ cells d i) fun g => semVal g 0) : sProp 𝕄) := by
  rw [ownSems_eq, ownBufs_eq, sems_list, bufs_list]
  unfold atRest quiet
  rw [← held_whole d i cc0_scratch0, ← held_whole d i cc0_scratch1, ← held_whole d i cc0_scratch2, ← held_whole d i cc0_scratch3]
  refine BI.Entails.antisymm ?_ ?_
  · show _ ⊢ (_ : sProp 𝕄)
    iintro ⟨⟨⟨H0, H1, H2, H3⟩, HB⟩, ⟨S0, S1, S2, S3, S4, S5, S6, S7⟩, HS⟩
    iframe
  · show _ ⊢ (_ : sProp 𝕄)
    iintro ⟨⟨H0, H1, H2, H3, S0, S1, S2, S3, S4, S5, S6, S7⟩, HB, HS⟩
    iframe

end Own

/-! ## A tile's pieces -/

variable [FloatOps F]

section Pieces

variable (d : Dev nD) (i : grid0.Coords)

/-- All of a tile's pieces of the result. -/
def pieces (f : Buf (Elt F) (oLoc d)) : sProp 𝕄 := bigSep Finset.univ fun k : Piece => oLoc d ↦[pieceSet i k]{fullShare} f

theorem pieces_eq (f : Buf (Elt F) (oLoc d)) :
    pieces d i f = iprop((bigSep Finset.univ fun n : Fin 13 => oLoc d ↦[pieceSet i (.inl n)]{fullShare} f)
      ∗ (bigSep Finset.univ fun n : Fin 13 => oLoc d ↦[pieceSet i (.inr (.inl n))]{fullShare} f) ∗ oLoc d ↦[pieceSet i (.inr (.inr ()))]{fullShare} f) := by
  unfold pieces
  rw [bigSep_univ_sum, bigSep_univ_sum]
  congr 2
  exact bigSep_univ_of_subsingleton ()

theorem outAt_piece (s : Nat) (hs : s < 2) (n : Fin 13) (k : Piece) (hk : place k = 2 * n.val + s) (f : Buf (Elt F) (oLoc d)) :
    outAt (d := d) (i := i) (o := oRef) ![rowAt i s n.val, 0] (chunk_inb i s n.val hs n.isLt) f = (oLoc d ↦[pieceSet i k]{fullShare} f : sProp 𝕄) := by
  unfold outAt
  rw [slotPiece i s hs n k hk]

theorem tailOut_piece (f : Buf (Elt F) (oLoc d)) :
    tailOut (d := d) (i := i) (arg5 := oRef) f = (oLoc d ↦[pieceSet i (.inr (.inr ()))]{fullShare} f : sProp 𝕄) := by
  unfold tailOut
  split
  · rename_i h
    unfold outAt8
    rw [tailPiece i h]
  · rename_i h
    rw [noTail i h, pointsTo_empty]

theorem pieces_in (f G : Buf (Elt F) (oLoc d)) : pieces d i f ⊢ outIn (d := d) (i := i) (arg5 := oRef) G := by
  rw [pieces_eq]
  unfold outIn
  refine sep_mono (bigSep_mono fun n _ => ?_) (sep_mono (bigSep_mono fun n _ => ?_) ?_)
  · unfold cell
    rw [if_neg (Nat.not_lt_zero _), ← outAt_piece d i 0 (by decide) n (.inl n) rfl f]
    show _ ⊢ (_ : sProp 𝕄)
    iintro H; iexists f; iexact H
  · unfold cell
    rw [if_neg (Nat.not_lt_zero _), ← outAt_piece d i 1 (by decide) n (.inr (.inl n)) rfl f]
    show _ ⊢ (_ : sProp 𝕄)
    iintro H; iexists f; iexact H
  · rw [← tailOut_piece]
    show _ ⊢ (_ : sProp 𝕄)
    iintro H; iexists f; iexact H

theorem pieces_out (G : Buf (Elt F) (oLoc d)) : outDone (d := d) (i := i) (arg5 := oRef) G ⊢ pieces d i G := by
  rw [pieces_eq]
  unfold outDone
  refine sep_mono (bigSep_mono fun n _ => ?_) (sep_mono (bigSep_mono fun n _ => ?_) ?_)
  · unfold cell
    rw [if_pos n.isLt, ← outAt_piece d i 0 (by decide) n (.inl n) rfl G]
    exact BI.Entails.refl _
  · unfold cell
    rw [if_pos n.isLt, ← outAt_piece d i 1 (by decide) n (.inr (.inl n)) rfl G]
    exact BI.Entails.refl _
  · rw [← tailOut_piece]
    exact BI.Entails.refl _

end Pieces

/-! ## The value -/

/-- The array scaled and shifted, column by column. -/
def scaled (X : S100000x512.Idx → Elt F .f32) (A B : S512.Idx → Elt F .f32) : S100000x512.Idx → Elt F .f32 :=
  fun j => affine A B (j 1) (X j)

theorem scaled_Scaled (d : Dev nD) (i : grid0.Coords) (X : Buf (Elt F) (xLoc d)) (A B : S512.Idx → Elt F .f32) :
    Scaled (d := d) (i := i) (x := xRef) (o := oRef) X (scaled X A B) A B := by
  have col : ∀ {off : Fin 2 → Nat} {n : Nat} (h : ∀ a, off a + (⟨2, ![n, 512]⟩ : Shape).size a ≤ S100000x512.size a), off 1 = 0 := by
    intro off n h
    have h1 : off 1 + 512 ≤ 512 := h 1
    omega
  constructor
  · intro off h p
    show affine A B ((Rect.unit (s := S100000x512) off S120x512.size h).emb p 1) _ = affine A B (p 1) _
    congr 1
    refine Fin.ext ?_
    show off 1 + 1 * (p 1).val = (p 1).val
    have := col (n := 120) h
    omega
  · intro off h p
    show affine A B ((Rect.unit (s := S100000x512) off S8x512.size h).emb p 1) _ = affine A B (p 1) _
    congr 1
    refine Fin.ext ?_
    show off 1 + 1 * (p 1).val = (p 1).val
    have := col (n := 8) h
    omega

end Cert.KernelIdeal.Tile

end
-- ==== Proof.Ideal.Call.lean ====
/- What the call hands each tile and takes back, and that each tile meets its obligation. -/
module

public import proofs.«01_k».proof.Proof.Ideal.Launch

@[expose] public section

set_option maxRecDepth 16384

noncomputable section

namespace Cert.KernelIdeal.Tile

open Idealize.ShloMosaic
open Idealize.ShloMosaic.SparseCore (S V T)
open Idealize.ShloMosaic.SparseCore.Cfg (HIx Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Compact

variable {F : FTy → Type} [FloatOps F]

local notation "𝕄" => MT nD τ sig (HIx 1) (Elt F) ℕ UU ℕ

variable (X : (d : Dev nD) → Buf (Elt F) (xLoc d)) (A : (d : Dev nD) → Buf (Elt F) (aLoc d)) (B : (d : Dev nD) → Buf (Elt F) (bLoc d))
  (O₀ : (d : Dev nD) → Buf (Elt F) (oLoc d))

/-- The result on device `d`. -/
abbrev G (d : Dev nD) : Buf (Elt F) (oLoc d) := scaled (X d) (A d) (B d)

/-- The call's payload: each tile its share of the arrays it reads and its pieces of the result, there at the contents
    they had and back at the scaled array; each core its tiles'. -/
def P : (K (F := F)).Pay (nD := nD) (Val := Elt F) (Name := ℕ) (U := UU) where
  st := fun q d c => match q with
    | 0 => bigSep Finset.univ fun s : Fin 16 => tileRes d (X d) (A d) (B d) (O₀ d) (Fin.cast nCore_zero c) s
  dn := fun q d c => match q with
    | 0 => bigSep Finset.univ fun s : Fin 16 => tileRes d (X d) (A d) (B d) (G X A B d) (Fin.cast nCore_zero c) s
  go := fun q d c i => match q with
    | 0 => tileRes d (X d) (A d) (B d) (O₀ d) (Fin.cast nCore_zero c) (Fin.cast nSub_zero i)
  td := fun q d c i => match q with
    | 0 => tileRes d (X d) (A d) (B d) (G X A B d) (Fin.cast nCore_zero c) (Fin.cast nSub_zero i)
  x := fun _ _ => iprop(emp)

instance tileRes_storable (d : Dev nD) (x : Buf (Elt F) (xLoc d)) (a : Buf (Elt F) (aLoc d)) (b : Buf (Elt F) (bLoc d)) (o : Buf (Elt F) (oLoc d)) (c : Fin 2) (s : Fin 16) :
    BI.Storable (upEmb : UEmb _ 𝕄) (tileRes d x a b o c s) := by
  unfold tileRes
  infer_instance

instance P_storable : (P (F := F) X A B O₀).IsStorable where
  st q d c := match q with
    | 0 => (inferInstance : BI.Storable (upEmb : UEmb _ 𝕄) (bigSep Finset.univ fun s : Fin 16 => tileRes d (X d) (A d) (B d) (O₀ d) (Fin.cast nCore_zero c) s))
  dn q d c := match q with
    | 0 => (inferInstance : BI.Storable (upEmb : UEmb _ 𝕄) (bigSep Finset.univ fun s : Fin 16 => tileRes d (X d) (A d) (B d) (G X A B d) (Fin.cast nCore_zero c) s))
  go q d c i := match q with
    | 0 => tileRes_storable d (X d) (A d) (B d) (O₀ d) (Fin.cast nCore_zero c) (Fin.cast nSub_zero i)
  td q d c i := match q with
    | 0 => tileRes_storable d (X d) (A d) (B d) (G X A B d) (Fin.cast nCore_zero c) (Fin.cast nSub_zero i)

/-! ## The task -/

section Task

variable (d : Dev nD)

/-- A tile's share of the input in halves, one for each slot, and the rest of what it is handed. -/
theorem tileRes_open (x : Buf (Elt F) (xLoc d)) (a : Buf (Elt F) (aLoc d)) (b : Buf (Elt F) (bLoc d)) (o : Buf (Elt F) (oLoc d)) (c : Fin 2) (s : Fin 16) :
    (tileRes d x a b o c s : sProp 𝕄)
      = iprop(((xLoc d ↦{(tq c s).left} x) ∗ (xLoc d ↦{(tq c s).right} x)) ∗ (aLoc d ↦{tq c s} a) ∗ (bLoc d ↦{tq c s} b) ∗ pieces d (coordsV c s) o) := by
  have halves : (xLoc d ↦{tq c s} x : sProp 𝕄) = iprop((xLoc d ↦{(tq c s).left} x) ∗ (xLoc d ↦{(tq c s).right} x)) :=
    BI.Entails.antisymm (pointsTo_share (PosShare.mem_left_op_right _)).1 (pointsTo_share (PosShare.mem_left_op_right _)).2
  unfold tileRes pieces
  rw [halves]

theorem tile_body (hF : (K (F := F)).Facts) (O : CellTallies nD τ sig (HIx 1)) (W : Waits sig (HIx 1)) (hO : ∀ g, O g none = 0) (c : Fin 2) (s : Fin 16) :
    iprop(levAts (K (F := F)).L (K (F := F)).lev ∗ emp ∗ tileRes d (X d) (A d) (B d) (O₀ d) c s
        ∗ scopedBufs (tl d (coordsV c s)) ∗ scopedSems0 (tl d (coordsV c s)) ∗ owes (tl d (coordsV c s)) O W)
      ⊢ twp d (coordsV c s) (cc0_k (coordsV c s) xRef (Memref.isWhole_whole _) aRef (Memref.isWhole_whole _) bRef (Memref.isWhole_whole _) oRef (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7 cc0_scratch8 cc0_scratch9 cc0_scoped0 cc0_scoped1)
          fun _ => iprop(tileRes d (X d) (A d) (B d) (G X A B d) c s ∗ scopedBufs (tl d (coordsV c s)) ∗ scopedSems0 (tl d (coordsV c s))
            ∗ ∃ W', ⌜∀ p ∈ W', p ∈ W ∨ p.2 = none⌝ ∗ owes (tl d (coordsV c s)) O W') := by
  have waits : (levAts (K (F := F)).L (K (F := F)).lev : sProp 𝕄) ⊢ Transfers.MayWaits (tl d (coordsV c s)) (default : HIx 1) O :=
    (K (F := F)).mayWaits_none (thr := tl d (coordsV c s)) hO
  have wa : (aRef.view.set : Finset (Idx (aLoc d))) = Finset.univ := View.set_whole _
  have wb : (bRef.view.set : Finset (Idx (bLoc d))) = Finset.univ := View.set_whole _
  have run := body_wp (d := d) (i := coordsV c s) (arg2 := xRef) (arg3 := aRef) (harg3 := Memref.isWhole_whole _) (arg4 := bRef) (harg4 := Memref.isWhole_whole _) (arg5 := oRef)
    (arg6 := Memref.whole cc0_scratch0) (harg6 := Memref.isWhole_whole _) (arg7 := Memref.whole cc0_scratch1) (harg7 := Memref.isWhole_whole _)
    (arg8 := Memref.whole cc0_scratch2) (harg8 := Memref.isWhole_whole _) (arg9 := Memref.whole cc0_scratch3) (harg9 := Memref.isWhole_whole _)
    (arg10 := cc0_scratch4) (arg11 := cc0_scratch5) (arg12 := cc0_scratch6) (arg13 := cc0_scratch7) (arg14 := cc0_scratch8) (arg15 := cc0_scratch9)
    (v23_r0 := cc0_scoped0) (v23_r1 := cc0_scoped1) (X d) (G X A B d) (A d) (B d) (scaled_Scaled d (coordsV c s) (X d) (A d) (B d))
    (q := (tq c s).left) (q' := (tq c s).right) (qa := tq c s) (qb := tq c s) (O := O) (W := W) (A := A d) (B := B d) (View.read_whole _ _) (View.read_whole _ _)
  rw [wa, wb] at run
  let rest : sProp 𝕄 := iprop((bigSep (ownRefs (tl d (coordsV c s)).2 \ devBufs (coordsV c s)) fun b => iprop(∃ f, ((d, b) : Loc nD τ sig) ↦{fullShare} f))
    ∗ bigSep (ownCells (tl d (coordsV c s)) \ cells d (coordsV c s)) fun g => semVal g 0)
  have full := tframe (R := rest) run
  rw [cc0_k_eq, (K (F := F)).scopedBufs_V hF d _ _, SparseCore.Cfg.scopedSems0_V (Val := Elt F) d _ _, tileRes_open, tileRes_open]
  refine BI.Entails.trans (show _ ⊢ (_ : sProp 𝕄) from ?_) (full.trans (tmono (BI.Entails.refl _) fun _ => ?_))
  · iintro ⟨#Hlv, -, ⟨⟨Hx, Hx'⟩, Ha, Hb, Ho⟩, HB, HS, HO⟩
    ihave Hown := (Entails.of_eq (own_eq (F := F) d (coordsV c s))) $$ [HB HS]
    · isplitl [HB] <;> iassumption
    icases Hown with ⟨Hrest, HB, HS⟩
    ihave Ho' := (pieces_in d (coordsV c s) (O₀ d) (G X A B d)) $$ Ho
    ihave Hmw := waits $$ Hlv
    unfold debt
    isplitr [HB HS]
    · isplitl [Hx]; · iexact Hx
      isplitl [Hx']; · iexact Hx'
      isplitl [Ha]; · iexact Ha
      isplitl [Hb]; · iexact Hb
      isplitl [Ho']; · iexact Ho'
      isplitl [Hrest]; · iexact Hrest
      isplitl [Hmw]; · iexact Hmw
      iexists W
      isplitr; · ipureintro; exact fun p hp => Or.inl hp
      iexact HO
    · isplitl [HB] <;> iassumption
  · show _ ⊢ (_ : sProp 𝕄)
    unfold debt
    iintro ⟨⟨Hx, Hx', Ha, Hb, Ho, Hrest, -, HO⟩, HB, HS⟩
    ihave Hown := (Entails.of_eq (own_eq (F := F) d (coordsV c s)).symm) $$ [Hrest HB HS]
    · isplitl [Hrest]; · iexact Hrest
      isplitl [HB] <;> iassumption
    icases Hown with ⟨HB, HS⟩
    ihave Ho' := (pieces_out d (coordsV c s) (G X A B d)) $$ Ho
    isplitl [Hx Hx' Ha Hb Ho']
    · isplitl [Hx Hx']; · isplitl [Hx] <;> iassumption
      isplitl [Ha]; · iexact Ha
      isplitl [Hb]; · iexact Hb
      iexact Ho'
    isplitl [HB]; · iexact HB
    isplitl [HS]; · iexact HS
    iexact HO

theorem defs₀_vector (c : Fin τ.nSC) (s : Fin τ.nSub) :
    defs₀ (F := F) (.scVector c s) 0 ()
      = SparseCore.onTile hcore0 hsub0 (fun c s => cc0_k (coordsV c s) xRef (Memref.isWhole_whole _) aRef (Memref.isWhole_whole _) bRef (Memref.isWhole_whole _) oRef (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7 cc0_scratch8 cc0_scratch9 cc0_scoped0 cc0_scoped1) ⟨⟩ c s := rfl

theorem obl_post {thr : Thread nD τ} {R C E : sProp 𝕄} {O : CellTallies nD τ sig (HIx 1)} {W : Waits sig (HIx 1)} {q : Fin 1} :
    iprop(R ∗ C ∗ E ∗ ∃ W', ⌜∀ p ∈ W', p ∈ W ∨ p.2 = none⌝ ∗ owes thr O W')
      ⊢ iprop(R ∗ C ∗ E ∗ ∃ W', ⌜∀ p ∈ W', p ∈ W ∨ p.2 = none ∨ p.2 = some q⌝ ∗ owes thr O W') := by
  iintro ⟨HR, HC, HE, %W', %hW', HO⟩
  iframe
  iexists W'
  isplitr
  · ipureintro; exact fun p hp => (hW' p hp).imp_right Or.inl
  · iexact HO

theorem tileObl (hF : (K (F := F)).Facts) : (K (F := F)).TileObl (D (F := F)) 𝒱 (P X A B O₀) v₀ 0 := by
  intro d c i O W hO _ _
  simp only [show (P X A B O₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body X A B O₀ d hF O W hO (Fin.cast nCore_zero c) (Fin.cast nSub_zero i)).trans (wp_mono frame _ _ fun _ => obl_post)

end Task

/-! ## The call's split -/

theorem vecSplit : (K (F := F)).VecSplit' (P X A B O₀) 0 := by
  intro d c
  show (bigSep Finset.univ fun s : Fin 16 => tileRes d (X d) (A d) (B d) (O₀ d) (Fin.cast nCore_zero c) s) ⊢ |={Set.univ}=> iprop(
      (bigSep Finset.univ fun i : Fin ((K (F := F)).nSub 0) => tileRes d (X d) (A d) (B d) (O₀ d) (Fin.cast nCore_zero c) (Fin.cast nSub_zero i))
      ∗ ((bigSep Finset.univ fun i : Fin ((K (F := F)).nSub 0) => tileRes d (X d) (A d) (B d) (G X A B d) (Fin.cast nCore_zero c) (Fin.cast nSub_zero i))
          -∗ bigSep Finset.univ fun s : Fin 16 => tileRes d (X d) (A d) (B d) (G X A B d) (Fin.cast nCore_zero c) s))
  iintro H
  imodintro
  isplitl [H]; · iexact H
  iintro H
  iexact H

theorem st0_eq (d : Dev nD) : (bigSep Finset.univ fun c : Fin ((K (F := F)).nCore 0) => (P X A B O₀).st 0 d c)
    = (iprop((xLoc d ↦{fullShare} X d) ∗ (aLoc d ↦{fullShare} A d) ∗ (bLoc d ↦{fullShare} B d) ∗ (oLoc d ↦{fullShare} O₀ d)) : sProp 𝕄) :=
  tileRes_all d (X d) (A d) (B d) (O₀ d)

theorem dn0_eq (d : Dev nD) : (bigSep Finset.univ fun c : Fin ((K (F := F)).nCore 0) => (P X A B O₀).dn 0 d c)
    = (iprop((xLoc d ↦{fullShare} X d) ∗ (aLoc d ↦{fullShare} A d) ∗ (bLoc d ↦{fullShare} B d) ∗ (oLoc d ↦{fullShare} G X A B d)) : sProp 𝕄) :=
  tileRes_all d (X d) (A d) (B d) (G X A B d)

/-! ## The launch element of the certificate's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X A B O₀).x q thr) := by
  have none (thr : Thread nD τ) : (bigSep Finset.univ fun q : Fin 1 => (P X A B O₀).x q thr) = (iprop(emp) : sProp 𝕄) :=
    bigSep_univ_of_subsingleton (0 : Fin 1)
  unfold u₀
  simp only [none]
  iintro Hu
  ihave H := (ownU_pair (initOf (K (F := F)).hsCells (K (F := F)).hsToks) (1 : Counters)) $$ Hu
  icases H with ⟨HH, -⟩
  imodintro
  isplitl [HH]; · iexact HH
  rw [show (bigSep Finset.univ fun _ : Dev nD => iprop(emp)) = (iprop(emp) : sProp 𝕄) from bigSep_emp_const _,
    show (bigSep Finset.univ fun _ : Thread nD τ => iprop(emp)) = (iprop(emp) : sProp 𝕄) from bigSep_emp_const _]
  isplitr <;> iempintro

end Cert.KernelIdeal.Tile

end
-- ==== Proof.Ideal.Host.lean ====
/- The host's operations around the call, and the whole program's run. -/
module

public import proofs.«01_k».proof.Proof.Ideal.Call
public import Idealize.ShloMosaic.Lib.Pipeline.Frame

@[expose] public section

set_option maxRecDepth 16384

noncomputable section

namespace Cert.KernelIdeal.Tile

open Idealize.ShloMosaic Idealize.ShloMosaic.TcCoe
open Idealize.ShloMosaic.StableHlo (seq after nullary unary binary)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Compact

variable {F : FTy → Type} [FloatOps F]

local notation "𝕄" => MT nD τ sig (HIx 1) (Elt F) ℕ UU ℕ

/-! ## What the host computes -/

/-- The row the descriptors are multiplied by: `1 / (std · 22.6274166)`. -/
def scaleRow (s : FVec F S1x512 .f32) : FVec F S1x512 .f32 :=
  Host.divf (broadcastInDim S1x512 ![] bcast_S_S1x512 (constant S_ .f32 0x3F800000#32))
    (mulf s (broadcastInDim S1x512 ![] bcast_S_S1x512 (constant S_ .f32 0x41B504F3#32)))

/-- The row added: `(−mean)` times the first. -/
def shiftRow (μ s : FVec F S1x512 .f32) : FVec F S1x512 .f32 := mulf (Host.negf μ) (scaleRow s)

/-- A row as the flat array the call takes. -/
def flat (v : FVec F S1x512 .f32) : FVec F S512 .f32 := shapeCast S512 v shapeCasts_S1x512_S512

/-- The program's result, of its three arguments. -/
def outOf (x : FVec F S100000x512 .f32) (μ s : FVec F S1x512 .f32) : FVec F S100000x512 .f32 :=
  scaled x (flat (scaleRow s)) (flat (shiftRow μ s))

/-- The operations before the call, in order. -/
abbrev ops : List (HloOp τ sig (Elt F)) :=
  [ nullary main_cst (constant S_ .f32 0x41B504F3#32),
    unary main_cst main_v0 (broadcastInDim S1x512 ![] bcast_S_S1x512 : (⟨S_, .f32⟩ : BufTy).Contents (Elt F) → (⟨S1x512, .f32⟩ : BufTy).Contents (Elt F)),
    binary main_arg2 main_v0 main_v1 (mulf : (⟨S1x512, .f32⟩ : BufTy).Contents (Elt F) → (⟨S1x512, .f32⟩ : BufTy).Contents (Elt F) → (⟨S1x512, .f32⟩ : BufTy).Contents (Elt F)),
    nullary main_cst_0 (constant S_ .f32 0x3F800000#32),
    unary main_cst_0 main_v2 (broadcastInDim S1x512 ![] bcast_S_S1x512 : (⟨S_, .f32⟩ : BufTy).Contents (Elt F) → (⟨S1x512, .f32⟩ : BufTy).Contents (Elt F)),
    binary main_v2 main_v1 main_v3 (Host.divf : (⟨S1x512, .f32⟩ : BufTy).Contents (Elt F) → (⟨S1x512, .f32⟩ : BufTy).Contents (Elt F) → (⟨S1x512, .f32⟩ : BufTy).Contents (Elt F)),
    unary main_arg1 main_v4 (Host.negf : (⟨S1x512, .f32⟩ : BufTy).Contents (Elt F) → (⟨S1x512, .f32⟩ : BufTy).Contents (Elt F)),
    binary main_v4 main_v3 main_v5 (mulf : (⟨S1x512, .f32⟩ : BufTy).Contents (Elt F) → (⟨S1x512, .f32⟩ : BufTy).Contents (Elt F) → (⟨S1x512, .f32⟩ : BufTy).Contents (Elt F)),
    StableHlo.reshape main_v3 main_v6 (rfl : (.f32 : EltTy) = .f32) shapeCasts_S1x512_S512,
    StableHlo.reshape main_v5 main_v7 (rfl : (.f32 : EltTy) = .f32) shapeCasts_S1x512_S512 ]

theorem main_eq (d : Dev nD) : main (F := F) d = seq ops >>= fun _ => (sc (F := F)).run d 0 := by
  simp only [main, seq, bind_assoc, pure_bind]
  rfl

section Contents

variable (W : Valuation τ sig (Elt F))

theorem after_arg0 : after ops W (main_arg0 : DevRef τ sig) = W (main_arg0 : DevRef τ sig) := by
  simp only [StableHlo.after_cons, StableHlo.after_nil]; rfl
theorem after_arg1 : after ops W (main_arg1 : DevRef τ sig) = W (main_arg1 : DevRef τ sig) := by
  simp only [StableHlo.after_cons, StableHlo.after_nil]; rfl
theorem after_arg2 : after ops W (main_arg2 : DevRef τ sig) = W (main_arg2 : DevRef τ sig) := by
  simp only [StableHlo.after_cons, StableHlo.after_nil]; rfl
theorem after_v6 : after ops W (main_v6 : DevRef τ sig) = flat (scaleRow (W (main_arg2 : DevRef τ sig))) := by
  simp only [StableHlo.after_cons, StableHlo.after_nil]; rfl
theorem after_v7 : after ops W (main_v7 : DevRef τ sig) = flat (shiftRow (W (main_arg1 : DevRef τ sig)) (W (main_arg2 : DevRef τ sig))) := by
  simp only [StableHlo.after_cons, StableHlo.after_nil]; rfl

end Contents

theorem ops_sub : ∀ op ∈ (ops : List (HloOp τ sig (Elt F))), op.bufs ⊆ Pipeline.ucRefs τ sig := by
  refine List.forall_iff_forall_mem.mp ?_
  refine ⟨?_, ?_, ?_, ?_, ?_, ?_, ?_, ?_, ?_, ?_⟩
  all_goals apply Pipeline.sub_ucRefs
  · exact StableHlo.nullary_bufs_sub ..
  · exact StableHlo.unary_bufs_sub ..
  · exact StableHlo.binary_bufs_sub ..
  · exact StableHlo.nullary_bufs_sub ..
  · exact StableHlo.unary_bufs_sub ..
  · exact StableHlo.binary_bufs_sub ..
  · exact StableHlo.unary_bufs_sub ..
  · exact StableHlo.binary_bufs_sub ..
  · exact StableHlo.reshape_bufs_sub ..
  · exact StableHlo.reshape_bufs_sub ..

theorem ops_fresh : ∀ op ∈ (ops : List (HloOp τ sig (Elt F))), op.fresh = ∅ :=
  List.forall_iff_forall_mem.mp ⟨rfl, rfl, rfl, rfl, rfl, rfl, rfl, rfl, rfl, rfl⟩

/-! ## The host's run on one device -/

variable (m : (ℓ : Loc nD τ sig) → Buf (Elt F) ℓ) (ρ : Dev nD → PrngReg)

/-- The device's buffers at the launch, and where the call is reached. -/
abbrev V0 (d : Dev nD) : Valuation τ sig (Elt F) := fun b => m (d, b)
abbrev V1 (d : Dev nD) : Valuation τ sig (Elt F) := after ops (V0 m d)

abbrev mLoc (d : Dev nD) : Loc nD τ sig := (SparseCore.T d).loc main_arg1
abbrev sLoc (d : Dev nD) : Loc nD τ sig := (SparseCore.T d).loc main_arg2

abbrev PM := P (F := F) (fun d => V1 m d (main_arg0 : DevRef τ sig)) (fun d => V1 m d (main_v6 : DevRef τ sig))
  (fun d => V1 m d (main_v7 : DevRef τ sig)) (fun d => V1 m d (main_v8 : DevRef τ sig))

/-- The buffers the call and the claims speak of. -/
def six : Finset (DevRef τ sig) :=
  {(main_arg0 : DevRef τ sig), (main_v6 : DevRef τ sig), (main_v7 : DevRef τ sig), (main_v8 : DevRef τ sig), (main_arg1 : DevRef τ sig), (main_arg2 : DevRef τ sig)}

theorem six_sub : six ⊆ Pipeline.ucRefs τ sig := by decide

theorem held_six (d : Dev nD) (W : Valuation τ sig (Elt F)) : (StableHlo.held (T d) six W : sProp 𝕄)
    = iprop((xLoc d ↦{fullShare} W (main_arg0 : DevRef τ sig)) ∗ (aLoc d ↦{fullShare} W (main_v6 : DevRef τ sig)) ∗ (bLoc d ↦{fullShare} W (main_v7 : DevRef τ sig))
      ∗ (oLoc d ↦{fullShare} W (main_v8 : DevRef τ sig)) ∗ (mLoc d ↦{fullShare} W (main_arg1 : DevRef τ sig)) ∗ (sLoc d ↦{fullShare} W (main_arg2 : DevRef τ sig))) := by
  unfold StableHlo.held six
  rw [SparseCore.bigSep_insert' (by decide), SparseCore.bigSep_insert' (by decide), SparseCore.bigSep_insert' (by decide), SparseCore.bigSep_insert' (by decide),
    SparseCore.bigSep_insert' (by decide), bigSep_singleton]

/-- What @main leaves: the arguments as they were, the result the scaled array. -/
abbrev FIN (d : Dev nD) : sProp 𝕄 :=
  iprop((xLoc d ↦{fullShare} m (xLoc d)) ∗ (oLoc d ↦{fullShare} outOf (m (xLoc d)) (m (mLoc d)) (m (sLoc d)))
    ∗ (mLoc d ↦{fullShare} m (mLoc d)) ∗ (sLoc d ↦{fullShare} m (sLoc d)))

/-- A buffer's points-to at equal contents. -/
theorem at_eq {ℓ : Loc nD τ sig} {f g : Buf (Elt F) ℓ} (h : f = g) : (ℓ ↦{fullShare} f : sProp 𝕄) ⊢ ℓ ↦{fullShare} g :=
  Entails.of_eq (congrArg (fun v => (ℓ ↦{fullShare} v : sProp 𝕄)) h)

/-- The call's result is the program's, of the arguments at the launch. -/
theorem G_eq (d : Dev nD) : G (F := F) (fun d => V1 m d (main_arg0 : DevRef τ sig)) (fun d => V1 m d (main_v6 : DevRef τ sig))
    (fun d => V1 m d (main_v7 : DevRef τ sig)) d = outOf (m (xLoc d)) (m (mLoc d)) (m (sLoc d)) := by
  show scaled (V1 m d (main_arg0 : DevRef τ sig)) (V1 m d (main_v6 : DevRef τ sig)) (V1 m d (main_v7 : DevRef τ sig)) = _
  exact (congr (congr (congrArg scaled (after_arg0 (V0 m d))) (after_v6 (V0 m d))) (after_v7 (V0 m d)))

theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄)
      = StableHlo.held (T d) (Pipeline.ucRefs τ sig) (V0 m d) from Pipeline.unscopedBufs_held d (V0 m d)]
  iintro ⟨#Hctx, Hst, ⟨Hb, Hh, Hts, -⟩, -⟩
  iapply (StableHlo.wp_seq 𝒱 none Set.univ d (Pipeline.ucRefs τ sig) (fun _ => (K (F := F)).run d 0) ops ops_sub ops_fresh (V0 m d)) $$ [Hb Hh]
  · isplitl [Hb] <;> iassumption
  iintro ⟨Hb, Hh⟩
  ihave Hh := (Entails.of_eq ((StableHlo.held_sub_split (T d) six_sub (V1 m d)).trans (congrArg (fun R => iprop(R ∗ _)) (held_six d (V1 m d))))) $$ Hh
  icases Hh with ⟨⟨Hx, Ha, Hbb, Ho, Hm, Hs⟩, -⟩
  iapply ((K (F := F)).wp_run (D (F := F)) 𝒱 (EH := EH) (P := PM m) κ d 0) $$ [Hst Hx Ha Hbb Ho Hm Hs Hb Hts]
  isplitr; · iexact Hctx
  isplitl [Hst]; · iexact Hst
  isplitl [Hx Ha Hbb Ho]
  · rw [st0_eq]
    isplitl [Hx]; · iexact Hx
    isplitl [Ha]; · iexact Ha
    isplitl [Hbb]; · iexact Hbb
    iexact Ho
  iintro ⟨Hst, Hdn⟩
  ihave Hdn' := (Entails.of_eq (dn0_eq _ _ _ _ d)) $$ Hdn
  icases Hdn' with ⟨Hx, -, -, Ho⟩
  isplitl [Hst]; · iexact Hst
  isplitr [Hb Hts]
  · isplitl [Hx]; · iapply (at_eq (f := V1 m d (main_arg0 : DevRef τ sig)) (g := m (xLoc d)) (after_arg0 (V0 m d))) $$ Hx
    isplitl [Ho]; · iapply (at_eq (G_eq m d)) $$ Ho
    isplitl [Hm]; · iapply (at_eq (f := V1 m d (main_arg1 : DevRef τ sig)) (g := m (mLoc d)) (after_arg1 (V0 m d))) $$ Hm
    iapply (at_eq (f := V1 m d (main_arg2 : DevRef τ sig)) (g := m (sLoc d)) (after_arg2 (V0 m d))) $$ Hs
  isplitl [Hb] <;> iassumption

/-! ## The program's run -/

def fq (d : Dev nD) (s' : Phys nD τ sig (Elt F)) : Prop :=
  s'.mem.mem (oLoc d) = outOf (m (xLoc d)) (m (mLoc d)) (m (sLoc d)) ∧ s'.mem.mem (xLoc d) = m (xLoc d)
    ∧ s'.mem.mem (mLoc d) = m (mLoc d) ∧ s'.mem.mem (sLoc d) = m (sLoc d)

theorem hfin (d : Dev nD) (s' : Phys nD τ sig (Elt F)) : iprop(FIN m d ∗ SI s') ⊢ (⌜fq m d s'⌝ : sProp 𝕄) := by
  have read (ℓ : Loc nD τ sig) (f : Buf (Elt F) ℓ) :
      iprop(SI s' ∗ ℓ ↦{fullShare} f) ⊢ (iprop(⌜s'.mem.mem ℓ = f⌝ ∗ SI s' ∗ ℓ ↦{fullShare} f) : sProp 𝕄) := by
    iintro ⟨HSI, H⟩
    ihave H := (persistent_entails_right (SI_pointsTo_agree (st := s') (ℓ := ℓ) (I := Finset.univ) (q := fullShare) (f := f))) $$ [HSI H]
    · isplitl [HSI] <;> iassumption
    icases H with ⟨%h, HSI, H⟩
    isplitr
    · ipureintro; exact funext fun i => h i (Finset.mem_univ i)
    isplitl [HSI] <;> iassumption
  iintro ⟨⟨Hx, Ho, Hm, Hs⟩, HSI⟩
  ihave H := (read (xLoc d) _) $$ [HSI Hx]
  · isplitl [HSI] <;> iassumption
  icases H with ⟨%h1, HSI, -⟩
  ihave H := (read (oLoc d) _) $$ [HSI Ho]
  · isplitl [HSI] <;> iassumption
  icases H with ⟨%h2, HSI, -⟩
  ihave H := (read (mLoc d) _) $$ [HSI Hm]
  · isplitl [HSI] <;> iassumption
  icases H with ⟨%h3, HSI, -⟩
  ihave H := (read (sLoc d) _) $$ [HSI Hs]
  · isplitl [HSI] <;> iassumption
  icases H with ⟨%h4, HSI, -⟩
  ipureintro
  exact ⟨h2, h1, h3, h4⟩

/-- Every run ends with the result the scaled array, the arguments unchanged and every counter at zero. -/
def QC : PUnit × MemSt nD τ sig (Elt F) → Prop := fun r =>
  (∀ d : Dev nD, r.2.mem (oLoc d) = outOf (m (xLoc d)) (m (mLoc d)) (m (sLoc d)) ∧ r.2.mem (xLoc d) = m (xLoc d)
    ∧ r.2.mem (mLoc d) = m (mLoc d) ∧ r.2.mem (sLoc d) = m (sLoc d)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl _ _ _ _ facts)
    (fun q _ => match q with | 0 => SparseCore.Cfg.VecSplit.of_plain (vecSplit _ _ _ _))
    m ρ main (fun _ => iprop(emp)) (FIN m) (u₀ (F := F)) (sep_elim_left.trans (hu₀ _ _ _ _)) (hmain m ρ) (fq m) (hfin m) (QC m) (fun _ h hz => ⟨h, hz⟩)

end Cert.KernelIdeal.Tile

end
-- ==== Proof.Ideal.Normalize.lean ====
/- The TensorCore call: 14 blocks of 7376 rows staged in two buffers each way, the last block cut at the array's end
   (4112 rows). Each block's result is stated on its rows inside the array; the blocks cover the result. -/
module

public import proofs.«01_k».proof.Proof.Gen.BlocksIdeal.Launch
public import proofs.«01_k».proof.Proof.Gen.BlocksIdeal.Skeleton
public import proofs.«01_k».proof.Proof.Gen.BlocksIdeal.Points
public import Idealize.ShloMosaic.Lib.Pipeline.KitQuiescent
public import Idealize.ShloMosaic.Lib.Pipeline.FrameBody
public import Idealize.ShloMosaic.Lib.Pipeline.ValueKit.Geometry
public import Idealize.ShloMosaic.Lib.Pipeline.Value
public import Idealize.ShloMosaic.Lib.Tactic

@[expose] public section

noncomputable section

namespace Cert.BlocksIdeal.Normal

open Cert.BlocksIdeal Cert.BlocksIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

/-! ## What one entry becomes -/

/-- The place of column `k` in a row. -/
def inRow (k : Fin 512) : S1x512.Idx := fun
  | 0 => (0 : Fin 1)
  | 1 => k

/-- One over the deviation times the root of the width. -/
def weight (s : Vec F S1x512 .f32) : FVec F S1x512 .f32 :=
  divf (broadcast S1x512 (Scalar.ofBits .f32 0x3F800000#32)) (mulf s (broadcast S1x512 (Scalar.ofBits .f32 0x41B504F3#32)))

/-- An entry `v` of column `k` normalised: `v · a − mean · a`. -/
def entry (μ s : Vec F S1x512 .f32) (k : Fin 512) (v : Elt F .f32) : Elt F .f32 :=
  FloatOps.subf (FloatOps.mulf v (weight s (inRow k))) (FloatOps.mulf (μ (inRow k)) (weight s (inRow k)))

/-- The whole array normalised. -/
def normed (x : Vec F S100000x512 .f32) (μ s : Vec F S1x512 .f32) : Vec F S100000x512 .f32 :=
  fun i => entry μ s (i 1) (x i)

/-- The block that the body stores, at an index. -/
theorem pay_at (s μ : Vec F S1x512 .f32) (x : Vec F S7376x512 .f32) (j : S7376x512.Idx) :
    k0_pay1 s x μ j = entry μ s (j 1) (x j) := by
  have spread : ∀ v : FVec F S1x512 .f32, broadcastTo S7376x512 v broadcasts_S1x512_S7376x512 j = v (inRow (j 1)) := fun v => by
    refine congrArg v (funext fun a => ?_)
    match a with
    | 0 => rfl
    | 1 => rfl
  exact congr (congrArg (fun a b => FloatOps.subf (FloatOps.mulf (x j) a) b) (spread (weight s))) (spread (mulf μ (weight s)))

/-! ## What the buffers hold -/

variable (m : (ℓ : Loc nD τ sig) → Buf (Elt F) ℓ) (ρ : Dev nD → PrngReg)

/-- The arguments. -/
abbrev xOf (c : Dev nD) : Vec F S100000x512 .f32 := m ((c : Thread nD τ).loc main_arg0)
abbrev μOf (c : Dev nD) : Vec F S1x512 .f32 := m ((c : Thread nD τ).loc main_arg1)
abbrev sOf (c : Dev nD) : Vec F S1x512 .f32 := m ((c : Thread nD τ).loc main_arg2)

/-- The rows of point `t`'s block that lie inside the array. -/
def rows (c : Dev nD) (t : Fin cfg0.N) : (win0_0.xblock (grid0.coords t)).Idx → Elt F .f32 :=
  (win0_0.blk t).view.read (Elt F) (m ((c : Thread nD τ).loc main_arg0))

/-- Those rows normalised. -/
def done (c : Dev nD) (t : Fin cfg0.N) : (win0_0.xblock (grid0.coords t)).Idx → Elt F .f32 :=
  fun j => entry (μOf m c) (sOf m c) (win0_0.xinj (grid0.coords t) j 1) (rows m c t j)

/-- A block filled past the array's end with a word that nothing reads. -/
def filled (t : Fin cfg0.N) (g : (win0_0.xblock (grid0.coords t)).Idx → Elt F .f32) : S7376x512.Idx → Elt F .f32 :=
  win0_0.fill (grid0.coords t) (fun _ => Scalar.ofBits .f32 0#32) g

/-- The buffers after each point: the block, the two rows, and the block normalised. -/
def dats (_ : Fin 1) (c : Dev nD) : Dat τ (Elt F) Unit ℕ (UR sig nD τ) ℕ cfg0 c where
  A w := m ((cfg0.win w).arr.view.loc (c : Thread nD τ))
  after w t := match w with
    | ⟨0, _⟩ => filled t (rows m c t)
    | ⟨1, _⟩ => μOf m c
    | ⟨2, _⟩ => sOf m c
    | ⟨3, _⟩ => filled t (done m c t)
  Φ _ := iprop(emp)
  q _ := fullShare
  owed _ := 0

/-- Every point reads the same one block of the mean and of the deviation: all of it. -/
theorem mean_block (c : Dev nD) (t : Fin cfg0.N) : (win0_1.blk t).view.read (Elt F) (μOf m c) = μOf m c := by
  funext j
  refine congrArg (μOf m c) (funext fun a => Fin.ext ?_)
  exact Window.rect_emb_val_of_index_zero win0_1 t a (match a with | 0 => rfl | 1 => rfl) j
theorem std_block (c : Dev nD) (t : Fin cfg0.N) : (win0_2.blk t).view.read (Elt F) (sOf m c) = sOf m c := by
  funext j
  refine congrArg (sOf m c) (funext fun a => Fin.ext ?_)
  exact Window.rect_emb_val_of_index_zero win0_2 t a (match a with | 0 => rfl | 1 => rfl) j

theorem before_x (c : Dev nD) (t : Fin cfg0.N) (d) :
    (dats m 0 c).before (0 : Fin 4) t d = win0_0.fill (grid0.coords t) d (rows m c t) := by
  rw [Dat.before_fetched _ _ _ (fetch0_0 t)]; rfl

theorem before_mean (c : Dev nD) (t : Fin cfg0.N) (d) : (dats m 0 c).before (1 : Fin 4) t d = μOf m c := by
  rw [Dat.before_in_eq_fetched (dats m 0 c) (1 : Fin 4) rfl (fun _ => rfl) (fun _ _ _ => rfl)
    (fun t => (mean_block m c t).symm) t d]
  exact mean_block m c t

theorem before_std (c : Dev nD) (t : Fin cfg0.N) (d) : (dats m 0 c).before (2 : Fin 4) t d = sOf m c := by
  rw [Dat.before_in_eq_fetched (dats m 0 c) (2 : Fin 4) rfl (fun _ => rfl) (fun _ _ _ => rfl)
    (fun t => (std_block m c t).symm) t d]
  exact std_block m c t

theorem before_out (c : Dev nD) (t : Fin cfg0.N) (d) : (dats m 0 c).before (3 : Fin 4) t d = d := by
  refine Dat.before_out_reset _ _ rfl _ ?_ d
  by_cases h : t.val = 0
  · exact .inl h
  · exact .inr ⟨h, flush0_3 _⟩

/-! ## The body -/

theorem no_offset : (![0, 0] : Fin 2 → Nat) = fun _ => 0 := funext fun a => by fin_cases a <;> rfl

/-- A load of a whole buffer reads it, a store of one replaces it. -/
theorem read_x0 : (Memref.whole cc0_stg0_0 : Memref sig .tc _ _ _).view.readAt (Elt F)
    (Rect.unit (s := S7376x512) ![0, 0] S7376x512.size inb_S7376x512_S7376x512_0_0).toLoadRect = id :=
  funext (Memref.readAt_unit_zero (Elt F) cc0_stg0_0 no_offset _)
theorem read_x1 : (Memref.whole cc0_stg0_1 : Memref sig .tc _ _ _).view.readAt (Elt F)
    (Rect.unit (s := S7376x512) ![0, 0] S7376x512.size inb_S7376x512_S7376x512_0_0).toLoadRect = id :=
  funext (Memref.readAt_unit_zero (Elt F) cc0_stg0_1 no_offset _)
theorem read_mean : (Memref.whole cc0_stg1_0 : Memref sig .tc _ _ _).view.readAt (Elt F)
    (Rect.unit (s := S1x512) ![0, 0] S1x512.size inb_S1x512_S1x512_0_0).toLoadRect = id :=
  funext (Memref.readAt_unit_zero (Elt F) cc0_stg1_0 no_offset _)
theorem read_std : (Memref.whole cc0_stg2_0 : Memref sig .tc _ _ _).view.readAt (Elt F)
    (Rect.unit (s := S1x512) ![0, 0] S1x512.size inb_S1x512_S1x512_0_0).toLoadRect = id :=
  funext (Memref.readAt_unit_zero (Elt F) cc0_stg2_0 no_offset _)
theorem write_out0 (f w) : ((Memref.whole cc0_stg3_0).access
    (Rect.unit (s := S7376x512) ![0, 0] S7376x512.size inb_S7376x512_S7376x512_0_0) : View sig .tc _ _ _).write (Elt F) f w Finset.univ = w :=
  Memref.write_access_unit_zero_univ (Elt F) cc0_stg3_0 no_offset _ f w
theorem write_out1 (f w) : ((Memref.whole cc0_stg3_1).access
    (Rect.unit (s := S7376x512) ![0, 0] S7376x512.size inb_S7376x512_S7376x512_0_0) : View sig .tc _ _ _).write (Elt F) f w Finset.univ = w :=
  Memref.write_access_unit_zero_univ (Elt F) cc0_stg3_1 no_offset _ f w

/-- The body at any choice of the buffers: the result's buffer ends with the normalised block, the rest unchanged. -/
theorem body_run (c : Dev nD) (E : Set ℕ) (i : grid0.Coords) (b0 : Fin 2) (b1 b2 : Fin 1) (b3 : Fin 2)
    (X : S7376x512.Idx → Elt F .f32) (M S : S1x512.Idx → Elt F .f32) (O : S7376x512.Idx → Elt F .f32) (K : PUnit → sProp 𝕄) :
    iprop((owns (c : Thread nD τ) (stage0_0 b0) fullShare X ∗ owns (c : Thread nD τ) (stage0_1 b1) fullShare M
            ∗ owns (c : Thread nD τ) (stage0_2 b2) fullShare S ∗ owns (c : Thread nD τ) (stage0_3 b3) fullShare O)
          ∗ (iprop(owns (c : Thread nD τ) (stage0_0 b0) fullShare X ∗ owns (c : Thread nD τ) (stage0_1 b1) fullShare M
                  ∗ owns (c : Thread nD τ) (stage0_2 b2) fullShare S
                  ∗ owns (c : Thread nD τ) (stage0_3 b3) fullShare (k0_pay1 S X M)) -∗ K ⟨⟩))
      ⊢ wp frame (wpE (defs₀ (F := F)) Variants.none c none) E
          (cc0__norm_body i (stage0_0 b0) (hstage0_0 b0) (stage0_1 b1) (hstage0_1 b1) (stage0_2 b2) (hstage0_2 b2)
            (stage0_3 b3) (hstage0_3 b3)) K := by
  have hb1 : b1 = 0 := Subsingleton.elim _ _
  have hb2 : b2 = 0 := Subsingleton.elim _ _
  subst hb1 hb2
  fin_cases b0 <;> fin_cases b3
  all_goals
    simp only [owns_whole_eq, cc0__norm_body_eq_skeleton]; unfold cc0__norm_body_skel
    simp only [Prog.lift, Prog.bind_op, Prog.bind_ret]
    iintro ⟨⟨⟨%f0, %h0, H0⟩, ⟨%f1, %h1, H1⟩, ⟨%f2, %h2, H2⟩, ⟨%f3, %h3, H3⟩⟩, Hk⟩
    sl_steps
    iapply Hk
    first | rw [read_x0] | rw [read_x1]
    first | rw [write_out0] | rw [write_out1]
    rw [read_mean, read_std]
    isplitl [H0]
    · iexists f0; isplitr; · ipureintro; exact h0
      iexact H0
    isplitl [H1]
    · iexists f1; isplitr; · ipureintro; exact h1
      iexact H1
    isplitl [H2]
    · iexists f2; isplitr; · ipureintro; exact h2
      iexact H2
    · iexists k0_pay1 f2 f0 f1; isplitr; · ipureintro; rw [h0, h1, h2]
      iexact H3

/-- The normalised block of a filled block is the filled block of the normalised rows. -/
theorem pay_fill (c : Dev nD) (t : Fin cfg0.N) (d : S7376x512.Idx → Elt F .f32) :
    k0_pay1 (sOf m c) (win0_0.fill (grid0.coords t) d (rows m c t)) (μOf m c)
      = win0_0.fill (grid0.coords t) (k0_pay1 (sOf m c) d (μOf m c)) (done m c t) := by
  funext j
  rw [pay_at]
  unfold Window.fill
  split
  · rfl
  · exact (pay_at _ _ _ _).symm

theorem body_obligation (c : Dev nD) : BodyObligationLoose (dats m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_x m c t d0, before_mean m c t d1, before_std m c t d2, before_out m c t d3]
  iapply (body_run (F := F) c Set.univ (grid0.coords t) (cfg0.slots t 0) (cfg0.slots t 1) (cfg0.slots t 2) (cfg0.slots t 3)
    (win0_0.fill (grid0.coords t) d0 (rows m c t)) (μOf m c) (sOf m c) d3 _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  have hx : win0_0.cut (grid0.coords t) (filled t (rows m c t)) = rows m c t := win0_0.cut_fill _ _ _
  have ho : win0_0.cut (grid0.coords t) (filled t (done m c t)) = done m c t := win0_0.cut_fill _ _ _
  isplitl [H0]
  · iexists d0
    change _ ⊢ owns (c : Thread nD τ) (stage0_0 (cfg0.slots t 0)) fullShare
      (win0_0.fill (grid0.coords t) d0 (win0_0.cut (grid0.coords t) (filled t (rows m c t))))
    rw [hx]; try iexact H0
  isplitl [H1]; · iexact H1
  isplitl [H2]; · iexact H2
  iexists k0_pay1 (sOf m c) d0 (μOf m c)
  change _ ⊢ owns (c : Thread nD τ) (stage0_3 (cfg0.slots t 3)) fullShare
    (win0_0.fill (grid0.coords t) (k0_pay1 (sOf m c) d0 (μOf m c)) (win0_0.cut (grid0.coords t) (filled t (done m c t))))
  rw [ho, ← pay_fill]; try iexact H3

/-! ## The result array -/

theorem out_final (c : Dev nD) : (dats m 0 c).arrAt (3 : Fin 4) cfg0.N = normed (xOf m c) (μOf m c) (sOf m c) := by
  refine (dats m 0 c).arrAt_eq_of_covers (3 : Fin 4) _ (by decide +kernel) fun t _ y => ?_
  have e : filled t (done m c t) (win0_0.xinj (grid0.coords t) y) = done m c t y := win0_0.fill_xinj _ _ _ _
  refine Eq.trans (b := done m c t y) e ?_
  refine congr (congrArg (entry (μOf m c) (sOf m c)) (Fin.ext ?_)) rfl
  exact (Window.rect_emb_val_of_index_zero win0_3 t 1 rfl y).symm

/-! ## The run -/

/-- What the run ends with: the normalised array, the arguments as they were. -/
def QC (r : PUnit × MemSt nD τ sig (Elt F)) : Prop := ∀ c : Dev nD,
  r.2.mem ((c : Thread nD τ).loc main_v0) = normed (xOf m c) (μOf m c) (sOf m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)

set_option backward.isDefEq.respectTransparency.types false in
theorem run_main : θ_run defs (onTc (τ := τ) (main (F := F))) ⟨m, fun _ => 0, ρ⟩ (fun r => QC m r ∧ r.2.sem = fun _ => 0) :=
  Pipeline.θ_run_region_noSem_kit_quiescent cfgs (dats m) () (0 : Fin 1) launch0 emb₁ defs₀ Variants.none m ρ main
    (hbody := body_obligation m)
    (hshare := fun c => (dats m 0 c).share_full fun _ => rfl) (howed := fun _ _ => rfl)
    (u₀ := initOf (Pipeline.cells cfgs launch0.cellOf_inj) (Pipeline.launchToks cfgs launch0.cellOf_inj))
    (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h hz => ⟨fun c => ⟨((h c).1 (3 : Fin 4)).trans (out_final m c),
      ((h c).1 (0 : Fin 4)).trans ((dats m 0 c).arrAt_in (0 : Fin 4) rfl _),
      ((h c).1 (1 : Fin 4)).trans ((dats m 0 c).arrAt_in (1 : Fin 4) rfl _),
      ((h c).1 (2 : Fin 4)).trans ((dats m 0 c).arrAt_in (2 : Fin 4) rfl _)⟩, hz⟩)

end Cert.BlocksIdeal.Normal

end
-- ==== Proof.Ideal.Steps.lean ====
/- The copies, loads and stores of the third call's body, as they read and write what the core holds. -/
module

public import proofs.«01_k».proof.Proof.Gen.ManualIdeal.Launch
public import proofs.«01_k».proof.Proof.Gen.ManualIdeal.Skeleton
public import proofs.«01_k».proof.Proof.Gen.ManualIdeal.Points
public import Idealize.ShloMosaic.Lib.Pipeline.KitQuiescent
public import Idealize.ShloMosaic.Lib.Pipeline.FrameBody
public import Idealize.ShloMosaic.Lib.Pipeline.Value
public import Idealize.ShloMosaic.Lib.ViewIndex
public import Idealize.ShloMosaic.Lib.Batch
public import Idealize.ShloMosaic.Lib.Ring
public import Idealize.ShloMosaic.Lib.Tactic

@[expose] public section

set_option maxRecDepth 16384

noncomputable section

namespace Cert.ManualIdeal.Turns

open Cert.ManualIdeal Cert.ManualIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The staging's ghost state beside the counters that the body's own copies ride on. -/
abbrev UU : Type := UR sig nD τ × Counters

local notation "𝕄" => MT nD τ sig Unit (Elt F) ℕ UU ℕ

abbrev 𝒱₀ : Variants := Variants.none

/-- The core of device `c`. -/
abbrev th (c : Dev nD) : Thread nD τ := (c : Thread nD τ)

/-- A program of the core. -/
abbrev CoreProg (F : FTy → Type) [FloatOps F] (α : Type) := Prog (TpuEff nD τ sig (Elt F) Λ₀ .tc) α

variable [FloatOps F] (d : Dev nD)

/-- The weakest precondition of the core's program. -/
abbrev twp {α : Type} (p : CoreProg F α) (Q : α → sProp 𝕄) : sProp 𝕄 :=
  wp frame (wpE (defs₀ (F := F)) 𝒱₀ (th d) none) Set.univ p Q

/-- The core holds the memref's elements, and they read `g`. -/
def held {sp : Space} {s : Shape} {e : EltTy} (m : Memref sig .tc sp s e) (g : s.Idx → Elt F e) : sProp 𝕄 :=
  iprop(∃ f : Buf (Elt F) (m.view.loc (th d)), ⌜m.view.read (Elt F) f = g⌝ ∗ m.view.loc (th d) ↦[m.view.set]{fullShare} f)

variable {d}

/-- One program after another. -/
theorem tseq {α β : Type} {A : sProp 𝕄} {B : α → sProp 𝕄} {p : CoreProg F α} {k : α → CoreProg F β} {Q : β → sProp 𝕄}
    (hp : A ⊢ twp d p B) (hk : ∀ x, B x ⊢ twp d (k x) Q) : A ⊢ twp d (p >>= k) Q := by
  unfold twp
  rw [wp_bind]
  exact hp.trans (wp_mono frame _ _ hk)

theorem tpure {α : Type} {A : sProp 𝕄} {x : α} {Q : α → sProp 𝕄} (h : A ⊢ Q x) : A ⊢ twp d (pure x) Q := by
  unfold twp
  rw [wp_pure]
  iintro HA; imodintro; iapply h; iexact HA

theorem tmono {α : Type} {A : sProp 𝕄} {B B' : α → sProp 𝕄} {p : CoreProg F α} (hp : A ⊢ twp d p B) (h : ∀ x, B x ⊢ B' x) :
    A ⊢ twp d p B' := hp.trans (wp_mono frame _ _ h)

theorem tframe {α : Type} {A R : sProp 𝕄} {B : α → sProp 𝕄} {p : CoreProg F α} (hp : A ⊢ twp d p B) :
    iprop(A ∗ R) ⊢ twp d p (fun x => iprop(B x ∗ R)) :=
  (sep_mono_left hp).trans (wp_frame_r frame _ _)

/-- A load through a rectangle. -/
theorem tload {cs : CoreSpace} {s : Shape} {e : EltTy} {m : Memref sig .tc cs s e} {r : Rect s} {hl : m.view.LoadsAt r.toLoadRect} {g : s.Idx → Elt F e} :
    held d m g ⊢ twp d (Prog.lift (.load m r.toLoadRect hl)) (fun v => iprop(⌜v = fun x => g (r.emb x)⌝ ∗ held d m g)) := by
  unfold held
  iintro ⟨%f, %hf, H⟩
  iapply (wp_load (c := th d) (defs := defs₀ (F := F)) 𝒱₀ none Set.univ (View.set_slice_subset m.view r |> fun h => by rwa [View.set_slice] at h)) $$ H
  iintro H
  rw [wp_ret]
  imodintro
  isplitr
  · ipureintro; subst hf; rfl
  · iexists f
    isplitr; · ipureintro; exact hf
    iexact H

/-- A store through a rectangle, nothing masked. -/
theorem tstore {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {g g' : s.Idx → Elt F e} (hin : ∀ x, g' (r.emb x) = w x) (hout : ∀ y, y ∉ r.set → g' y = g y) :
    held d m g ⊢ twp d (Prog.lift (.store m r w Finset.univ hx hm)) (fun _ => held d m g') := by
  unfold held
  iintro ⟨%f, %hf, H⟩
  iapply (wp_store (c := th d) (defs := defs₀ (F := F)) 𝒱₀ none Set.univ (m := m) (r := r) (w := w) (Mk := Finset.univ) (S := m.view.set) (f := f)
    (show (m.access r).setOn Finset.univ ⊆ m.view.set from View.set_slice_subset m.view r)) $$ H
  iintro H
  rw [wp_ret]
  imodintro
  iexists _
  isplitr
  rotate_left
  · iexact H
  · ipureintro
    funext y
    by_cases hy : y ∈ r.set
    · rw [← r.map_emb_univ] at hy
      obtain ⟨x, -, rfl⟩ := Finset.mem_map.mp hy
      rw [hin x]
      exact View.read_slice_write_emb (v := m.view) r f w (Finset.mem_univ x)
    · rw [hout y hy, ← hf]
      exact View.read_slice_write_of_not_mem (v := m.view) r f w Finset.univ (by rwa [r.map_emb_univ])

variable (d)

/-- A copy of the core in flight on its cell `sem`, delivering `D`. -/
abbrev flight (sem : DmaSem sig) (N : ℕ) (D : sProp 𝕄) : sProp 𝕄 :=
  Transfers.Flight countersEmb (th d) (.dma sem) (default : Unit) N D

/-- The cell `sem` of the core at zero. -/
abbrev quiet (sem : DmaSem sig) : sProp 𝕄 := semVal (th d, .dma sem) 0

/-- The core owes nothing, whatever it has waited for. -/
def debt : sProp 𝕄 := iprop(∃ W : Waits sig Unit, owes (th d) 0 W)

variable {d}

/-- What lies beside a flight may be handed back with its delivery. -/
theorem flight_frame {sem : DmaSem sig} {N : ℕ} {D X : sProp 𝕄} :
    iprop(flight d sem N D ∗ X) ⊢ flight d sem N iprop(D ∗ X) := by
  unfold flight Transfers.Flight
  iintro ⟨⟨⟨%R, HR, %hcap, %hpeek⟩, Hcred⟩, HX⟩
  isplitr [Hcred]
  · iexists iprop(R ∗ X)
    isplitl [HR HX]; · isplitl [HR] <;> iassumption
    isplit
    · ipureintro
      intro K
      iintro ⟨⟨HR, HX⟩, HK⟩
      iapply (hcap K)
      isplitl [HR]; · iexact HR
      iintro ⟨Hv, HD⟩
      iapply HK
      isplitl [Hv]; · iexact Hv
      isplitl [HD] <;> iassumption
    · ipureintro
      intro K
      iintro ⟨⟨HR, HX⟩, HK⟩
      iapply (hpeek K)
      isplitl [HR]; · iexact HR
      iintro HR
      iapply HK
      isplitl [HR] <;> iassumption
  · iexact Hcred

theorem tdma {sp sp' : Space} {s : Shape} {e : EltTy} {src : Memref sig .tc sp s e} {dst : Memref sig .tc sp' s e} {sem : DmaSem sig}
    {h1 : src.view.WordExact} {h2 : dst.view.WordExact} {h3 : DmaTarget.Typed (nD := nD) (p := (th d).2) sp (.dma sem) (.here dst)}
    {q : PosShare TreeShare} {fs : Buf (Elt F) (src.view.loc (th d))} {g : s.Idx → Elt F e} (hN : 0 < s.numel) :
    iprop((src.view.loc (th d) ↦[src.view.set]{q} fs) ∗ held d dst g ∗ quiet d sem)
      ⊢ twp d (Prog.lift (.enqueueDma src (.here dst) (.dma sem) h1 h2 h3))
        (fun _ => flight d sem dst.view.dmaCredit iprop(held d dst (src.view.read (Elt F) fs) ∗ (src.view.loc (th d) ↦[src.view.set]{q} fs))) := by
  unfold held
  iintro ⟨Hs, ⟨%f, -, Hd⟩, Hv⟩
  iapply (Transfers.wp_dmaLocal countersEmb 𝒱₀ (th d) none (src := src) (dst := dst) (via := .same) (sm := .dma sem) (q := q) (fs := fs)
    (Sd := dst.view.set) (fd := f) (default : Unit) dst.view.dmaCredit rfl (View.dmaCredit_pos _ hN) (Finset.Subset.refl _)) $$ [Hs Hd Hv]
  · isplitl [Hs]; · iexact Hs
    isplitl [Hd] <;> iassumption
  iintro Hf
  rw [wp_ret]
  imodintro
  iapply (Transfers.Flight_mono countersEmb (th d) ?_) $$ Hf
  iintro ⟨Hd, Hs⟩
  isplitl [Hd]
  · iexists _
    isplitr
    rotate_left
    · iexact Hd
    · ipureintro; exact View.read_write_univ (v := dst.view) f _
  · iexact Hs

theorem twait {sp sp' : Space} {s s' : Shape} {e e' : EltTy} {src : Memref sig .tc sp' s' e'} {dst : Memref sig .tc sp s e} {sem : DmaSem sig}
    {h1 : src.view.WordExact} {h2 : dst.view.WordExact} {N : ℕ} (hN : dst.view.dmaCredit = N) {D : sProp 𝕄} :
    iprop(flight d sem N D ∗ debt d)
      ⊢ twp d (Prog.lift (.waitDma2 sem src dst h1 h2)) (fun _ => iprop(D ∗ quiet d sem ∗ debt d)) := by
  unfold debt
  iintro ⟨Hf, %W', HO⟩
  iapply (Transfers.wp_waitLocal countersEmb 𝒱₀ (th d) none (srcw := src) (dstw := dst) (default : Unit) hN) $$ [Hf HO]
  · isplitl [Hf] <;> iassumption
  iintro ⟨HD, Hv, HO⟩
  rw [wp_ret]
  imodintro
  isplitl [HD]; · iexact HD
  isplitl [Hv]; · iexact Hv
  iexists _
  iexact HO

/-- What a memref holds, when it reads what an array holding `G` reads there. -/
theorem held_elim {sp : Space} {s : Shape} {e : EltTy} {m : Memref sig .tc sp s e} (G : Buf (Elt F) (m.view.loc (th d))) {g : s.Idx → Elt F e}
    (h : m.view.read (Elt F) G = g) : held d m g ⊢ (m.view.loc (th d) ↦[m.view.set]{fullShare} G) := by
  unfold held
  iintro ⟨%f, %hf, H⟩
  iapply (Entails.of_eq (pointsTo_congr (f := f) (g := G) ?_)) $$ H
  intro k hk
  obtain ⟨x, -, rfl⟩ := Finset.mem_map.mp hk
  exact View.eq_of_read_eq (v := m.view) (congrFun (hf.trans h.symm) x)

theorem held_intro {sp : Space} {s : Shape} {e : EltTy} {m : Memref sig .tc sp s e} (f : Buf (Elt F) (m.view.loc (th d))) :
    (m.view.loc (th d) ↦[m.view.set]{fullShare} f) ⊢ held d m (m.view.read (Elt F) f) := by
  unfold held
  iintro H
  iexists f
  isplitr; · ipureintro; rfl
  iexact H

/-- A copy out of a slice of an array held whole: the array comes back whole. -/
theorem tdma_sub {sp sp' : Space} {s s₀ : Shape} {e : EltTy} {x : Memref sig .tc sp s₀ e} {r : Rect s₀} {hr : ∀ a, r.stride a = 1}
    {dst : Memref sig .tc sp' r.shape e} {sem : DmaSem sig}
    {h1 : (x.slice r hr).view.WordExact} {h2 : dst.view.WordExact} {h3 : DmaTarget.Typed (nD := nD) (p := (th d).2) sp (.dma sem) (.here dst)}
    {q : PosShare TreeShare} {X : Buf (Elt F) (x.view.loc (th d))} {g : r.shape.Idx → Elt F e} (hN : 0 < r.shape.numel) :
    iprop((x.view.loc (th d) ↦{q} X) ∗ held d dst g ∗ quiet d sem)
      ⊢ twp d (Prog.lift (.enqueueDma (x.slice r hr) (.here dst) (.dma sem) h1 h2 h3))
        (fun _ => flight d sem dst.view.dmaCredit iprop(held d dst ((x.slice r hr).view.read (Elt F) X) ∗ (x.view.loc (th d) ↦{q} X))) := by
  iintro ⟨Hx, Hd, Hv⟩
  ihave Hxs := (pointsTo_split_subset (q := q) (f := X) (S := Finset.univ) (Finset.subset_univ (x.slice r hr).view.set)).1 $$ Hx
  icases Hxs with ⟨Hxs, Hxr⟩
  have back : iprop((held d dst ((x.slice r hr).view.read (Elt F) X) ∗ (x.view.loc (th d) ↦[(x.slice r hr).view.set]{q} X))
        ∗ (x.view.loc (th d) ↦[Finset.univ \ (x.slice r hr).view.set]{q} X))
      ⊢ (iprop(held d dst ((x.slice r hr).view.read (Elt F) X) ∗ (x.view.loc (th d) ↦{q} X)) : sProp 𝕄) := by
    iintro ⟨⟨Hd, Hxs⟩, Hxr⟩
    isplitl [Hd]; · iexact Hd
    iapply (pointsTo_split_subset (q := q) (f := X) (S := Finset.univ) (Finset.subset_univ (x.slice r hr).view.set)).2
    isplitl [Hxs] <;> iassumption
  iapply (tmono (tframe (tdma (src := x.slice r hr) (dst := dst) (q := q) (fs := X) (g := g) hN)) fun _ =>
    flight_frame.trans (Transfers.Flight_mono countersEmb (th d) back)) $$ [Hxs Hxr Hd Hv]
  isplitr [Hxr]
  rotate_left
  · iexact Hxr
  isplitl [Hxs]; · iexact Hxs
  isplitl [Hd] <;> iassumption

/-- A copy out of a buffer into a slice of an array. -/
theorem tdma_out {sp sp' : Space} {s : Shape} {e : EltTy} {src : Memref sig .tc sp s e} {dst : Memref sig .tc sp' s e} {sem : DmaSem sig}
    {h1 : src.view.WordExact} {h2 : dst.view.WordExact} {h3 : DmaTarget.Typed (nD := nD) (p := (th d).2) sp (.dma sem) (.here dst)}
    {g : s.Idx → Elt F e} {f : Buf (Elt F) (dst.view.loc (th d))} (G : Buf (Elt F) (dst.view.loc (th d)))
    (hG : dst.view.read (Elt F) G = g) (hN : 0 < s.numel) :
    iprop(held d src g ∗ (dst.view.loc (th d) ↦[dst.view.set]{fullShare} f) ∗ quiet d sem)
      ⊢ twp d (Prog.lift (.enqueueDma src (.here dst) (.dma sem) h1 h2 h3))
        (fun _ => flight d sem dst.view.dmaCredit iprop((dst.view.loc (th d) ↦[dst.view.set]{fullShare} G) ∗ held d src g)) := by
  iintro ⟨Hs, Hd, Hv⟩
  ihave Hd' := (held_intro (d := d) (m := dst) f) $$ Hd
  ihave Hs' := (show held d src g ⊢ iprop(∃ f : Buf (Elt F) (src.view.loc (th d)), ⌜src.view.read (Elt F) f = g⌝ ∗ src.view.loc (th d) ↦[src.view.set]{fullShare} f) from Entails.of_eq rfl) $$ Hs
  icases Hs' with ⟨%fs, %hfs, Hs⟩
  have back : iprop(held d dst (src.view.read (Elt F) fs) ∗ (src.view.loc (th d) ↦[src.view.set]{fullShare} fs))
      ⊢ (iprop((dst.view.loc (th d) ↦[dst.view.set]{fullShare} G) ∗ held d src g) : sProp 𝕄) := by
    iintro ⟨Hd, Hs⟩
    isplitl [Hd]
    · iapply (held_elim G (hG.trans hfs.symm)) $$ Hd
    · unfold held
      iexists fs
      isplitr; · ipureintro; exact hfs
      iexact Hs
  iapply (tmono (tdma (src := src) (dst := dst) (q := fullShare) (fs := fs) (g := dst.view.read (Elt F) f) hN) fun _ =>
    Transfers.Flight_mono countersEmb (th d) back) $$ [Hs Hd' Hv]
  isplitl [Hs]; · iexact Hs
  isplitl [Hd'] <;> iassumption

/-- A step that uses part of what is at hand. -/
theorem tstep {α β : Type} {A P R : sProp 𝕄} {B : α → sProp 𝕄} {p : CoreProg F α} {k : α → CoreProg F β} {Q : β → sProp 𝕄}
    (hp : A ⊢ twp d p B) (h : P ⊢ iprop(A ∗ R)) (hk : ∀ y, iprop(B y ∗ R) ⊢ twp d (k y) Q) : P ⊢ twp d (p >>= k) Q :=
  h.trans (tseq (tframe hp) hk)

end Cert.ManualIdeal.Turns

end
-- ==== Proof.Ideal.Turns.lean ====
/- The third call's ring of four buffers over the twenty-five chunks of rows. -/
module

public import proofs.«01_k».proof.Proof.Ideal.Steps

@[expose] public section

set_option maxRecDepth 16384

noncomputable section

namespace Cert.ManualIdeal.Turns

open Cert.ManualIdeal Cert.ManualIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-! ## The programs of a turn -/

section Programs

variable [FloatOps F]

/-- 4000 rows of an array, from a place on. -/
abbrev chunk (x : Memref sig .tc .hbm S100000x512 .f32) (off : Fin 2 → Nat) (h : ∀ a, off a + S4000x512.size a ≤ S100000x512.size a) :
    Memref sig .tc .hbm S4000x512 .f32 :=
  x.slice (Rect.unit (s := S100000x512) off S4000x512.size h) (fun _ => rfl)

/-- All of a buffer of 4000 rows, and all of a row. -/
abbrev full : Rect S4000x512 := Rect.unit (s := S4000x512) ![0, 0] S4000x512.size inb_S4000x512_S4000x512_0_0
abbrev fullRow : Rect S1x512 := Rect.unit (s := S1x512) ![0, 0] S1x512.size inb_S1x512_S1x512_0_0

/-- The end of a slot's turn: the chunk on its way out and, if there is one more, the next on its way in. -/
noncomputable def send (x o : Memref sig .tc .hbm S100000x512 .f32) (m : Memref sig .tc .vmem S4000x512 .f32) (hm : m.IsWhole)
    (si so : DmaSems sig S_) (offO : Fin 2 → Nat) (hO : ∀ a, offO a + S4000x512.size a ≤ S100000x512.size a)
    (more : BitVec 1) (offI : Fin 2 → Nat)
    (hI : more = 1#1 → ∀ a, offI a + S4000x512.size a ≤ S100000x512.size a) : CoreProg F PUnit :=
  Prog.lift (.enqueueDma m (.here (chunk o offO hO)) (.dma so.sem) hm.wordExact (View.wordExact_bits rfl) ⟨Or.inl rfl, trivial⟩) >>= fun _ =>
    if h : more = 1#1 then
      Prog.lift (.waitDma2 so.sem m (chunk o ![0, 0] inb_S100000x512_S4000x512_0_0) hm.wordExact (View.wordExact_bits rfl)) >>= fun _ =>
        Prog.lift (.enqueueDma (chunk x offI (hI h)) (.here m) (.dma si.sem) (View.wordExact_bits rfl) hm.wordExact ⟨Or.inl rfl, trivial⟩)
    else pure ⟨⟩

/-- A slot's turn: wait for the chunk, scale and shift it where it lies, then `send`. -/
noncomputable def slot (x o : Memref sig .tc .hbm S100000x512 .f32) (am bm : Memref sig .tc .vmem S1x512 .f32)
    (m : Memref sig .tc .vmem S4000x512 .f32) (hm : m.IsWhole)
    (si so : DmaSems sig S_) (offO : Fin 2 → Nat) (hO : ∀ a, offO a + S4000x512.size a ≤ S100000x512.size a)
    (more : BitVec 1) (offI : Fin 2 → Nat)
    (hI : more = 1#1 → ∀ a, offI a + S4000x512.size a ≤ S100000x512.size a) : CoreProg F PUnit :=
  Prog.lift (.waitDma2 si.sem (chunk x ![0, 0] inb_S100000x512_S4000x512_0_0) m (View.wordExact_bits rfl) hm.wordExact) >>= fun _ =>
  Prog.lift (.load m full.toLoadRect (View.loadsAt_vmem h_S4000x512)) >>= fun v =>
  Prog.lift (.load am fullRow.toLoadRect (View.loadsAt_vmem h_S1x512)) >>= fun a =>
  Prog.lift (.load bm fullRow.toLoadRect (View.loadsAt_vmem h_S1x512)) >>= fun b =>
  Prog.lift (.load m full.toLoadRect (View.loadsAt_vmem h_S4000x512)) >>= fun _ =>
  Prog.lift (.store m full (k0_pay1 v a b) Finset.univ (View.stores_vmem_bits_univ h_S4000x512 rfl) (.inl rfl)) >>= fun _ =>
  send x o m hm si so offO hO more offI hI

variable (arg0 arg3 : Memref sig .tc .hbm S100000x512 .f32) (arg4 : Memref sig .tc .vmem S4000x512 .f32) (harg4 : arg4.IsWhole)
  (arg5 : Memref sig .tc .vmem S4000x512 .f32) (harg5 : arg5.IsWhole) (arg6 : Memref sig .tc .vmem S4000x512 .f32) (harg6 : arg6.IsWhole)
  (arg7 : Memref sig .tc .vmem S4000x512 .f32) (harg7 : arg7.IsWhole) (arg8 arg9 : Memref sig .tc .vmem S1x512 .f32)
  (arg10 arg11 arg12 arg13 arg14 arg15 arg16 arg17 : DmaSems sig S_)

/-- One turn of the ring: its four slots. -/
noncomputable def turn (t : Fin k0_t1_loop.trips) : CoreProg F PUnit :=
  (if h : k0_cond1 t = 1#1 then
    slot arg0 arg3 arg8 arg9 arg4 harg4 arg10 arg14 (k0_off1 t) (k0_off1_inb t h) (k0_cond2 t) (k0_off2 t) (k0_off2_inb t h)
  else pure ⟨⟩) >>= fun _ =>
  (if h : k0_cond3 t = 1#1 then
    slot arg0 arg3 arg8 arg9 arg5 harg5 arg11 arg15 (k0_off3 t) (k0_off3_inb t h) (k0_cond4 t) (k0_off4 t) (k0_off4_inb t h)
  else pure ⟨⟩) >>= fun _ =>
  (if h : k0_cond5 t = 1#1 then
    slot arg0 arg3 arg8 arg9 arg6 harg6 arg12 arg16 (k0_off5 t) (k0_off5_inb t h) (k0_cond6 t) (k0_off6 t) (k0_off6_inb t h)
  else pure ⟨⟩) >>= fun _ =>
  (if h : k0_cond7 t = 1#1 then
    slot arg0 arg3 arg8 arg9 arg7 harg7 arg13 arg17 (k0_off7 t) (k0_off7_inb t h) (k0_cond8 t) (k0_off8 t) (k0_off8_inb t h)
  else pure ⟨⟩)

theorem dite_bind {α β : Type} {c : Prop} [Decidable c] (p : c → CoreProg F α) (q : ¬ c → CoreProg F α) (f : α → CoreProg F β) :
    (dite c p q >>= f) = dite c (fun h => p h >>= f) (fun h => q h >>= f) := by
  split <;> rfl

theorem turn_eq (arg1 : Memref sig .tc .hbm S1x512 .f32) (harg1 : arg1.IsWhole) (arg2 : Memref sig .tc .hbm S1x512 .f32) (harg2 : arg2.IsWhole)
    (harg0 : arg0.IsWhole) (harg3 : arg3.IsWhole) (harg8 : arg8.IsWhole) (harg9 : arg9.IsWhole) (t : Fin k0_t1_loop.trips) :
    k0_t1_body (F := F) arg0 harg0 arg1 harg1 arg2 harg2 arg3 harg3 arg4 harg4 arg5 harg5 arg6 harg6 arg7 harg7 arg8 harg8 arg9 harg9 arg10 arg11 arg12 arg13 arg14 arg15 arg16 arg17 t ⟨⟩
      = turn arg0 arg3 arg4 harg4 arg5 harg5 arg6 harg6 arg7 harg7 arg8 arg9 arg10 arg11 arg12 arg13 arg14 arg15 arg16 arg17 t := by
  unfold k0_t1_body turn slot send
  simp only [dite_bind, bind_assoc, pure_bind]
  rfl

end Programs

/-! ## The chunks -/

theorem chunk_inb (n : Nat) (hn : n < 25) :
    ∀ a, (![4000 * n, 0] : Fin 2 → Nat) a + S4000x512.size a ≤ S100000x512.size a := by
  intro a
  match a with
  | 0 => show 4000 * n + 4000 ≤ 100000; omega
  | 1 => show 0 + 512 ≤ 512; omega

theorem trips_eq : k0_t1_loop.trips = 7 := by decide
theorem cond1_iff : ∀ t : Fin k0_t1_loop.trips, k0_cond1 t = 1#1 ↔ 4 * t.val + 0 < 25 := by decide +kernel
theorem cond3_iff : ∀ t : Fin k0_t1_loop.trips, k0_cond3 t = 1#1 ↔ 4 * t.val + 1 < 25 := by decide +kernel
theorem cond5_iff : ∀ t : Fin k0_t1_loop.trips, k0_cond5 t = 1#1 ↔ 4 * t.val + 2 < 25 := by decide +kernel
theorem cond7_iff : ∀ t : Fin k0_t1_loop.trips, k0_cond7 t = 1#1 ↔ 4 * t.val + 3 < 25 := by decide +kernel
theorem cond2_iff : ∀ t : Fin k0_t1_loop.trips, k0_cond2 t = 1#1 ↔ 4 * (t.val + 1) + 0 < 25 := by decide +kernel
theorem cond4_iff : ∀ t : Fin k0_t1_loop.trips, k0_cond4 t = 1#1 ↔ 4 * (t.val + 1) + 1 < 25 := by decide +kernel
theorem cond6_iff : ∀ t : Fin k0_t1_loop.trips, k0_cond6 t = 1#1 ↔ 4 * (t.val + 1) + 2 < 25 := by decide +kernel
theorem cond8_iff : ∀ t : Fin k0_t1_loop.trips, k0_cond8 t = 1#1 ↔ 4 * (t.val + 1) + 3 < 25 := by decide +kernel
theorem off1_eq : ∀ t : Fin k0_t1_loop.trips, k0_off1 t = ![4000 * (4 * t.val + 0), 0] := by decide +kernel
theorem off3_eq : ∀ t : Fin k0_t1_loop.trips, k0_off3 t = ![4000 * (4 * t.val + 1), 0] := by decide +kernel
theorem off5_eq : ∀ t : Fin k0_t1_loop.trips, k0_off5 t = ![4000 * (4 * t.val + 2), 0] := by decide +kernel
theorem off7_eq : ∀ t : Fin k0_t1_loop.trips, k0_off7 t = ![4000 * (4 * t.val + 3), 0] := by decide +kernel
theorem off2_eq : ∀ t : Fin k0_t1_loop.trips, k0_off2 t = ![4000 * (4 * (t.val + 1) + 0), 0] := by decide +kernel
theorem off4_eq : ∀ t : Fin k0_t1_loop.trips, k0_off4 t = ![4000 * (4 * (t.val + 1) + 1), 0] := by decide +kernel
theorem off6_eq : ∀ t : Fin k0_t1_loop.trips, k0_off6 t = ![4000 * (4 * (t.val + 1) + 2), 0] := by decide +kernel
theorem off8_eq : ∀ t : Fin k0_t1_loop.trips, k0_off8 t = ![4000 * (4 * (t.val + 1) + 3), 0] := by decide +kernel

theorem full_emb (p : S4000x512.Idx) : full.emb p = p := funext fun a => Fin.ext (by
  match a with
  | 0 => show 0 + 1 * (p 0).val = (p 0).val; omega
  | 1 => show 0 + 1 * (p 1).val = (p 1).val; omega)
theorem fullRow_emb (p : S1x512.Idx) : fullRow.emb p = p := funext fun a => Fin.ext (by
  match a with
  | 0 => show 0 + 1 * (p 0).val = (p 0).val; omega
  | 1 => show 0 + 1 * (p 1).val = (p 1).val; omega)
theorem mem_full (p : S4000x512.Idx) : p ∈ full.set := by
  rw [← full.map_emb_univ]
  exact Finset.mem_map.mpr ⟨p, Finset.mem_univ _, full_emb p⟩

variable [FloatOps F] {d : Dev nD}

/-! ## The value -/

/-- The place of column `k` in a row. -/
def inRow (k : Fin 512) : S1x512.Idx := fun
  | 0 => (0 : Fin 1)
  | 1 => k

/-- A number scaled and shifted by column `k`'s pair. -/
def affine (av bv : S1x512.Idx → Elt F .f32) (k : Fin 512) (v : Elt F .f32) : Elt F .f32 :=
  (FloatOps.addf (FloatOps.mulf v (av (inRow k))) (bv (inRow k)) : F .f32)

/-- The block that a turn stores, at an index. -/
theorem pay_at (x : Vec F S4000x512 .f32) (av bv : Vec F S1x512 .f32) (j : S4000x512.Idx) :
    k0_pay1 x av bv j = affine av bv (j 1) (x j) := by
  have spread : ∀ v : FVec F S1x512 .f32, broadcastTo S4000x512 v broadcasts_S1x512_S4000x512 j = v (inRow (j 1)) := fun v => by
    refine congrArg v (funext fun a => ?_)
    match a with
    | 0 => rfl
    | 1 => rfl
  refine (congrFun (shapeCast_self (addf (mulf x (broadcastTo S4000x512 av broadcasts_S1x512_S4000x512))
    (broadcastTo S4000x512 bv broadcasts_S1x512_S4000x512)) shapeCasts_S4000x512_S4000x512) j).trans ?_
  exact congr (congrArg (fun a b => FloatOps.addf (FloatOps.mulf (x j) a) b) (spread av)) (spread bv)

theorem numel_pos : 0 < S4000x512.numel := by decide

section Slot

variable {x o : Memref sig .tc .hbm S100000x512 .f32} {am bm : Memref sig .tc .vmem S1x512 .f32}
  (X : Buf (Elt F) (x.view.loc (th d))) (G : Buf (Elt F) (o.view.loc (th d))) (av bv : S1x512.Idx → Elt F .f32)

/-- The result array's 4000 rows from a place on, at `f`. -/
abbrev outAt (off : Fin 2 → Nat) (h : ∀ a, off a + S4000x512.size a ≤ S100000x512.size a) (f : Buf (Elt F) (o.view.loc (th d))) : sProp 𝕄 :=
  o.view.loc (th d) ↦[(chunk o off h).view.set]{fullShare} f

/-- `G` is `X` scaled and shifted, wherever the core looks. -/
def Scaled : Prop :=
  ∀ off h (p : S4000x512.Idx), (chunk o off h).view.read (Elt F) G p = affine av bv (p 1) ((chunk x off h).view.read (Elt F) X p)

/-- What chunk `n` of the input reads. -/
abbrev chunkIn (n : Nat) (hn : n < 25) : S4000x512.Idx → Elt F .f32 := (chunk x ![4000 * n, 0] (chunk_inb n hn)).view.read (Elt F) X

/-- The result's chunk `k`: written if its turn is below `t`. -/
def cell (t : Nat) (k : Fin 25) : sProp 𝕄 :=
  if k.val / 4 < t then outAt (d := d) (o := o) ![4000 * k.val, 0] (chunk_inb k.val k.isLt) G
  else iprop(∃ f : Buf (Elt F) (o.view.loc (th d)), outAt (d := d) (o := o) ![4000 * k.val, 0] (chunk_inb k.val k.isLt) f)

/-- The chunks of slot `s`. -/
def mine (s : Nat) : Finset (Fin 25) := Finset.univ.filter fun k => k.val % 4 = s

theorem mem_mine {s : Nat} {k : Fin 25} : k ∈ mine s ↔ k.val % 4 = s := by simp [mine]

variable (s : Nat) (hs : s < 4) (q : PosShare TreeShare) (m : Memref sig .tc .vmem S4000x512 .f32) (si so : DmaSems sig S_)

include hs in
theorem cells_take (t : Nat) (ht : 4 * t + s < 25) :
    (bigSep (mine s) (cell (o := o) G t) : sProp 𝕄)
      = iprop((∃ f : Buf (Elt F) (o.view.loc (th d)), outAt (d := d) (o := o) ![4000 * (4 * t + s), 0] (chunk_inb (4 * t + s) ht) f)
        ∗ bigSep ((mine s).erase ⟨4 * t + s, ht⟩) (cell (o := o) G t)) := by
  have hm : (⟨4 * t + s, ht⟩ : Fin 25) ∈ mine s := mem_mine.mpr (show (4 * t + s) % 4 = s by omega)
  rw [BI.bigSep_erase hm]
  congr 1
  exact if_neg (show ¬ (4 * t + s) / 4 < t by omega)

include hs in
theorem cells_put (t : Nat) (ht : 4 * t + s < 25) :
    iprop(outAt (d := d) (o := o) ![4000 * (4 * t + s), 0] (chunk_inb (4 * t + s) ht) G
        ∗ bigSep ((mine s).erase ⟨4 * t + s, ht⟩) (cell (o := o) G t))
      = (bigSep (mine s) (cell (o := o) G (t + 1)) : sProp 𝕄) := by
  have hm : (⟨4 * t + s, ht⟩ : Fin 25) ∈ mine s := mem_mine.mpr (show (4 * t + s) % 4 = s by omega)
  rw [BI.bigSep_erase (Φ := cell (o := o) G (t + 1)) hm]
  congr 1
  · exact (if_pos (show (4 * t + s) / 4 < t + 1 by omega)).symm
  · refine bigSep_congr fun k hk => ?_
    have hne : k.val ≠ 4 * t + s := fun e => (Finset.mem_erase.mp hk).1 (Fin.ext e)
    have hks := mem_mine.mp (Finset.mem_erase.mp hk).2
    unfold cell
    by_cases h : k.val / 4 < t
    · rw [if_pos h, if_pos (by omega)]
    · rw [if_neg h, if_neg (by omega)]

/-- The turn of slot `s`'s last chunk. -/
abbrev lastTurn (s : Nat) : Nat := (24 - s) / 4

theorem lastTurn_lt (s : Nat) (hs : s < 4) : 4 * lastTurn s + s < 25 := by unfold lastTurn; omega

/-- The slot before turn `t`: its chunk on the way in, or, after its last turn, its last chunk on the way out. -/
def slotSt (t : Nat) : sProp 𝕄 :=
  if h : 4 * t + s < 25 then
    iprop(flight d si.sem m.view.dmaCredit iprop(held d m (chunkIn X (4 * t + s) h) ∗ (x.view.loc (th d) ↦{q} X))
      ∗ quiet d so.sem ∗ bigSep (mine s) (cell G t))
  else
    iprop(flight d so.sem (chunk o ![0, 0] inb_S100000x512_S4000x512_0_0).view.dmaCredit
        iprop(outAt ![4000 * (4 * lastTurn s + s), 0] (chunk_inb _ (lastTurn_lt s hs)) G ∗ ∃ g, held d m g)
      ∗ quiet d si.sem ∗ (x.view.loc (th d) ↦{q} X) ∗ bigSep ((mine s).erase ⟨4 * lastTurn s + s, lastTurn_lt s hs⟩) (cell G (lastTurn s)))

theorem send_wp (hG : Scaled (x := x) (o := o) X G av bv) {hm : m.IsWhole} (t : Nat) (ht : 4 * t + s < 25)
    {hO : ∀ a, (![4000 * (4 * t + s), 0] : Fin 2 → Nat) a + S4000x512.size a ≤ S100000x512.size a}
    {more : BitVec 1} (hmore : more = 1#1 ↔ 4 * (t + 1) + s < 25)
    {hI : more = 1#1 → ∀ a, (![4000 * (4 * (t + 1) + s), 0] : Fin 2 → Nat) a + S4000x512.size a ≤ S100000x512.size a} (f : Buf (Elt F) (o.view.loc (th d))) :
    iprop(held d m (fun p => affine av bv (p 1) (chunkIn (d := d) X (4 * t + s) ht p)) ∗ outAt (d := d) (o := o) ![4000 * (4 * t + s), 0] (chunk_inb _ ht) f
        ∗ quiet d so.sem ∗ (x.view.loc (th d) ↦{q} X) ∗ quiet d si.sem ∗ debt d
        ∗ bigSep ((mine s).erase ⟨4 * t + s, ht⟩) (cell (o := o) G t) ∗ (held d am av ∗ held d bm bv))
      ⊢ twp d (send x o m hm si so ![4000 * (4 * t + s), 0] hO more ![4000 * (4 * (t + 1) + s), 0] hI)
        (fun _ => iprop(slotSt (x := x) (o := o) X G s hs q m si so (t + 1) ∗ (held d am av ∗ held d bm bv) ∗ debt d)) := by
  have scaled : (chunk o ![4000 * (4 * t + s), 0] hO).view.read (Elt F) G = fun p => affine av bv (p 1) (chunkIn (d := d) X (4 * t + s) ht p) :=
    funext fun p => hG _ _ p
  unfold send
  refine tstep (tdma_out (dst := chunk o ![4000 * (4 * t + s), 0] hO) (f := f) G scaled (by decide))
    (R := iprop((x.view.loc (th d) ↦{q} X) ∗ quiet d si.sem ∗ debt d
        ∗ bigSep ((mine s).erase ⟨4 * t + s, ht⟩) (cell (o := o) G t) ∗ (held d am av ∗ held d bm bv))) ?_ fun _ => ?_
  · iintro ⟨Hm, Ho, Hso, HR⟩
    iframe
  split
  · rename_i hm1
    have ht' : 4 * (t + 1) + s < 25 := hmore.mp hm1
    rw [show slotSt (x := x) (o := o) X G s hs q m si so (t + 1) = _ from dif_pos ht', ← cells_put G s hs t ht]
    refine tstep (twait (D := iprop(outAt (d := d) (o := o) ![4000 * (4 * t + s), 0] (chunk_inb _ ht) G
          ∗ held d m (fun p => affine av bv (p 1) (chunkIn (d := d) X (4 * t + s) ht p)))) rfl)
      (R := iprop((x.view.loc (th d) ↦{q} X) ∗ quiet d si.sem
        ∗ bigSep ((mine s).erase ⟨4 * t + s, ht⟩) (cell (o := o) G t) ∗ (held d am av ∗ held d bm bv))) ?_ fun _ => ?_
    · iintro ⟨Hf, Hx, Hsi, Hd, Hc, Hab⟩
      iframe
    refine (show _ ⊢ iprop(((x.view.loc (th d) ↦{q} X) ∗ held d m (fun p => affine av bv (p 1) (chunkIn (d := d) X (4 * t + s) ht p)) ∗ quiet d si.sem)
        ∗ (outAt (d := d) (o := o) ![4000 * (4 * t + s), 0] (chunk_inb _ ht) G ∗ quiet d so.sem ∗ debt d
          ∗ bigSep ((mine s).erase ⟨4 * t + s, ht⟩) (cell (o := o) G t) ∗ (held d am av ∗ held d bm bv))) from ?_).trans
      (tmono (tframe (tdma_sub (s := S4000x512) (x := x) (r := Rect.unit (s := S100000x512) ![4000 * (4 * (t + 1) + s), 0] S4000x512.size (hI hm1)) (hr := fun _ => rfl)
        (dst := m) (X := X) (q := q) numel_pos)) fun _ => ?_)
    · iintro ⟨⟨⟨Ho, Hm⟩, Hso, Hd⟩, Hx, Hsi, Hc, Hab⟩
      iframe
    · iintro ⟨Hf, Ho, Hso, Hd, Hc, Hab⟩
      iframe
      iexact Hf
  · rename_i hm1
    have ht' : ¬ 4 * (t + 1) + s < 25 := mt hmore.mpr hm1
    obtain rfl : t = lastTurn s := by unfold lastTurn; omega
    rw [show slotSt (x := x) (o := o) X G s hs q m si so (lastTurn s + 1) = _ from dif_neg ht']
    have back : iprop(outAt (d := d) (o := o) ![4000 * (4 * lastTurn s + s), 0] (chunk_inb _ ht) G
          ∗ held d m (fun p => affine av bv (p 1) (chunkIn (d := d) X (4 * lastTurn s + s) ht p)))
        ⊢ (iprop(outAt (d := d) (o := o) ![4000 * (4 * lastTurn s + s), 0] (chunk_inb _ (lastTurn_lt s hs)) G ∗ ∃ g, held d m g) : sProp 𝕄) := by
      iintro ⟨Ho, Hm⟩
      isplitl [Ho]; · iexact Ho
      iexists _
      iexact Hm
    have flown := Transfers.Flight_mono (N := (chunk o ![0, 0] inb_S100000x512_S4000x512_0_0).view.dmaCredit) (sm := SemLoc.dma so.sem) (ι := (default : Unit)) countersEmb (th d) back
    refine tpure ((sep_mono_left flown).trans ?_)
    iintro ⟨Hf, Hx, Hsi, Hd, Hc, Hab⟩
    iframe

/-- A fact at hand, put among the hypotheses. -/
theorem pull {φ : Prop} {P Q : sProp 𝕄} (h : φ → (P ⊢ Q)) : iprop(⌜φ⌝ ∗ P) ⊢ Q := by
  iintro ⟨%hφ, HP⟩
  iapply (h hφ) $$ HP

/-- Loads and stores of all of a buffer. -/
theorem load_full {m : Memref sig .tc .vmem S4000x512 .f32} {g : S4000x512.Idx → Elt F .f32} :
    held d m g ⊢ twp d (Prog.lift (.load m full.toLoadRect (View.loadsAt_vmem h_S4000x512)))
      (fun v : Vec F S4000x512 .f32 => iprop(⌜v = g⌝ ∗ held d m g)) :=
  tmono tload fun v => by
    iintro ⟨%hv, Hm⟩
    isplitr; · ipureintro; exact hv.trans (funext fun p => congrArg g (full_emb p))
    iexact Hm

theorem load_row {m : Memref sig .tc .vmem S1x512 .f32} {g : S1x512.Idx → Elt F .f32} :
    held d m g ⊢ twp d (Prog.lift (.load m fullRow.toLoadRect (View.loadsAt_vmem h_S1x512)))
      (fun v : Vec F S1x512 .f32 => iprop(⌜v = g⌝ ∗ held d m g)) :=
  tmono tload fun v => by
    iintro ⟨%hv, Hm⟩
    isplitr; · ipureintro; exact hv.trans (funext fun p => congrArg g (fullRow_emb p))
    iexact Hm

theorem store_full {m : Memref sig .tc .vmem S4000x512 .f32} {g w g' : S4000x512.Idx → Elt F .f32} (h : w = g') :
    held d m g ⊢ twp d (Prog.lift (.store m full w Finset.univ (View.stores_vmem_bits_univ h_S4000x512 rfl) (.inl rfl))) (fun _ => held d m g') :=
  tstore (r := full) (w := w) (g' := g') (fun p => (congrArg g' (full_emb p)).trans (congrFun h.symm p)) (fun y hy => absurd (mem_full y) hy)

/-- The chunk scaled and shifted where it lies. -/
theorem scale_wp {α : Type} {Q : α → sProp 𝕄} {R : sProp 𝕄} {g : S4000x512.Idx → Elt F .f32} {k : CoreProg F α}
    (hk : iprop(held d m (fun p => affine av bv (p 1) (g p)) ∗ held d am av ∗ held d bm bv ∗ R) ⊢ twp d k Q) :
    iprop(held d m g ∗ held d am av ∗ held d bm bv ∗ R) ⊢ twp d
      (Prog.lift (.load m full.toLoadRect (View.loadsAt_vmem h_S4000x512)) >>= fun v =>
      Prog.lift (.load am fullRow.toLoadRect (View.loadsAt_vmem h_S1x512)) >>= fun a =>
      Prog.lift (.load bm fullRow.toLoadRect (View.loadsAt_vmem h_S1x512)) >>= fun b =>
      Prog.lift (.load m full.toLoadRect (View.loadsAt_vmem h_S4000x512)) >>= fun _ =>
      Prog.lift (.store m full (k0_pay1 v a b) Finset.univ (View.stores_vmem_bits_univ h_S4000x512 rfl) (.inl rfl)) >>= fun _ => k) Q := by
  refine tstep load_full .rfl fun v => ?_
  refine (show _ ⊢ iprop(⌜v = g⌝ ∗ (held d am av ∗ (held d m g ∗ held d bm bv ∗ R))) from ?_).trans (pull fun hv => tstep load_row .rfl fun a => ?_)
  · iintro ⟨⟨%hv, Hm⟩, Ha, Hb, HR⟩
    isplitr; · ipureintro; exact hv
    iframe
  refine (show _ ⊢ iprop(⌜a = av⌝ ∗ (held d bm bv ∗ (held d m g ∗ held d am av ∗ R))) from ?_).trans (pull fun ha => tstep load_row .rfl fun b => ?_)
  · iintro ⟨⟨%ha, Ha⟩, Hm, Hb, HR⟩
    isplitr; · ipureintro; exact ha
    iframe
  refine (show _ ⊢ iprop(⌜b = bv⌝ ∗ (held d m g ∗ (held d am av ∗ held d bm bv ∗ R))) from ?_).trans (pull fun hb => tstep load_full .rfl fun _ => ?_)
  · iintro ⟨⟨%hb, Hb⟩, Hm, Ha, HR⟩
    isplitr; · ipureintro; exact hb
    iframe
  subst hv ha hb
  refine tstep (store_full (g := v) (w := k0_pay1 v a b) (funext fun p => pay_at v a b p))
    (R := iprop(held d am a ∗ held d bm b ∗ R)) ?_ fun _ => hk
  iintro ⟨⟨-, Hm⟩, Ha, Hb, HR⟩
  iframe

theorem slot_wp (hG : Scaled (x := x) (o := o) X G av bv) {hm : m.IsWhole} (t : Nat) (ht : 4 * t + s < 25)
    {offO : Fin 2 → Nat} {hO : ∀ a, offO a + S4000x512.size a ≤ S100000x512.size a} (eO : offO = ![4000 * (4 * t + s), 0])
    {more : BitVec 1} (hmore : more = 1#1 ↔ 4 * (t + 1) + s < 25) {offI : Fin 2 → Nat}
    {hI : more = 1#1 → ∀ a, offI a + S4000x512.size a ≤ S100000x512.size a} (eI : offI = ![4000 * (4 * (t + 1) + s), 0]) :
    iprop(slotSt (x := x) (o := o) X G s hs q m si so t ∗ (held d am av ∗ held d bm bv) ∗ debt d)
      ⊢ twp d (slot x o am bm m hm si so offO hO more offI hI)
        (fun _ => iprop(slotSt (x := x) (o := o) X G s hs q m si so (t + 1) ∗ (held d am av ∗ held d bm bv) ∗ debt d)) := by
  subst eO eI
  unfold slot
  rw [show slotSt (x := x) (o := o) X G s hs q m si so t = _ from dif_pos ht, cells_take G s hs t ht]
  refine tstep (twait (D := iprop(held d m (chunkIn X (4 * t + s) ht) ∗ (x.view.loc (th d) ↦{q} X))) rfl)
    (R := iprop(quiet d so.sem ∗ ((∃ f : Buf (Elt F) (o.view.loc (th d)), outAt (d := d) (o := o) ![4000 * (4 * t + s), 0] (chunk_inb _ ht) f)
        ∗ bigSep ((mine s).erase ⟨4 * t + s, ht⟩) (cell (o := o) G t)) ∗ held d am av ∗ held d bm bv)) ?_ fun _ => ?_
  · iintro ⟨⟨Hf, Hso, Hcells⟩, ⟨Ha, Hb⟩, Hd⟩
    iframe
  refine (show _ ⊢ iprop(held d m (chunkIn X (4 * t + s) ht) ∗ held d am av ∗ held d bm bv
      ∗ ((x.view.loc (th d) ↦{q} X) ∗ quiet d si.sem ∗ debt d ∗ quiet d so.sem
        ∗ (∃ f : Buf (Elt F) (o.view.loc (th d)), outAt (d := d) (o := o) ![4000 * (4 * t + s), 0] (chunk_inb _ ht) f)
        ∗ bigSep ((mine s).erase ⟨4 * t + s, ht⟩) (cell (o := o) G t))) from ?_).trans (scale_wp av bv m ?_)
  · iintro ⟨⟨⟨Hm, Hx⟩, Hsi, Hd⟩, Hso, ⟨Ho, Hcells⟩, Ha, Hb⟩
    iframe
  iintro ⟨Hm, Ha, Hb, Hx, Hsi, Hd, Hso, ⟨%f, Ho⟩, Hcells⟩
  iapply (send_wp X G av bv s hs q m si so hG t ht hmore f) $$ [Hm Ha Hb Hx Hsi Hd Hso Ho Hcells]
  iframe

/-- The slot at any turn: past its last chunk it does nothing. -/
theorem slot_if_wp (hG : Scaled (x := x) (o := o) X G av bv) {hm : m.IsWhole} (t : Nat) {now : BitVec 1} (hnow : now = 1#1 ↔ 4 * t + s < 25)
    {offO : Fin 2 → Nat} {hO : now = 1#1 → ∀ a, offO a + S4000x512.size a ≤ S100000x512.size a} (eO : offO = ![4000 * (4 * t + s), 0])
    {more : BitVec 1} (hmore : more = 1#1 ↔ 4 * (t + 1) + s < 25) {offI : Fin 2 → Nat}
    {hI : now = 1#1 → more = 1#1 → ∀ a, offI a + S4000x512.size a ≤ S100000x512.size a} (eI : offI = ![4000 * (4 * (t + 1) + s), 0]) :
    iprop(slotSt (x := x) (o := o) X G s hs q m si so t ∗ (held d am av ∗ held d bm bv) ∗ debt d)
      ⊢ twp d (if h : now = 1#1 then slot x o am bm m hm si so offO (hO h) more offI (hI h) else pure ⟨⟩)
        (fun _ => iprop(slotSt (x := x) (o := o) X G s hs q m si so (t + 1) ∗ (held d am av ∗ held d bm bv) ∗ debt d)) := by
  split
  · rename_i h
    exact slot_wp X G av bv s hs q m si so hG t (hnow.mp h) eO hmore eI
  · rename_i h
    have ht : ¬ 4 * t + s < 25 := mt hnow.mpr h
    refine tpure (Entails.of_eq ?_)
    rw [show slotSt (x := x) (o := o) X G s hs q m si so t = _ from dif_neg ht,
      show slotSt (x := x) (o := o) X G s hs q m si so (t + 1) = _ from dif_neg (by omega)]

end Slot

end Cert.ManualIdeal.Turns

end
-- ==== Proof.Ideal.Whole.lean ====
/- The third call's whole body: the two rows fetched, the ring run, its last copies awaited. -/
module

public import proofs.«01_k».proof.Proof.Ideal.Turns

@[expose] public section

set_option maxRecDepth 16384

noncomputable section

namespace Cert.ManualIdeal.Turns

open Cert.ManualIdeal Cert.ManualIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-! ## The programs of a turn -/

section Body

variable [FloatOps F] {d : Dev nD}

/-! ## Two copies on one cell -/

theorem send_both {sp sp' : Space} {s : Shape} {e : EltTy} {src : Memref sig .tc sp s e} {dst : Memref sig .tc sp' s e} {sem : DmaSem sig}
    {h1 : src.view.WordExact} {h2 : dst.view.WordExact} {h3 : DmaTarget.Typed (nD := nD) (p := (th d).2) sp (.dma sem) (.here dst)}
    {q : PosShare TreeShare} {fs : Buf (Elt F) (src.view.loc (th d))} {fd : Buf (Elt F) (dst.view.loc (th d))} {D : Fin 2 → sProp 𝕄}
    (N : ℕ) (hN : dst.view.dmaCredit = N) (j : ℕ) (hj : j < 2)
    (hD : iprop((dst.view.loc (th d) ↦[dst.view.set]{fullShare} (dst.view.write (Elt F) fd (src.view.read (Elt F) fs) Finset.univ))
      ∗ (src.view.loc (th d) ↦[src.view.set]{q} fs)) ⊢ D ⟨j, hj⟩) :
    iprop((src.view.loc (th d) ↦[src.view.set]{q} fs) ∗ (dst.view.loc (th d) ↦[dst.view.set]{fullShare} fd)
        ∗ Transfers.Batch countersEmb (th d) (.dma sem) (default : Unit) N D j 0)
      ⊢ twp d (Prog.lift (.enqueueDma src (.here dst) (.dma sem) h1 h2 h3))
        (fun _ => Transfers.Batch countersEmb (th d) (.dma sem) (default : Unit) N D (j + 1) 0) := by
  iintro H
  iapply (Transfers.wp_dmaBatch countersEmb 𝒱₀ (th d) none (src := src) (dst := dst) (via := .same) (sm := .dma sem) (q := q) (fs := fs)
    (Sd := dst.view.set) (fd := fd) (D := D) (j := j) (u := 0) (default : Unit) N hN (Finset.Subset.refl _) hj (Nat.zero_le _) hD) $$ H
  iintro H
  rw [wp_ret]
  imodintro
  iexact H

theorem skip_both {sp sp' : Space} {s s' : Shape} {e e' : EltTy} {src : Memref sig .tc sp' s' e'} {dst : Memref sig .tc sp s e} {sem : DmaSem sig}
    {h1 : src.view.WordExact} {h2 : dst.view.WordExact} {N : ℕ} (hN : dst.view.dmaCredit = N) (hp : 0 < N) {D : Fin 2 → sProp 𝕄} :
    iprop(Transfers.Batch countersEmb (th d) (.dma sem) (default : Unit) N D 2 0 ∗ debt d)
      ⊢ twp d (Prog.lift (.waitDma2 sem src dst h1 h2))
        (fun _ => iprop(Transfers.Batch countersEmb (th d) (.dma sem) (default : Unit) N D 2 (0 + N) ∗ debt d)) := by
  unfold debt
  iintro ⟨HB, %W, HO⟩
  iapply (Transfers.wp_waitBatch countersEmb 𝒱₀ (th d) none (srcw := src) (dstw := dst) (default : Unit) hN (D := D) (u := 0) (by omega)) $$ [HB HO]
  · isplitl [HB] <;> iassumption
  iintro ⟨HB, HO⟩
  rw [wp_ret]
  imodintro
  isplitl [HB]; · iexact HB
  iexists _
  iexact HO

theorem last_both {sp sp' : Space} {s s' : Shape} {e e' : EltTy} {src : Memref sig .tc sp' s' e'} {dst : Memref sig .tc sp s e} {sem : DmaSem sig}
    {h1 : src.view.WordExact} {h2 : dst.view.WordExact} {N : ℕ} (hN : dst.view.dmaCredit = N) (hp : 0 < N) {D : Fin 2 → sProp 𝕄} :
    iprop(Transfers.Batch countersEmb (th d) (.dma sem) (default : Unit) N D 2 (0 + N) ∗ debt d)
      ⊢ twp d (Prog.lift (.waitDma2 sem src dst h1 h2))
        (fun _ => iprop((D 0 ∗ D 1) ∗ quiet d sem ∗ debt d)) := by
  unfold debt
  iintro ⟨HB, %W, HO⟩
  iapply (Transfers.wp_waitBatchLast countersEmb 𝒱₀ (th d) none (srcw := src) (dstw := dst) (default : Unit) hN hp (D := D) (u := 0 + N) (by omega)) $$ [HB HO]
  · isplitl [HB] <;> iassumption
  rw [BI.bigSep_fin_two]
  iintro ⟨HD, Hv, HO⟩
  rw [wp_ret]
  imodintro
  isplitl [HD]; · iexact HD
  isplitl [Hv]; · iexact Hv
  iexists _
  iexact HO

/-- A row as a copy leaves it. -/
theorem held_written {sp : Space} {s : Shape} {e : EltTy} {m : Memref sig .tc sp s e} (f : Buf (Elt F) (m.view.loc (th d))) (g : s.Idx → Elt F e) :
    (m.view.loc (th d) ↦[m.view.set]{fullShare} (m.view.write (Elt F) f g Finset.univ)) ⊢ held d m g := by
  unfold held
  iintro H
  iexists _
  isplitr
  rotate_left
  · iexact H
  · ipureintro; exact View.read_write_univ (v := m.view) f _

/-- The two rows fetched into their buffers, both on one cell. -/
theorem both_wp {α : Type} {Q : α → sProp 𝕄} {arg1 arg2 : Memref sig .tc .hbm S1x512 .f32} {am bm : Memref sig .tc .vmem S1x512 .f32}
    {harg1 : arg1.IsWhole} {harg2 : arg2.IsWhole} {ham : am.IsWhole} {hbm : bm.IsWhole} {sm : DmaSems sig S_}
    (hN : bm.view.dmaCredit = am.view.dmaCredit) {A : Buf (Elt F) (arg1.view.loc (th d))} {B : Buf (Elt F) (arg2.view.loc (th d))} {R : sProp 𝕄}
    {k : CoreProg F α}
    (hk : iprop((held d am (arg1.view.read (Elt F) A) ∗ held d bm (arg2.view.read (Elt F) B)) ∗ quiet d sm.sem ∗ debt d
      ∗ (arg1.view.loc (th d) ↦[arg1.view.set]{fullShare} A) ∗ (arg2.view.loc (th d) ↦[arg2.view.set]{fullShare} B) ∗ R) ⊢ twp d k Q) :
    iprop(((∃ g, held d am g) ∗ (∃ g, held d bm g)) ∗ quiet d sm.sem ∗ debt d
      ∗ (arg1.view.loc (th d) ↦[arg1.view.set]{fullShare} A) ∗ (arg2.view.loc (th d) ↦[arg2.view.set]{fullShare} B) ∗ R) ⊢ twp d
      (Prog.lift (.enqueueDma arg1 (.here am) (.dma sm.sem) harg1.wordExact ham.wordExact ⟨Or.inl rfl, trivial⟩) >>= fun _ =>
      Prog.lift (.enqueueDma arg2 (.here bm) (.dma sm.sem) harg2.wordExact hbm.wordExact ⟨Or.inl rfl, trivial⟩) >>= fun _ =>
      Prog.lift (.waitDma2 sm.sem arg1 am harg1.wordExact ham.wordExact) >>= fun _ =>
      Prog.lift (.waitDma2 sm.sem arg2 bm harg2.wordExact hbm.wordExact) >>= fun _ => k) Q := by
  have hp : 0 < am.view.dmaCredit := View.dmaCredit_pos _ (by decide)
  unfold held
  iintro ⟨⟨⟨%g, %f, -, Ha⟩, ⟨%g', %f', -, Hb⟩⟩, Hv, Hd, HA, HB, HR⟩
  let D : Fin 2 → sProp 𝕄 := fun
    | 0 => iprop((am.view.loc (th d) ↦[am.view.set]{fullShare} (am.view.write (Elt F) f (arg1.view.read (Elt F) A) Finset.univ))
      ∗ (arg1.view.loc (th d) ↦[arg1.view.set]{fullShare} A))
    | 1 => iprop((bm.view.loc (th d) ↦[bm.view.set]{fullShare} (bm.view.write (Elt F) f' (arg2.view.read (Elt F) B) Finset.univ))
      ∗ (arg2.view.loc (th d) ↦[arg2.view.set]{fullShare} B))
  haveI : ∀ t, Storable (upEmb : UEmb _ 𝕄) (D t) := fun t => by
    match t with
    | 0 => unfold D; infer_instance
    | 1 => unfold D; infer_instance
  imod (Transfers.batch_alloc' countersEmb (c := th d) (sm := .dma sm.sem) (default : Unit) am.view.dmaCredit D (E := Set.univ)) $$ Hv with HBt
  have run : iprop(((arg1.view.loc (th d) ↦[arg1.view.set]{fullShare} A) ∗ (am.view.loc (th d) ↦[am.view.set]{fullShare} f)
        ∗ Transfers.Batch countersEmb (th d) (.dma sm.sem) (default : Unit) am.view.dmaCredit D 0 0)
      ∗ ((arg2.view.loc (th d) ↦[arg2.view.set]{fullShare} B) ∗ (bm.view.loc (th d) ↦[bm.view.set]{fullShare} f') ∗ debt d ∗ R)) ⊢ twp d
      (Prog.lift (.enqueueDma arg1 (.here am) (.dma sm.sem) harg1.wordExact ham.wordExact ⟨Or.inl rfl, trivial⟩) >>= fun _ =>
      Prog.lift (.enqueueDma arg2 (.here bm) (.dma sm.sem) harg2.wordExact hbm.wordExact ⟨Or.inl rfl, trivial⟩) >>= fun _ =>
      Prog.lift (.waitDma2 sm.sem arg1 am harg1.wordExact ham.wordExact) >>= fun _ =>
      Prog.lift (.waitDma2 sm.sem arg2 bm harg2.wordExact hbm.wordExact) >>= fun _ => k) Q := by
    refine tstep (send_both (D := D) am.view.dmaCredit rfl 0 (by decide) .rfl) .rfl fun _ => ?_
    refine tstep (send_both (q := fullShare) (fs := B) (fd := f') (D := D) am.view.dmaCredit hN 1 (by decide) .rfl)
      (R := iprop(debt d ∗ R)) ?_ fun _ => ?_
    · iintro ⟨HBt, HB, Hb, Hd, HR⟩
      iframe
    refine tstep (skip_both (D := D) rfl hp) (R := R) ?_ fun _ => ?_
    · iintro ⟨HBt, Hd, HR⟩
      iframe
    refine tstep (last_both (D := D) hN hp) .rfl fun _ => .trans ?_ hk
    iintro ⟨⟨⟨⟨Ha, HA⟩, ⟨Hb, HB⟩⟩, Hv, Hd⟩, HR⟩
    isplitl [Ha Hb]
    · isplitl [Ha]
      · iapply (held_written f (arg1.view.read (Elt F) A)) $$ Ha
      · iapply (held_written f' (arg2.view.read (Elt F) B)) $$ Hb
    iframe
  iapply run $$ [Ha Hb HBt Hd HA HB HR]
  iframe

/-! ## The ring from its first copies to its last waits -/

section Ring

variable {x o : Memref sig .tc .hbm S100000x512 .f32} (X : Buf (Elt F) (x.view.loc (th d))) (G : Buf (Elt F) (o.view.loc (th d)))

/-- A slot at rest, its chunks of the turns below `t` written. -/
def idle (s : Nat) (q : PosShare TreeShare) (m : Memref sig .tc .vmem S4000x512 .f32) (si so : DmaSems sig S_) (t : Nat) : sProp 𝕄 :=
  iprop(quiet d si.sem ∗ quiet d so.sem ∗ (∃ g, held d m g) ∗ (x.view.loc (th d) ↦{q} X) ∗ bigSep (mine s) (cell (o := o) G t))

theorem first_wp (s : Nat) (hs : s < 4) (q : PosShare TreeShare) (m : Memref sig .tc .vmem S4000x512 .f32) (hm : m.IsWhole) (si so : DmaSems sig S_)
    {off : Fin 2 → Nat} {h : ∀ a, off a + S4000x512.size a ≤ S100000x512.size a} (e : off = ![4000 * (4 * 0 + s), 0]) :
    idle (x := x) (o := o) X G s q m si so 0
      ⊢ twp d (Prog.lift (.enqueueDma (chunk x off h) (.here m) (.dma si.sem) (View.wordExact_bits rfl) hm.wordExact ⟨Or.inl rfl, trivial⟩))
        (fun _ => slotSt (x := x) (o := o) X G s hs q m si so 0) := by
  subst e
  rw [show slotSt (x := x) (o := o) X G s hs q m si so 0 = _ from dif_pos (by omega)]
  unfold idle
  iintro ⟨Hsi, Hso, ⟨%g, Hm⟩, Hx, Hc⟩
  iapply (show iprop(((x.view.loc (th d) ↦{q} X) ∗ held d m g ∗ quiet d si.sem) ∗ (quiet d so.sem ∗ bigSep (mine s) (cell (o := o) G 0))) ⊢ _ from
    (tframe (tdma_sub (s := S4000x512) (x := x) (r := Rect.unit (s := S100000x512) ![4000 * (4 * 0 + s), 0] S4000x512.size h) (hr := fun _ => rfl)
        (dst := m) (X := X) (q := q) (g := g) numel_pos))) $$ [Hx Hm Hsi Hso Hc]
  iframe

theorem cells_end (s : Nat) (hs : s < 4) :
    (bigSep (mine s) (cell (o := o) G (lastTurn s + 1)) : sProp 𝕄) = bigSep (mine s) (cell (o := o) G 7) := by
  refine bigSep_congr fun k hk => ?_
  have hks := mem_mine.mp hk
  have hlt := k.isLt
  unfold cell lastTurn
  rw [if_pos (by omega), if_pos (by omega)]

theorem last_wp (s : Nat) (hs : s < 4) (q : PosShare TreeShare) (m : Memref sig .tc .vmem S4000x512 .f32) (hm : m.IsWhole) (si so : DmaSems sig S_) :
    iprop(slotSt (x := x) (o := o) X G s hs q m si so 7 ∗ debt d)
      ⊢ twp d (Prog.lift (.waitDma2 so.sem m (chunk o ![0, 0] inb_S100000x512_S4000x512_0_0) hm.wordExact (View.wordExact_bits rfl)))
        (fun _ => iprop(idle (x := x) (o := o) X G s q m si so 7 ∗ debt d)) := by
  unfold idle
  rw [show slotSt (x := x) (o := o) X G s hs q m si so 7 = _ from dif_neg (by omega), ← cells_end G s hs,
    ← cells_put G s hs (lastTurn s) (lastTurn_lt s hs)]
  refine (show _ ⊢ iprop((flight d so.sem (chunk o ![0, 0] inb_S100000x512_S4000x512_0_0).view.dmaCredit
        iprop(outAt (d := d) (o := o) ![4000 * (4 * lastTurn s + s), 0] (chunk_inb _ (lastTurn_lt s hs)) G ∗ ∃ g, held d m g) ∗ debt d)
      ∗ (quiet d si.sem ∗ (x.view.loc (th d) ↦{q} X) ∗ bigSep ((mine s).erase ⟨4 * lastTurn s + s, lastTurn_lt s hs⟩) (cell (o := o) G (lastTurn s)))) from ?_).trans
    (tmono (tframe (twait rfl)) fun _ => ?_)
  · iintro ⟨⟨Hf, Hsi, Hx, Hc⟩, Hd⟩
    iframe
  · iintro ⟨⟨⟨Ho, Hm⟩, Hso, Hd⟩, Hsi, Hx, Hc⟩
    iframe

end Ring

section Run

variable {arg0 arg3 : Memref sig .tc .hbm S100000x512 .f32} {arg4 : Memref sig .tc .vmem S4000x512 .f32} {harg4 : arg4.IsWhole}
  {arg5 : Memref sig .tc .vmem S4000x512 .f32} {harg5 : arg5.IsWhole} {arg6 : Memref sig .tc .vmem S4000x512 .f32} {harg6 : arg6.IsWhole}
  {arg7 : Memref sig .tc .vmem S4000x512 .f32} {harg7 : arg7.IsWhole} {arg8 arg9 : Memref sig .tc .vmem S1x512 .f32}
  {arg10 arg11 arg12 arg13 arg14 arg15 arg16 arg17 : DmaSems sig S_}
  (X : Buf (Elt F) (arg0.view.loc (th d))) (G : Buf (Elt F) (arg3.view.loc (th d))) (av bv : S1x512.Idx → Elt F .f32) (q : Fin 4 → PosShare TreeShare)

/-- The ring before turn `t`. -/
def ringSt (arg4 arg5 arg6 arg7 : Memref sig .tc .vmem S4000x512 .f32) (arg8 arg9 : Memref sig .tc .vmem S1x512 .f32)
    (arg10 arg11 arg12 arg13 arg14 arg15 arg16 arg17 : DmaSems sig S_) (t : Nat) : sProp 𝕄 :=
  iprop(slotSt (x := arg0) (o := arg3) X G 0 (by decide) (q 0) arg4 arg10 arg14 t
    ∗ slotSt (x := arg0) (o := arg3) X G 1 (by decide) (q 1) arg5 arg11 arg15 t
    ∗ slotSt (x := arg0) (o := arg3) X G 2 (by decide) (q 2) arg6 arg12 arg16 t
    ∗ slotSt (x := arg0) (o := arg3) X G 3 (by decide) (q 3) arg7 arg13 arg17 t
    ∗ (held d arg8 av ∗ held d arg9 bv) ∗ debt d)

set_option maxHeartbeats 1000000 in
theorem turn_wp (hG : Scaled (x := arg0) (o := arg3) X G av bv) (t : Fin k0_t1_loop.trips) :
    ringSt X G av bv q arg4 arg5 arg6 arg7 arg8 arg9 arg10 arg11 arg12 arg13 arg14 arg15 arg16 arg17 t.val
      ⊢ twp d (turn arg0 arg3 arg4 harg4 arg5 harg5 arg6 harg6 arg7 harg7 arg8 arg9 arg10 arg11 arg12 arg13 arg14 arg15 arg16 arg17 t)
        (fun _ => ringSt X G av bv q arg4 arg5 arg6 arg7 arg8 arg9 arg10 arg11 arg12 arg13 arg14 arg15 arg16 arg17 (t.val + 1)) := by
  unfold turn ringSt
  refine tstep (slot_if_wp X G av bv 0 (by decide) (q 0) arg4 arg10 arg14 hG t.val (cond1_iff t) (off1_eq t) (cond2_iff t) (off2_eq t))
    (R := iprop(slotSt (x := arg0) (o := arg3) X G 1 (by decide) (q 1) arg5 arg11 arg15 t.val
      ∗ slotSt (x := arg0) (o := arg3) X G 2 (by decide) (q 2) arg6 arg12 arg16 t.val
      ∗ slotSt (x := arg0) (o := arg3) X G 3 (by decide) (q 3) arg7 arg13 arg17 t.val)) ?_ fun _ => ?_
  · iintro ⟨H0, H1, H2, H3, Hab, Hd⟩
    iframe
  refine tstep (slot_if_wp X G av bv 1 (by decide) (q 1) arg5 arg11 arg15 hG t.val (cond3_iff t) (off3_eq t) (cond4_iff t) (off4_eq t))
    (R := iprop(slotSt (x := arg0) (o := arg3) X G 0 (by decide) (q 0) arg4 arg10 arg14 (t.val + 1)
      ∗ slotSt (x := arg0) (o := arg3) X G 2 (by decide) (q 2) arg6 arg12 arg16 t.val
      ∗ slotSt (x := arg0) (o := arg3) X G 3 (by decide) (q 3) arg7 arg13 arg17 t.val)) ?_ fun _ => ?_
  · iintro ⟨⟨H0, Hab, Hd⟩, H1, H2, H3⟩
    iframe
  refine tstep (slot_if_wp X G av bv 2 (by decide) (q 2) arg6 arg12 arg16 hG t.val (cond5_iff t) (off5_eq t) (cond6_iff t) (off6_eq t))
    (R := iprop(slotSt (x := arg0) (o := arg3) X G 0 (by decide) (q 0) arg4 arg10 arg14 (t.val + 1)
      ∗ slotSt (x := arg0) (o := arg3) X G 1 (by decide) (q 1) arg5 arg11 arg15 (t.val + 1)
      ∗ slotSt (x := arg0) (o := arg3) X G 3 (by decide) (q 3) arg7 arg13 arg17 t.val)) ?_ fun _ => ?_
  · iintro ⟨⟨H1, Hab, Hd⟩, H0, H2, H3⟩
    iframe
  have h3 := slot_if_wp X G av bv 3 (by decide) (q 3) arg7 arg13 arg17 (am := arg8) (bm := arg9) hG (hm := harg7) t.val (cond7_iff t) (hO := k0_off7_inb t)
    (off7_eq t) (cond8_iff t) (hI := k0_off8_inb t) (off8_eq t)
  refine (show _ ⊢ iprop((slotSt (x := arg0) (o := arg3) X G 3 (by decide) (q 3) arg7 arg13 arg17 t.val ∗ (held d arg8 av ∗ held d arg9 bv) ∗ debt d)
      ∗ (slotSt (x := arg0) (o := arg3) X G 0 (by decide) (q 0) arg4 arg10 arg14 (t.val + 1)
        ∗ slotSt (x := arg0) (o := arg3) X G 1 (by decide) (q 1) arg5 arg11 arg15 (t.val + 1)
        ∗ slotSt (x := arg0) (o := arg3) X G 2 (by decide) (q 2) arg6 arg12 arg16 (t.val + 1))) from ?_).trans
    (tmono (tframe h3) fun _ => ?_)
  · iintro ⟨⟨H2, Hab, Hd⟩, H0, H1, H3⟩
    iframe
  · iintro ⟨⟨H3, Hab, Hd⟩, H0, H1, H2⟩
    iframe

theorem loop_wp (hG : Scaled (x := arg0) (o := arg3) X G av bv) :
    ringSt X G av bv q arg4 arg5 arg6 arg7 arg8 arg9 arg10 arg11 arg12 arg13 arg14 arg15 arg16 arg17 0
      ⊢ twp d (Scf.Loop.for k0_t1_loop k0_t1_ok PUnit.unit fun t _ =>
          turn arg0 arg3 arg4 harg4 arg5 harg5 arg6 harg6 arg7 harg7 arg8 arg9 arg10 arg11 arg12 arg13 arg14 arg15 arg16 arg17 t)
        (fun _ => ringSt X G av bv q arg4 arg5 arg6 arg7 arg8 arg9 arg10 arg11 arg12 arg13 arg14 arg15 arg16 arg17 7) := by
  have hl := Scf.wp_for frame (wpE (defs₀ (F := F)) 𝒱₀ (th d) none) Set.univ k0_t1_loop.lb k0_t1_loop.ub k0_t1_loop.st k0_t1_ok PUnit.unit
    (fun t _ => turn arg0 arg3 arg4 harg4 arg5 harg5 arg6 harg6 arg7 harg7 arg8 arg9 arg10 arg11 arg12 arg13 arg14 arg15 arg16 arg17 t)
    (fun n _ => ringSt X G av bv q arg4 arg5 arg6 arg7 arg8 arg9 arg10 arg11 arg12 arg13 arg14 arg15 arg16 arg17 n)
    (fun t _ => turn_wp X G av bv q hG t)
    (Q := fun _ => ringSt X G av bv q arg4 arg5 arg6 arg7 arg8 arg9 arg10 arg11 arg12 arg13 arg14 arg15 arg16 arg17 7)
  refine (show ringSt X G av bv q arg4 arg5 arg6 arg7 arg8 arg9 arg10 arg11 arg12 arg13 arg14 arg15 arg16 arg17 0 ⊢ _ from ?_).trans hl
  have h7 : Scf.trips k0_t1_loop.lb k0_t1_loop.ub k0_t1_loop.st = 7 := trips_eq
  iintro H
  isplitl [H]; · iexact H
  iintro %_ H
  rw [h7]
  iexact H

/-- The core's buffers, its cells and the two arrays the ring works on, the chunks of the turns below `t` written. -/
def rest (arg4 arg5 arg6 arg7 : Memref sig .tc .vmem S4000x512 .f32) (arg8 arg9 : Memref sig .tc .vmem S1x512 .f32)
    (arg10 arg11 arg12 arg13 arg14 arg15 arg16 arg17 : DmaSems sig S_) (t : Nat) : sProp 𝕄 :=
  iprop(((∃ g, held d arg8 g) ∗ (∃ g, held d arg9 g))
    ∗ idle (x := arg0) (o := arg3) X G 0 (q 0) arg4 arg10 arg14 t ∗ idle (x := arg0) (o := arg3) X G 1 (q 1) arg5 arg11 arg15 t
    ∗ idle (x := arg0) (o := arg3) X G 2 (q 2) arg6 arg12 arg16 t ∗ idle (x := arg0) (o := arg3) X G 3 (q 3) arg7 arg13 arg17 t)

theorem body_wp {harg0 : arg0.IsWhole} {harg3 : arg3.IsWhole} {harg8 : arg8.IsWhole} {harg9 : arg9.IsWhole}
    {arg1 arg2 : Memref sig .tc .hbm S1x512 .f32} {harg1 : arg1.IsWhole} {harg2 : arg2.IsWhole}
    {A : Buf (Elt F) (arg1.view.loc (th d))} {B : Buf (Elt F) (arg2.view.loc (th d))} (hA : arg1.view.read (Elt F) A = av) (hB : arg2.view.read (Elt F) B = bv)
    (hN : arg9.view.dmaCredit = arg8.view.dmaCredit) (hG : Scaled (x := arg0) (o := arg3) X G av bv) :
    iprop(rest (arg0 := arg0) (arg3 := arg3) X G q arg4 arg5 arg6 arg7 arg8 arg9 arg10 arg11 arg12 arg13 arg14 arg15 arg16 arg17 0 ∗ debt d
        ∗ (arg1.view.loc (th d) ↦[arg1.view.set]{fullShare} A) ∗ (arg2.view.loc (th d) ↦[arg2.view.set]{fullShare} B))
      ⊢ twp d (cc0_body_skel arg0 harg0 arg1 harg1 arg2 harg2 arg3 harg3 arg4 harg4 arg5 harg5 arg6 harg6 arg7 harg7 arg8 harg8 arg9 harg9
          arg10 arg11 arg12 arg13 arg14 arg15 arg16 arg17)
        (fun _ => iprop(rest (arg0 := arg0) (arg3 := arg3) X G q arg4 arg5 arg6 arg7 arg8 arg9 arg10 arg11 arg12 arg13 arg14 arg15 arg16 arg17 7 ∗ debt d
          ∗ (arg1.view.loc (th d) ↦[arg1.view.set]{fullShare} A) ∗ (arg2.view.loc (th d) ↦[arg2.view.set]{fullShare} B))) := by
  subst hA hB
  have hl : (k0_t1_body (F := F) arg0 harg0 arg1 harg1 arg2 harg2 arg3 harg3 arg4 harg4 arg5 harg5 arg6 harg6 arg7 harg7 arg8 harg8 arg9 harg9
      arg10 arg11 arg12 arg13 arg14 arg15 arg16 arg17)
      = fun t _ => turn arg0 arg3 arg4 harg4 arg5 harg5 arg6 harg6 arg7 harg7 arg8 arg9 arg10 arg11 arg12 arg13 arg14 arg15 arg16 arg17 t :=
    funext fun t => funext fun _ => turn_eq arg0 arg3 arg4 harg4 arg5 harg5 arg6 harg6 arg7 harg7 arg8 arg9 arg10 arg11 arg12 arg13 arg14 arg15 arg16 arg17
      arg1 harg1 arg2 harg2 harg0 harg3 harg8 harg9 t
  unfold cc0_body_skel
  rw [hl]
  unfold rest
  let rows : sProp 𝕄 := iprop((arg1.view.loc (th d) ↦[arg1.view.set]{fullShare} A) ∗ (arg2.view.loc (th d) ↦[arg2.view.set]{fullShare} B))
  let ab : sProp 𝕄 := iprop(held d arg8 (arg1.view.read (Elt F) A) ∗ held d arg9 (arg2.view.read (Elt F) B))
  refine (show _ ⊢ iprop(((∃ g, held d arg8 g) ∗ (∃ g, held d arg9 g)) ∗ quiet d arg10.sem ∗ debt d
      ∗ (arg1.view.loc (th d) ↦[arg1.view.set]{fullShare} A) ∗ (arg2.view.loc (th d) ↦[arg2.view.set]{fullShare} B)
      ∗ ((quiet d arg14.sem ∗ (∃ g, held d arg4 g) ∗ (arg0.view.loc (th d) ↦{q 0} X) ∗ bigSep (mine 0) (cell (o := arg3) G 0))
        ∗ idle (x := arg0) (o := arg3) X G 1 (q 1) arg5 arg11 arg15 0
        ∗ idle (x := arg0) (o := arg3) X G 2 (q 2) arg6 arg12 arg16 0 ∗ idle (x := arg0) (o := arg3) X G 3 (q 3) arg7 arg13 arg17 0)) from ?_).trans
    (both_wp (harg1 := harg1) (harg2 := harg2) (ham := harg8) (hbm := harg9) hN ?_)
  · conv_lhs => unfold idle
    unfold idle
    iintro ⟨⟨Hab, ⟨Hsi, H0⟩, H1, H2, H3⟩, Hd, HA, HB⟩
    iframe
  refine tstep (first_wp X G 0 (by decide) (q 0) arg4 harg4 arg10 arg14 rfl)
    (R := iprop(idle (x := arg0) (o := arg3) X G 1 (q 1) arg5 arg11 arg15 0 ∗ idle (x := arg0) (o := arg3) X G 2 (q 2) arg6 arg12 arg16 0
      ∗ idle (x := arg0) (o := arg3) X G 3 (q 3) arg7 arg13 arg17 0 ∗ ab ∗ debt d ∗ rows)) ?_ fun _ => ?_
  · iintro ⟨Hab, Hv, Hd, HA, HB, ⟨Hso, Hm, Hx, Hc⟩, H1, H2, H3⟩
    isplitl [Hv Hso Hm Hx Hc]
    · unfold idle
      iframe
    isplitl [H1]; · iexact H1
    isplitl [H2]; · iexact H2
    isplitl [H3]; · iexact H3
    isplitl [Hab]; · iexact Hab
    isplitl [Hd]; · iexact Hd
    isplitl [HA] <;> iassumption
  refine tstep (first_wp X G 1 (by decide) (q 1) arg5 harg5 arg11 arg15 rfl)
    (R := iprop(slotSt (x := arg0) (o := arg3) X G 0 (by decide) (q 0) arg4 arg10 arg14 0 ∗ idle (x := arg0) (o := arg3) X G 2 (q 2) arg6 arg12 arg16 0
      ∗ idle (x := arg0) (o := arg3) X G 3 (q 3) arg7 arg13 arg17 0 ∗ ab ∗ debt d ∗ rows)) ?_ fun _ => ?_
  · iintro ⟨H0, H1, HR⟩
    iframe
  refine tstep (first_wp X G 2 (by decide) (q 2) arg6 harg6 arg12 arg16 rfl)
    (R := iprop(slotSt (x := arg0) (o := arg3) X G 1 (by decide) (q 1) arg5 arg11 arg15 0 ∗ slotSt (x := arg0) (o := arg3) X G 0 (by decide) (q 0) arg4 arg10 arg14 0
      ∗ idle (x := arg0) (o := arg3) X G 3 (q 3) arg7 arg13 arg17 0 ∗ ab ∗ debt d ∗ rows)) ?_ fun _ => ?_
  · iintro ⟨H1, H0, H2, HR⟩
    iframe
  refine tstep (first_wp X G 3 (by decide) (q 3) arg7 harg7 arg13 arg17 rfl)
    (R := iprop(slotSt (x := arg0) (o := arg3) X G 2 (by decide) (q 2) arg6 arg12 arg16 0 ∗ slotSt (x := arg0) (o := arg3) X G 1 (by decide) (q 1) arg5 arg11 arg15 0
      ∗ slotSt (x := arg0) (o := arg3) X G 0 (by decide) (q 0) arg4 arg10 arg14 0 ∗ ab ∗ debt d ∗ rows)) ?_ fun _ => ?_
  · iintro ⟨H2, H1, H0, H3, HR⟩
    iframe
  refine tstep (loop_wp X G (arg1.view.read (Elt F) A) (arg2.view.read (Elt F) B) q hG) (R := rows) ?_ fun _ => ?_
  · unfold ringSt
    iintro ⟨H3, H2, H1, H0, Hab, Hd, HR⟩
    iframe
  unfold ringSt
  refine tstep (last_wp X G 0 (by decide) (q 0) arg4 harg4 arg10 arg14)
    (R := iprop(slotSt (x := arg0) (o := arg3) X G 1 (by decide) (q 1) arg5 arg11 arg15 7 ∗ slotSt (x := arg0) (o := arg3) X G 2 (by decide) (q 2) arg6 arg12 arg16 7
      ∗ slotSt (x := arg0) (o := arg3) X G 3 (by decide) (q 3) arg7 arg13 arg17 7 ∗ ab ∗ rows)) ?_ fun _ => ?_
  · iintro ⟨⟨H0, H1, H2, H3, Hab, Hd⟩, HR⟩
    iframe
  refine tstep (last_wp X G 1 (by decide) (q 1) arg5 harg5 arg11 arg15)
    (R := iprop(idle (x := arg0) (o := arg3) X G 0 (q 0) arg4 arg10 arg14 7 ∗ slotSt (x := arg0) (o := arg3) X G 2 (by decide) (q 2) arg6 arg12 arg16 7
      ∗ slotSt (x := arg0) (o := arg3) X G 3 (by decide) (q 3) arg7 arg13 arg17 7 ∗ ab ∗ rows)) ?_ fun _ => ?_
  · iintro ⟨⟨H0, Hd⟩, H1, H2, H3, HR⟩
    iframe
  refine tstep (last_wp X G 2 (by decide) (q 2) arg6 harg6 arg12 arg16)
    (R := iprop(idle (x := arg0) (o := arg3) X G 0 (q 0) arg4 arg10 arg14 7 ∗ idle (x := arg0) (o := arg3) X G 1 (q 1) arg5 arg11 arg15 7
      ∗ slotSt (x := arg0) (o := arg3) X G 3 (by decide) (q 3) arg7 arg13 arg17 7 ∗ ab ∗ rows)) ?_ fun _ => ?_
  · iintro ⟨⟨H1, Hd⟩, H0, H2, H3, HR⟩
    iframe
  refine tstep (last_wp X G 3 (by decide) (q 3) arg7 harg7 arg13 arg17)
    (R := iprop(idle (x := arg0) (o := arg3) X G 0 (q 0) arg4 arg10 arg14 7 ∗ idle (x := arg0) (o := arg3) X G 1 (q 1) arg5 arg11 arg15 7
      ∗ idle (x := arg0) (o := arg3) X G 2 (q 2) arg6 arg12 arg16 7 ∗ ab ∗ rows)) ?_ fun _ => ?_
  · iintro ⟨⟨H2, Hd⟩, H0, H1, H3, HR⟩
    iframe
  refine tpure ?_
  iintro ⟨⟨H3, Hd⟩, H0, H1, H2, ⟨H8, H9⟩, HR⟩
  isplitl [H0 H1 H2 H3 H8 H9]
  · isplitl [H8 H9]
    · isplitl [H8]
      · iexists _
        iexact H8
      · iexists _
        iexact H9
    iframe
  isplitl [Hd] <;> iassumption

end Run

end Body

end Cert.ManualIdeal.Turns

end
-- ==== Proof.Ideal.Chunks.lean ====
/- The third call's run: the arrays dealt to its ring, the launch, and what the host computes before it. -/
module

public import proofs.«01_k».proof.Proof.Ideal.Whole

@[expose] public section

set_option maxRecDepth 16384

noncomputable section

namespace Cert.ManualIdeal.Turns

open Cert.ManualIdeal Cert.ManualIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-! ## The programs of a turn -/

/-! ## What the host computes -/

section Values

variable [FloatOps F]

/-- The row the descriptors are multiplied by: `1 / (std · 22.6274166)`. -/
def scaleRow (s : FVec F S1x512 .f32) : FVec F S1x512 .f32 :=
  Host.divf (broadcastInDim S1x512 ![] bcast_S_S1x512 (constant S_ .f32 0x3F800000#32))
    (mulf s (broadcastInDim S1x512 ![] bcast_S_S1x512 (constant S_ .f32 0x41B504F3#32)))

/-- The row added: `(−mean)` times the first. -/
def shiftRow (μ s : FVec F S1x512 .f32) : FVec F S1x512 .f32 := mulf (Host.negf μ) (scaleRow s)

/-- An array with each column scaled and shifted by its pair. -/
def shifted (X : S100000x512.Idx → Elt F .f32) (av bv : S1x512.Idx → Elt F .f32) : S100000x512.Idx → Elt F .f32 := fun j => affine av bv (j 1) (X j)

/-- The program's result, of its three arguments. -/
def outOf (x : FVec F S100000x512 .f32) (μ s : FVec F S1x512 .f32) : FVec F S100000x512 .f32 := shifted x (scaleRow s) (shiftRow μ s)

end Values

abbrev xM : Memref sig .tc .hbm S100000x512 .f32 := Memref.whole main_arg0
abbrev aM : Memref sig .tc .hbm S1x512 .f32 := Memref.whole main_v3
abbrev bM : Memref sig .tc .hbm S1x512 .f32 := Memref.whole main_v5
abbrev oM : Memref sig .tc .hbm S100000x512 .f32 := Memref.whole main_v6

/-! ## The arrays in the ring's hands -/

section Deal

variable [FloatOps F] {d : Dev nD}

theorem shifted_scaled (X : Buf (Elt F) ((th d).loc main_arg0)) (av bv : S1x512.Idx → Elt F .f32) :
    Scaled (d := d) (x := xM) (o := oM) X (shifted X av bv) av bv := by
  intro off h p
  show affine av bv ((Rect.unit (s := S100000x512) off S4000x512.size h).emb p 1) _ = affine av bv (p 1) _
  congr 1
  refine Fin.ext ?_
  show off 1 + 1 * (p 1).val = (p 1).val
  have h1 : off 1 + 512 ≤ 512 := h 1
  omega

theorem over_four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- The chunks, slot by slot. -/
theorem by_slots (Φ : Fin 25 → sProp 𝕄) :
    bigSep Finset.univ Φ = iprop(bigSep (mine 0) Φ ∗ bigSep (mine 1) Φ ∗ bigSep (mine 2) Φ ∗ bigSep (mine 3) Φ) := by
  refine Eq.trans ?_ (over_four fun s : Fin 4 => bigSep (mine s.val) Φ)
  rw [← BI.bigSep_biUnion_eq Finset.univ (fun s : Fin 4 => mine s.val) Φ]
  · congr 1
    ext k
    simp only [Finset.mem_univ, Finset.mem_biUnion, true_and, true_iff]
    exact ⟨⟨k.val % 4, Nat.mod_lt _ (by decide)⟩, mem_mine.mpr rfl⟩
  · intro s _ s' _ hne
    exact Finset.disjoint_left.mpr fun k h h' => hne (Fin.ext ((mem_mine.mp h).symm.trans (mem_mine.mp h')))

/-- The share of the input that a slot reads at. -/
def share (s : Fin 4) : PosShare TreeShare := Transfers.dealOf fullShare Finset.univ s

theorem input_dealt (X : Buf (Elt F) (xM.view.loc (th d))) :
    (xM.view.loc (th d) ↦{fullShare} X : sProp 𝕄)
      = iprop((xM.view.loc (th d) ↦{share 0} X) ∗ (xM.view.loc (th d) ↦{share 1} X) ∗ (xM.view.loc (th d) ↦{share 2} X) ∗ (xM.view.loc (th d) ↦{share 3} X)) := by
  rw [← over_four fun s => iprop(xM.view.loc (th d) ↦{share s} X)]
  exact Transfers.pointsTo_deal (Finset.univ : Finset (Fin 4)) Finset.univ_nonempty fullShare

theorem chunk_set (off : Fin 2 → Nat) (h : ∀ a, off a + S4000x512.size a ≤ S100000x512.size a) :
    (chunk oM off h).view.set = (Rect.unit (s := S100000x512) off S4000x512.size h).set := by
  show ((View.whole (main_v6 : Ref sig .tc)).slice _).set = _
  rw [View.set_slice]; exact Finset.map_refl

theorem output_cut (f : Buf (Elt F) (oM.view.loc (th d))) :
    (oM.view.loc (th d) ↦{fullShare} f : sProp 𝕄)
      = bigSep Finset.univ fun k : Fin 25 => outAt (d := d) (o := oM) ![4000 * k.val, 0] (chunk_inb k.val k.isLt) f := by
  have off1 : ∀ (k : Fin 25) (a : Fin S100000x512.rank), a ≠ 0 → (![4000 * k.val, 0] : Fin 2 → Nat) a = 0 := by
    intro k a ha
    match a with
    | 0 => exact absurd rfl ha
    | 1 => rfl
  have size1 : ∀ a : Fin S100000x512.rank, a ≠ 0 → S4000x512.size a = S100000x512.size a := by
    intro a ha
    match a with
    | 0 => exact absurd rfl ha
    | 1 => rfl
  rw [Ring.pointsTo_blocks (ℓ := oM.view.loc (th d))
    (fun k : Fin 25 => (Rect.unit (s := S100000x512) ![4000 * k.val, 0] S4000x512.size (chunk_inb k.val k.isLt)).set)
    (Ring.lead_disjoint (s := S100000x512) 0 4000 (fun k : Fin 25 => ![4000 * k.val, 0]) S4000x512.size (fun k => chunk_inb k.val k.isLt) (fun _ => rfl) rfl)
    (Ring.lead_cover (s := S100000x512) 0 4000 (fun k : Fin 25 => ![4000 * k.val, 0]) S4000x512.size (fun k => chunk_inb k.val k.isLt) (fun _ => rfl) off1 rfl size1 rfl) f]
  exact bigSep_congr fun k _ => by rw [← chunk_set]

theorem output_start (G f : Buf (Elt F) (oM.view.loc (th d))) :
    (oM.view.loc (th d) ↦{fullShare} f) ⊢ (iprop(bigSep (mine 0) (cell (o := oM) G 0) ∗ bigSep (mine 1) (cell (o := oM) G 0)
      ∗ bigSep (mine 2) (cell (o := oM) G 0) ∗ bigSep (mine 3) (cell (o := oM) G 0)) : sProp 𝕄) := by
  rw [← by_slots, output_cut]
  refine BI.bigSep_mono fun k _ => ?_
  unfold cell
  rw [if_neg (Nat.not_lt_zero _)]
  show _ ⊢ (_ : sProp 𝕄)
  iintro H
  iexists f
  iexact H

theorem output_end (G : Buf (Elt F) (oM.view.loc (th d))) :
    iprop(bigSep (mine 0) (cell (o := oM) G 7) ∗ bigSep (mine 1) (cell (o := oM) G 7)
      ∗ bigSep (mine 2) (cell (o := oM) G 7) ∗ bigSep (mine 3) (cell (o := oM) G 7)) = (oM.view.loc (th d) ↦{fullShare} G : sProp 𝕄) := by
  rw [← by_slots, output_cut]
  refine bigSep_congr fun k _ => ?_
  have hk := k.isLt
  exact if_pos (by omega)

/-- A buffer of the core, whole. -/
theorem held_whole (b : Ref sig .tc) :
    (iprop(∃ g, held (F := F) d (Memref.whole b) g) : sProp 𝕄) = iprop(∃ f : Buf (Elt F) ((th d).loc b), (th d).loc b ↦{fullShare} f) := by
  refine Entails.antisymm ?_ ?_
  · show _ ⊢ (_ : sProp 𝕄)
    unfold held
    iintro ⟨%g, %f, -, H⟩
    iexists f
    rw [show (Memref.whole b).view.set = Finset.univ from View.set_whole b]
    iexact H
  · show _ ⊢ (_ : sProp 𝕄)
    iintro ⟨%f, H⟩
    iexists (Memref.whole b).view.read (Elt F) f
    iapply (held_intro (m := Memref.whole b) f)
    rw [show (Memref.whole b).view.set = Finset.univ from View.set_whole b]
    iexact H

end Deal

/-! ## The launch -/

section Launch

variable [FloatOps F] (m : (ℓ : Loc nD τ sig) → Buf (Elt F) ℓ) (ρ : Dev nD → PrngReg)

abbrev EP : Emb (UR sig nD τ) (MT nD τ sig Unit (Elt F) ℕ UU ℕ) := embL

/-- The buffers where the call is reached. -/
abbrev V (c : Dev nD) (b : Ref sig .tc) : Buf (Elt F) ((c : Thread nD τ).loc b) := StableHlo.after hostOps0 (fun b => m (c, b)) b

abbrev xOf (c : Dev nD) : FVec F S100000x512 .f32 := m ((c : Thread nD τ).loc main_arg0)
abbrev μOf (c : Dev nD) : FVec F S1x512 .f32 := m ((c : Thread nD τ).loc main_arg1)
abbrev sOf (c : Dev nD) : FVec F S1x512 .f32 := m ((c : Thread nD τ).loc main_arg2)

theorem V_arg0 (c : Dev nD) : V m c main_arg0 = xOf m c := by
  simp only [V, StableHlo.after_cons, StableHlo.after_nil]; rfl
theorem V_arg1 (c : Dev nD) : V m c main_arg1 = μOf m c := by
  simp only [V, StableHlo.after_cons, StableHlo.after_nil]; rfl
theorem V_arg2 (c : Dev nD) : V m c main_arg2 = sOf m c := by
  simp only [V, StableHlo.after_cons, StableHlo.after_nil]; rfl
theorem V_v3 (c : Dev nD) : V m c main_v3 = scaleRow (sOf m c) := by
  simp only [V, StableHlo.after_cons, StableHlo.after_nil]; rfl
theorem V_v5 (c : Dev nD) : V m c main_v5 = shiftRow (μOf m c) (sOf m c) := by
  simp only [V, StableHlo.after_cons, StableHlo.after_nil]; rfl

/-- The result. -/
abbrev res (c : Dev nD) : FVec F S100000x512 .f32 := outOf (xOf m c) (μOf m c) (sOf m c)

/-- The ring's state and the two rows, on the program's own buffers and cells. -/
def core (c : Dev nD) (t : Nat) : sProp 𝕄 :=
  iprop(rest (d := c) (arg0 := xM) (arg3 := oM) (xOf m c) (res m c) share (Memref.whole cc0_scratch0) (Memref.whole cc0_scratch1) (Memref.whole cc0_scratch2)
      (Memref.whole cc0_scratch3) (Memref.whole cc0_scratch4) (Memref.whole cc0_scratch5)
      cc0_scratch6 cc0_scratch7 cc0_scratch8 cc0_scratch9 cc0_scratch10 cc0_scratch11 cc0_scratch12 cc0_scratch13 t
    ∗ (aM.view.loc (th c) ↦[aM.view.set]{fullShare} scaleRow (sOf m c)) ∗ (bM.view.loc (th c) ↦[bM.view.set]{fullShare} shiftRow (μOf m c) (sOf m c)))

/-- The pipeline's proof data: no windows, the ring before and after the one point. -/
def dats (_ : Fin 1) (c : Dev nD) : Pipeline.Dat τ (Elt F) Unit ℕ UU ℕ cfg0 c where
  A w := w.elim0
  after w _ := w.elim0
  Φ t := core m c (7 * t.val)
  q w := w.elim0
  owed _ := 0

/-- The cells of the body's own copies. -/
abbrev osem : Fin 8 → SemLoc sig :=
  ![.dma cc0_scratch6.sem, .dma cc0_scratch7.sem, .dma cc0_scratch8.sem, .dma cc0_scratch9.sem,
    .dma cc0_scratch10.sem, .dma cc0_scratch11.sem, .dma cc0_scratch12.sem, .dma cc0_scratch13.sem]

theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(quiet c cc0_scratch6.sem ∗ quiet c cc0_scratch7.sem ∗ quiet c cc0_scratch8.sem ∗ quiet c cc0_scratch9.sem
      ∗ quiet c cc0_scratch10.sem ∗ quiet c cc0_scratch11.sem ∗ quiet c cc0_scratch12.sem ∗ quiet c cc0_scratch13.sem) :=
  Pipeline.ownSems0_eq_of_list c osem [0, 1, 2, 3, 4, 5, 6, 7] (by decide) (by decide)

theorem defs_tc : (defs₀ (F := F)) .tc cfg0.body = fun a => bodyAt0 a.1 := rfl
theorem prog_eq (t : Fin cfg0.N) : (defs₀ (F := F)) .tc cfg0.body (cfg0.bodyArgs t (cfg0.slots t)) = bodyAt0 t :=
  (congrFun defs_tc _).trans rfl

/-- The call's body takes the ring from nothing written to everything written. -/
theorem core_wp (c : Dev nD) (t : Fin cfg0.N) :
    iprop(core m c 0 ∗ debt c) ⊢ twp c (bodyAt0 (F := F) t) (fun _ => iprop(core m c 7 ∗ debt c)) := by
  unfold bodyAt0 core
  rw [cc0_body_eq_skeleton]
  refine (show _ ⊢ _ from ?_).trans (tmono (body_wp (d := c) (arg0 := xM) (arg3 := oM) (arg1 := aM) (arg2 := bM) (xOf m c) (res m c) (scaleRow (sOf m c)) (shiftRow (μOf m c) (sOf m c)) share
    (A := scaleRow (sOf m c)) (B := shiftRow (μOf m c) (sOf m c)) rfl rfl rfl (shifted_scaled (d := c) (xOf m c) _ _)) fun _ => ?_)
  · iintro ⟨⟨HR, HA, HB⟩, Hd⟩
    iframe
  · iintro ⟨HR, Hd, HA, HB⟩
    iframe

set_option backward.isDefEq.respectTransparency.types false in
theorem body_obligation (c : Dev nD) : Pipeline.BodyObligationLoose (dats m 0 c) (defs₀ (F := F)) 𝒱₀ () Set.univ := fun t => by
  obtain rfl : t = t0_0 := fin_N0 t
  rw [show (Finset.univ : Finset (Fin cfg0.W)) = ∅ from rfl, BI.bigSep_empty, BI.bigSep_empty]
  rw [show (dats m 0 c).Φ t0_0.castSucc = core m c 0 from rfl, show (dats m 0 c).Φ t0_0.succ = core m c 7 from rfl]
  unfold Pipeline.Dat.owesAt Pipeline.owesWithin
  rw [show (dats m 0 c).owed t0_0.castSucc = 0 from rfl, show (dats m 0 c).owed t0_0.succ = 0 from rfl]
  sl_rw [prog_eq t0_0]
  refine (show _ ⊢ iprop(core m c 0 ∗ debt c) from ?_).trans (tmono (core_wp m c t0_0) fun _ => ?_)
  · unfold debt
    iintro ⟨Hc, ⟨%W, -, HW⟩, -⟩
    isplitl [Hc]; · iexact Hc
    iexists W
    iexact HW
  · unfold debt
    iintro ⟨Hc, ⟨%W, HW⟩⟩
    isplitl [Hc]; · iexact Hc
    isplitl [HW]
    · iexists W
      isplitr; · ipureintro; exact fun _ _ => Or.inl trivial
      iexact HW
    iempintro

/-- What the region is entered with, and what it leaves. -/
def into (c : Dev nD) : sProp 𝕄 :=
  iprop((xM.view.loc (th c) ↦{fullShare} xOf m c) ∗ (aM.view.loc (th c) ↦{fullShare} scaleRow (sOf m c)) ∗ (bM.view.loc (th c) ↦{fullShare} shiftRow (μOf m c) (sOf m c))
    ∗ (oM.view.loc (th c) ↦{fullShare} V m c main_v6) ∗ Pipeline.ownSems0 osem c)
def outof (c : Dev nD) : sProp 𝕄 :=
  iprop((xM.view.loc (th c) ↦{fullShare} xOf m c) ∗ (oM.view.loc (th c) ↦{fullShare} res m c))
def aside (c : Dev nD) : sProp 𝕄 :=
  iprop(((th c).loc main_arg1 ↦{fullShare} μOf m c) ∗ ((th c).loc main_arg2 ↦{fullShare} sOf m c))

theorem enter (c : Dev nD) : iprop(into m c ∗ Pipeline.scopedRest (cfg0.spec) c) ⊢ (core m c 0 : sProp 𝕄) := by
  unfold into core rest idle
  rw [ownSems0_eq, scopedRest0_eq, input_dealt (d := c)]
  iintro ⟨⟨⟨X0, X1, X2, X3⟩, HA, HB, HO, ⟨S0, S1, S2, S3, S4, S5, S6, S7⟩⟩, ⟨B0, B1, B2, B3, B4, B5⟩⟩
  ihave HO' := (output_start (d := c) (res m c) _) $$ HO
  icases HO' with ⟨O0, O1, O2, O3⟩
  ihave B0 := (Entails.of_eq (held_whole (F := F) (d := c) cc0_scratch0).symm) $$ B0
  ihave B1 := (Entails.of_eq (held_whole (F := F) (d := c) cc0_scratch1).symm) $$ B1
  ihave B2 := (Entails.of_eq (held_whole (F := F) (d := c) cc0_scratch2).symm) $$ B2
  ihave B3 := (Entails.of_eq (held_whole (F := F) (d := c) cc0_scratch3).symm) $$ B3
  ihave B4 := (Entails.of_eq (held_whole (F := F) (d := c) cc0_scratch4).symm) $$ B4
  ihave B5 := (Entails.of_eq (held_whole (F := F) (d := c) cc0_scratch5).symm) $$ B5
  rw [show aM.view.set = Finset.univ from View.set_whole _, show bM.view.set = Finset.univ from View.set_whole _]
  isplitr [HA HB]
  rotate_left
  · isplitl [HA] <;> iassumption
  isplitl [B4 B5]; · isplitl [B4] <;> iassumption
  isplitl [S0 S4 B0 X0 O0]; · iframe
  isplitl [S1 S5 B1 X1 O1]; · iframe
  isplitl [S2 S6 B2 X2 O2]; · iframe
  iframe

theorem leave (c : Dev nD) : (core m c 7 : sProp 𝕄) ⊢ iprop(outof m c ∗ Pipeline.ownSems0 osem c ∗ Pipeline.scopedRest (cfg0.spec) c) := by
  unfold outof core rest idle
  rw [ownSems0_eq, scopedRest0_eq, input_dealt (d := c), ← output_end (d := c) (res m c)]
  iintro ⟨⟨⟨B4, B5⟩, ⟨S0, S4, B0, X0, O0⟩, ⟨S1, S5, B1, X1, O1⟩, ⟨S2, S6, B2, X2, O2⟩, ⟨S3, S7, B3, X3, O3⟩⟩, -⟩
  ihave B0 := (Entails.of_eq (held_whole (F := F) (d := c) cc0_scratch0)) $$ B0
  ihave B1 := (Entails.of_eq (held_whole (F := F) (d := c) cc0_scratch1)) $$ B1
  ihave B2 := (Entails.of_eq (held_whole (F := F) (d := c) cc0_scratch2)) $$ B2
  ihave B3 := (Entails.of_eq (held_whole (F := F) (d := c) cc0_scratch3)) $$ B3
  ihave B4 := (Entails.of_eq (held_whole (F := F) (d := c) cc0_scratch4)) $$ B4
  ihave B5 := (Entails.of_eq (held_whole (F := F) (d := c) cc0_scratch5)) $$ B5
  isplitl [X0 X1 X2 X3 O0 O1 O2 O3]
  · isplitl [X0 X1 X2 X3]; · iframe
    iframe
  isplitl [S0 S1 S2 S3 S4 S5 S6 S7]; · iframe
  iframe

def u₀ : UU := (initOf (Pipeline.cells cfgs cellOf_inj) (Pipeline.launchToks cfgs cellOf_inj), 1)

/-- What the run ends with, on each device. -/
def QY (c : Dev nD) (s : MemSt nD τ sig (Elt F)) : Prop :=
  s.mem ((c : Thread nD τ).loc main_v6) = res m c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)

theorem hostOps0_fresh : (hostOps0 : List (HloOp τ sig (Elt F))).Forall fun op => op.fresh = ∅ :=
  ⟨rfl, rfl, rfl, rfl, rfl, rfl, rfl, rfl⟩

set_option backward.isDefEq.respectTransparency.types false in
theorem run_main : θ_run defs (onTc (τ := τ) (main (F := F))) ⟨m, fun _ => 0, ρ⟩ (fun r => (∀ c, QY m c r.2) ∧ r.2.sem = fun _ => 0) :=
  Pipeline.θ_run_region_kit_quiescent cfgs (dats m) () (0 : Fin 1) launch0 ownSemFacts EP defs₀ 𝒱₀ m ρ main
    (hbody := body_obligation m) (hshare := fun _ w => w.elim0) (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs (0 : Fin 1) defs₀ 𝒱₀ m main hostOps0 hostOps0_sub hostOps0_fresh main_chain)
    (hA := fun _ w => w.elim0)
    (X := into m) (Y := outof m) (Z := aside m)
    (hX := fun c => by
      rw [unscopedRest0_eq, V_arg0, V_arg1, V_arg2, V_v3, V_v5]
      unfold into aside
      iintro ⟨⟨H0, H1, H2, -, -, -, -, -, H3, -, H5, H6⟩, HS, -, -, -⟩
      imodintro
      isplitl [H0 H3 H5 H6 HS]
      · isplitl [H0]; · iexact H0
        isplitl [H3]; · iexact H3
        isplitl [H5]; · iexact H5
        isplitl [H6]; · iexact H6
        iexact HS
      isplitl [H1]; · iexact H1
      iexact H2)
    (hin := fun c => enter m c)
    (hout := fun c => leave m c)
    (QY := QY m)
    (hY := fun c s' => by
      unfold outof aside
      iintro ⟨⟨H0, H6⟩, ⟨H1, H2⟩, HSI⟩
      icombine HSI H0 gives %h0
      icombine HSI H1 gives %h1
      icombine HSI H2 gives %h2
      icombine HSI H6 gives %h6
      imodintro
      isplitr
      · ipureintro
        exact ⟨Buf.eq_of_forall_mem_univ h6, Buf.eq_of_forall_mem_univ h0, Buf.eq_of_forall_mem_univ h1, Buf.eq_of_forall_mem_univ h2⟩
      iexact HSI)
    (hQ := fun _ hh hz => ⟨fun c => (hh c).2, hz⟩)

end Launch

end Cert.ManualIdeal.Turns

end
-- ==== Proof.Equation.lean ====
/- The precondition read at a column, and each call's array equal to the reference's quotient under it. -/
module

public import proofs.«01_k».proof.Pre_std_nonzero_mean_finite
public import proofs.«01_k».proof.Proof.Algebra
public import proofs.«01_k».proof.Proof.Reference
public import proofs.«01_k».proof.Proof.Ideal.Host
public import proofs.«01_k».proof.Proof.Ideal.Normalize
public import proofs.«01_k».proof.Proof.Ideal.Chunks

@[expose] public section

noncomputable section

namespace Cert.Equation

open Idealize.ShloMosaic
open Cert.KernelIdeal (S1x512 S512 S100000x512)
open Cert.KernelIdeal.Tile (at512 affine scaled scaleRow shiftRow flat outOf)

/-- The place of column `k` in a row. -/
def inRow (k : Fin 512) : S1x512.Idx := fun
  | 0 => (0 : Fin 1)
  | 1 => k

/-- The flat array at a column is the row there. -/
theorem flat_at (v : FVec Ideal S1x512 .f32) (k : Fin 512) : flat v (at512 k) = v (inRow k) := by
  refine congrArg v (Shape.reshapeEquiv_eq_of_rowMajor (s := S1x512) (s' := S512) _ ?_)
  rw [Shape.rowMajor_val_two, Shape.rowMajor_val_one]
  show 0 * 512 + k.val = k.val
  omega

/-- A row spread over all rows, at an index. -/
theorem spread_at (h) (v : FVec Ideal S1x512 .f32) (j : S100000x512.Idx) :
    broadcastInDim S100000x512 ![0, 1] h v j = v (inRow (j 1)) := by
  refine congrArg v (funext fun a => ?_)
  match a with
  | 0 => rfl
  | 1 => rfl

/-- The condition on the arguments: no standard deviation is zero and each mean is a real. -/
theorem of_pre [Cert.Pre_std_nonzero_mean_finite.Facts] (x : FVec Ideal S100000x512 .f32) (μ s : FVec Ideal S1x512 .f32)
    (h : Cert.Pre_std_nonzero_mean_finite.fn (F := Ideal) x μ s = fun _ => 1#1) (i : S1x512.Idx) :
    s i ≠ (0 : EReal) ∧ μ i ≠ (⊤ : EReal) ∧ μ i ≠ (⊥ : EReal) := by
  have both : ∀ p q : BitVec 1, IntOp.andi p q = 1#1 → p = 1#1 ∧ q = 1#1 := by decide
  have of_bool : ∀ p : Bool, BitVec.ofBool p = 1#1 → p = true := by decide
  have e := congrFun h (Shape.Idx.first Cert.Pre_std_nonzero_mean_finite.Facts.h_S_)
  obtain ⟨e1, e2⟩ := both _ _ e
  have n := reduce_andi _ _ _ _ rfl _ e1 i
  have t := reduce_andi _ _ _ _ rfl _ e2 i
  replace n : s i ≠ Ideal.ofBits .f32 0x00000000#32 := of_decide_eq_true (of_bool _ n)
  replace t : max (μ i : EReal) (-(μ i : EReal)) < Ideal.ofBits .f32 0x7F800000#32 := of_decide_eq_true (of_bool _ t)
  rw [zero_eq] at n
  rw [top_eq, max_lt_iff] at t
  refine ⟨n, t.1.ne, fun hb => ?_⟩
  have := t.2
  rw [hb] at this
  simp at this

/-- The program's result is the reference's, of the same arguments. -/
theorem out_eq_ref [Cert.Pre_std_nonzero_mean_finite.Facts] (x : FVec Ideal S100000x512 .f32) (μ s : FVec Ideal S1x512 .f32)
    (h : Cert.Pre_std_nonzero_mean_finite.fn (F := Ideal) x μ s = fun _ => 1#1) : outOf x μ s = Ref.quotient x μ s := by
  funext j
  obtain ⟨hs, hμ, hμ'⟩ := of_pre x μ s h (inRow (j 1))
  have lhs : outOf x μ s j = FloatOps.addf (FloatOps.mulf (x j) (scaleRow s (inRow (j 1)))) (shiftRow μ s (inRow (j 1))) := by
    exact congr (congrArg (fun a b => FloatOps.addf (FloatOps.mulf (x j) a) b) (flat_at (scaleRow s) (j 1))) (flat_at (shiftRow μ s) (j 1))
  have rhs : Ref.quotient x μ s j = Ideal.div ((x j : EReal) - μ (inRow (j 1))) ((s (inRow (j 1)) : EReal) * Ideal.ofBits .f32 0x41B504F3#32) := by
    exact congr (congrArg (fun a b => Ideal.div ((x j : EReal) - a) b) (spread_at _ μ j)) (spread_at _ _ j)
  rw [lhs, rhs, ← scale_shift _ _ _ (mul_root_ne _ hs) hμ hμ', ← one_eq]
  rfl

/-- The TensorCore call's result is the reference's, of the same arguments. -/
theorem normed_eq_ref [Cert.Pre_std_nonzero_mean_finite.Facts] (x : FVec Ideal S100000x512 .f32) (μ s : FVec Ideal S1x512 .f32)
    (h : Cert.Pre_std_nonzero_mean_finite.fn (F := Ideal) x μ s = fun _ => 1#1) :
    Cert.BlocksIdeal.Normal.normed (F := Ideal) x μ s = Ref.quotient x μ s := by
  funext j
  obtain ⟨hs, hμ, hμ'⟩ := of_pre x μ s h (inRow (j 1))
  have lhs : Cert.BlocksIdeal.Normal.normed (F := Ideal) x μ s j
      = (x j : EReal) * Ideal.div (Ideal.ofBits .f32 0x3F800000#32) ((s (inRow (j 1)) : EReal) * Ideal.ofBits .f32 0x41B504F3#32)
        - (μ (inRow (j 1)) : EReal) * Ideal.div (Ideal.ofBits .f32 0x3F800000#32) ((s (inRow (j 1)) : EReal) * Ideal.ofBits .f32 0x41B504F3#32) := rfl
  have rhs : Ref.quotient x μ s j = Ideal.div ((x j : EReal) - μ (inRow (j 1))) ((s (inRow (j 1)) : EReal) * Ideal.ofBits .f32 0x41B504F3#32) := by
    exact congr (congrArg (fun a b => Ideal.div ((x j : EReal) - a) b) (spread_at _ μ j)) (spread_at _ _ j)
  rw [lhs, rhs, one_eq, ← scale_shift _ _ _ (mul_root_ne _ hs) hμ hμ', sub_eq_add_neg, EReal.neg_mul]

/-- The third call's result is the reference's, of the same arguments. -/
theorem manual_eq_ref [Cert.Pre_std_nonzero_mean_finite.Facts] (x : FVec Ideal S100000x512 .f32) (μ s : FVec Ideal S1x512 .f32)
    (h : Cert.Pre_std_nonzero_mean_finite.fn (F := Ideal) x μ s = fun _ => 1#1) :
    Cert.ManualIdeal.Turns.outOf (F := Ideal) x μ s = Ref.quotient x μ s := by
  funext j
  obtain ⟨hs, hμ, hμ'⟩ := of_pre x μ s h (inRow (j 1))
  have lhs : Cert.ManualIdeal.Turns.outOf (F := Ideal) x μ s j
      = FloatOps.addf (FloatOps.mulf (x j) (scaleRow s (inRow (j 1)))) (shiftRow μ s (inRow (j 1))) := rfl
  have rhs : Ref.quotient x μ s j = Ideal.div ((x j : EReal) - μ (inRow (j 1))) ((s (inRow (j 1)) : EReal) * Ideal.ofBits .f32 0x41B504F3#32) := by
    exact congr (congrArg (fun a b => Ideal.div ((x j : EReal) - a) b) (spread_at _ μ j)) (spread_at _ _ j)
  rw [lhs, rhs, ← scale_shift _ _ _ (mul_root_ne _ hs) hμ hμ', ← one_eq]
  rfl

end Cert.Equation

end
-- ==== Proof.lean ====
module

public import proofs.«01_k».proof.Defs
public import proofs.«01_k».proof.Proof.Host
public import proofs.«01_k».proof.Proof.Normalize
public import proofs.«01_k».proof.Proof.Chunks
public import proofs.«01_k».proof.Proof.Equation

@[expose] public section

noncomputable section

namespace Cert.Proof

open Idealize.ShloMosaic Idealize.SL.Sem

/-- The side conditions of the precondition's operations. -/
instance preFacts : Cert.Pre_std_nonzero_mean_finite.Facts where
  bcast_S_S1x512 := by decide
  reducesTo_S1x512_S_d0_1 := by decide
  h_S_ := by decide

theorem frame_kernel : Cert.quiescent_Kernel := fun m ρ _ =>
  (θ_run Cert.Kernel.defs _ _).mono (fun _ h => ⟨fun c => (h.1 c).2, h.2⟩) (Cert.Kernel.Tile.run_main (F := Bits) m ρ)

/-- The idealized kernel's run, as its frame claims state it, from any memory. -/
theorem frame_ideal : Cert.quiescent_KernelIdeal := fun m ρ _ =>
  (θ_run Cert.KernelIdeal.defs _ _).mono (fun _ h => ⟨fun c => (h.1 c).2, h.2⟩) (Cert.KernelIdeal.Tile.run_main (F := Ideal) m ρ)

theorem frame_reference : Cert.quiescent_ReferenceIdeal := fun m ρ _ =>
  (θ_run Cert.ReferenceIdeal.defs _ _).mono (fun _ h => ⟨fun c => (h.1 c).2, h.2⟩) (Cert.Ref.run_main (F := Ideal) m ρ)

/-- The shared value is the kernel's result, the scaled array; the reference's quotient of the same arguments is equal
    to it by `Cert.Equation.out_eq_ref`. -/
theorem algebraic : Cert.algebraic_KernelIdeal_ReferenceIdeal_pre_std_nonzero_mean_finite := by
  intro m ρ m' ρ' hpre agree
  refine ⟨fun c => Cert.KernelIdeal.Tile.outOf (F := Ideal) (m (Cert.KernelIdeal.Tile.xLoc c)) (m (Cert.KernelIdeal.Tile.mLoc c)) (m (Cert.KernelIdeal.Tile.sLoc c)), ?_, ?_⟩
  · exact (θ_run Cert.KernelIdeal.defs _ _).mono (fun _ h => h.1) (Cert.KernelIdeal.Tile.run_main (F := Ideal) m ρ)
  refine (θ_run Cert.ReferenceIdeal.defs _ _).mono (fun _ h c => ⟨(h.1 c).1.trans ?_, (h.1 c).2⟩) (Cert.Ref.run_main (F := Ideal) m' ρ')
  obtain ⟨hx, hm, hs⟩ := agree c
  exact (congr (congr (congrArg Cert.Ref.quotient hx) hm) hs).trans (Cert.Equation.out_eq_ref _ _ _ (hpre c)).symm

/-- The same of the TensorCore call. -/
theorem frame_blocks : Cert.quiescent_Blocks := fun m ρ _ =>
  (θ_run Cert.Blocks.defs _ _).mono (fun _ h => ⟨fun c => (h.1 c).2, h.2⟩) (Cert.Blocks.Normal.run_main (F := Bits) m ρ)

theorem frame_blocks_ideal : Cert.quiescent_BlocksIdeal := fun m ρ _ =>
  (θ_run Cert.BlocksIdeal.defs _ _).mono (fun _ h => ⟨fun c => (h.1 c).2, h.2⟩) (Cert.BlocksIdeal.Normal.run_main (F := Ideal) m ρ)

theorem algebraic_blocks : Cert.algebraic_BlocksIdeal_ReferenceIdeal_pre_std_nonzero_mean_finite := by
  intro m ρ m' ρ' hpre agree
  refine ⟨fun c => Cert.BlocksIdeal.Normal.normed (F := Ideal) (Cert.BlocksIdeal.Normal.xOf m c) (Cert.BlocksIdeal.Normal.μOf m c) (Cert.BlocksIdeal.Normal.sOf m c), ?_, ?_⟩
  · exact (θ_run Cert.BlocksIdeal.defs _ _).mono (fun _ h => h.1) (Cert.BlocksIdeal.Normal.run_main (F := Ideal) m ρ)
  refine (θ_run Cert.ReferenceIdeal.defs _ _).mono (fun _ h c => ⟨(h.1 c).1.trans ?_, (h.1 c).2⟩) (Cert.Ref.run_main (F := Ideal) m' ρ')
  obtain ⟨hx, hm, hs⟩ := agree c
  exact (congr (congr (congrArg Cert.Ref.quotient hx) hm) hs).trans (Cert.Equation.normed_eq_ref _ _ _ (hpre c)).symm

/-- The same of the call that copies for itself. -/
theorem frame_manual : Cert.quiescent_Manual := fun m ρ _ =>
  (θ_run Cert.Manual.defs _ _).mono (fun _ h => ⟨fun c => (h.1 c).2, h.2⟩) (Cert.Manual.Turns.run_main (F := Bits) m ρ)

theorem frame_manual_ideal : Cert.quiescent_ManualIdeal := fun m ρ _ =>
  (θ_run Cert.ManualIdeal.defs _ _).mono (fun _ h => ⟨fun c => (h.1 c).2, h.2⟩) (Cert.ManualIdeal.Turns.run_main (F := Ideal) m ρ)

theorem algebraic_manual : Cert.algebraic_ManualIdeal_ReferenceIdeal_pre_std_nonzero_mean_finite := by
  intro m ρ m' ρ' hpre agree
  refine ⟨fun c => Cert.ManualIdeal.Turns.res (F := Ideal) m c, ?_, ?_⟩
  · exact (θ_run Cert.ManualIdeal.defs _ _).mono (fun _ h => h.1) (Cert.ManualIdeal.Turns.run_main (F := Ideal) m ρ)
  refine (θ_run Cert.ReferenceIdeal.defs _ _).mono (fun _ h c => ⟨(h.1 c).1.trans ?_, (h.1 c).2⟩) (Cert.Ref.run_main (F := Ideal) m' ρ')
  obtain ⟨hx, hm, hs⟩ := agree c
  exact (congr (congr (congrArg Cert.Ref.quotient hx) hm) hs).trans (Cert.Equation.manual_eq_ref _ _ _ (hpre c)).symm

/-- `Cert.Claim` (Defs.lean). -/
theorem claim : Cert.Claim :=
  ⟨Cert.Kernel.Gen.facts, Cert.KernelIdeal.Gen.facts, Cert.ReferenceIdeal.Gen.facts, Cert.Manual.Gen.facts, Cert.ManualIdeal.Gen.facts,
    Cert.Blocks.Gen.facts, Cert.BlocksIdeal.Gen.facts, preFacts,
    frame_kernel, frame_ideal, fun m ρ _ => frame_ideal m ρ trivial, frame_reference, fun m ρ _ => frame_reference m ρ trivial,
    frame_manual, frame_manual_ideal, fun m ρ _ => frame_manual_ideal m ρ trivial,
    frame_blocks, frame_blocks_ideal, fun m ρ _ => frame_blocks_ideal m ρ trivial,
    trivial, algebraic, trivial, algebraic_manual, trivial, algebraic_blocks⟩

end Cert.Proof

end
